-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ctx [hPre_finite_ctx : Cert.Pre_finite_ctx.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ctx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ctx [hPre_finite_ctx : Cert.Pre_finite_ctx.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ctx.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn [hPre_planned : Cert.Pre_planned.Facts] (m : (ℓ : Loc Cert.Ffn.nD Cert.Ffn.τ Cert.Ffn.sig) → Buf (Elt Bits) ℓ) : Prop :=
  ∀ c : Dev Cert.Ffn.nD,
    (Cert.Pre_planned.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5)) (m ((c.tc : Thread Cert.Ffn.nD Cert.Ffn.τ).loc Cert.Ffn.main_arg6))) = (fun _ => 1#1)

def Pre_FfnIdeal [hPre_planned : Cert.Pre_planned.Facts] (m : (ℓ : Loc Cert.FfnIdeal.nD Cert.FfnIdeal.τ Cert.FfnIdeal.sig) → Buf (Elt Ideal) ℓ) : Prop :=
  ∀ c : Dev Cert.FfnIdeal.nD,
    (Cert.Pre_planned.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_planned [hPre_planned : Cert.Pre_planned.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_planned.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjReferenceIdeal (m : (ℓ : Loc Cert.KvProjReferenceIdeal.nD Cert.KvProjReferenceIdeal.τ Cert.KvProjReferenceIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjReferenceIdeal (m : (ℓ : Loc Cert.QProjReferenceIdeal.nD Cert.QProjReferenceIdeal.τ Cert.QProjReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_finite_lat [hPre_finite_lat : Cert.Pre_finite_lat.Facts] (m : (ℓ : Loc Cert.LatentIdeal.nD Cert.LatentIdeal.τ Cert.LatentIdeal.sig) → Buf (Elt Ideal) ℓ) : Prop :=
  ∀ c : Dev Cert.LatentIdeal.nD,
    (Cert.Pre_finite_lat.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2)) (m ((c.tc : Thread Cert.LatentIdeal.nD Cert.LatentIdeal.τ).loc Cert.LatentIdeal.main_arg3)) (m ((c.tc : Thread Cert.LatentIdeal.nD Cert.LatentIdeal.τ).loc Cert.LatentIdeal.main_arg4)) (m ((c.tc : Thread Cert.LatentIdeal.nD Cert.LatentIdeal.τ).loc Cert.LatentIdeal.main_arg5))) = (fun _ => 1#1)

def Pre_LatentReferenceIdeal (m : (ℓ : Loc Cert.LatentReferenceIdeal.nD Cert.LatentReferenceIdeal.τ Cert.LatentReferenceIdeal.sig) → Buf (Elt Ideal) ℓ) : Prop :=
  True

def Pre_LatentReferenceIdeal_finite_lat [hPre_finite_lat : Cert.Pre_finite_lat.Facts] (m : (ℓ : Loc Cert.LatentReferenceIdeal.nD Cert.LatentReferenceIdeal.τ Cert.LatentReferenceIdeal.sig) → Buf (Elt Ideal) ℓ) : Prop :=
  ∀ c : Dev Cert.LatentReferenceIdeal.nD,
    (Cert.Pre_finite_lat.fn (F := Ideal) (m ((c.tc : Thread Cert.LatentReferenceIdeal.nD Cert.LatentReferenceIdeal.τ).loc Cert.LatentReferenceIdeal.main_arg0)) (m ((c.tc : Thread Cert.LatentReferenceIdeal.nD Cert.LatentReferenceIdeal.τ).loc Cert.LatentReferenceIdeal.main_arg1)) (m ((c.tc : Thread Cert.LatentReferenceIdeal.nD Cert.LatentReferenceIdeal.τ).loc Cert.LatentReferenceIdeal.main_arg2)) (m ((c.tc : Thread Cert.LatentReferenceIdeal.nD Cert.LatentReferenceIdeal.τ).loc Cert.LatentReferenceIdeal.main_arg3)) (m ((c.tc : Thread Cert.LatentReferenceIdeal.nD Cert.LatentReferenceIdeal.τ).loc Cert.LatentReferenceIdeal.main_arg4)) (m ((c.tc : Thread Cert.LatentReferenceIdeal.nD Cert.LatentReferenceIdeal.τ).loc Cert.LatentReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_ctx [hKernelIdeal : Cert.KernelIdeal.Facts] [hPre_finite_ctx : Cert.Pre_finite_ctx.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ctx m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ctx [hReferenceIdeal : Cert.ReferenceIdeal.Facts] [hPre_finite_ctx : Cert.Pre_finite_ctx.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ctx m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] [hPre_planned : Cert.Pre_planned.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] [hPre_planned : Cert.Pre_planned.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_FfnReferenceIdeal_pre_planned [hFfnReferenceIdeal : Cert.FfnReferenceIdeal.Facts] [hPre_planned : Cert.Pre_planned.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_planned m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjReferenceIdeal [hKvProjReferenceIdeal : Cert.KvProjReferenceIdeal.Facts] : Prop :=
  ∀ (m : (ℓ : Loc Cert.KvProjReferenceIdeal.nD Cert.KvProjReferenceIdeal.τ Cert.KvProjReferenceIdeal.sig) → Buf (Elt Ideal) ℓ) (g : Dev Cert.KvProjReferenceIdeal.nD → PrngReg), Pre_KvProjReferenceIdeal m →
    θ_run (Cert.KvProjReferenceIdeal.defs (F := Ideal)) (onTc (τ := Cert.KvProjReferenceIdeal.τ) (Cert.KvProjReferenceIdeal.main (F := Ideal))) ⟨m, fun _ => 0, g⟩ (fun r => (∀ c : Dev Cert.KvProjReferenceIdeal.nD,
      r.2.mem ((c.tc : Thread Cert.KvProjReferenceIdeal.nD Cert.KvProjReferenceIdeal.τ).loc Cert.KvProjReferenceIdeal.main_arg0) = m ((c.tc : Thread Cert.KvProjReferenceIdeal.nD Cert.KvProjReferenceIdeal.τ).loc Cert.KvProjReferenceIdeal.main_arg0)
      ∧ r.2.mem ((c.tc : Thread Cert.KvProjReferenceIdeal.nD Cert.KvProjReferenceIdeal.τ).loc Cert.KvProjReferenceIdeal.main_arg1) = m ((c.tc : Thread Cert.KvProjReferenceIdeal.nD Cert.KvProjReferenceIdeal.τ).loc Cert.KvProjReferenceIdeal.main_arg1)
      ∧ r.2.mem ((c.tc : Thread Cert.KvProjReferenceIdeal.nD Cert.KvProjReferenceIdeal.τ).loc Cert.KvProjReferenceIdeal.main_arg2) = m ((c.tc : Thread Cert.KvProjReferenceIdeal.nD Cert.KvProjReferenceIdeal.τ).loc Cert.KvProjReferenceIdeal.main_arg2))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjReferenceIdeal [hQProjReferenceIdeal : Cert.QProjReferenceIdeal.Facts] : Prop :=
  ∀ (m : (ℓ : Loc Cert.QProjReferenceIdeal.nD Cert.QProjReferenceIdeal.τ Cert.QProjReferenceIdeal.sig) → Buf (Elt Ideal) ℓ) (g : Dev Cert.QProjReferenceIdeal.nD → PrngReg), Pre_QProjReferenceIdeal m →
    θ_run (Cert.QProjReferenceIdeal.defs (F := Ideal)) (onTc (τ := Cert.QProjReferenceIdeal.τ) (Cert.QProjReferenceIdeal.main (F := Ideal))) ⟨m, fun _ => 0, g⟩ (fun r => (∀ c : Dev Cert.QProjReferenceIdeal.nD,
      r.2.mem ((c.tc : Thread Cert.QProjReferenceIdeal.nD Cert.QProjReferenceIdeal.τ).loc Cert.QProjReferenceIdeal.main_arg0) = m ((c.tc : Thread Cert.QProjReferenceIdeal.nD Cert.QProjReferenceIdeal.τ).loc Cert.QProjReferenceIdeal.main_arg0)
      ∧ r.2.mem ((c.tc : Thread Cert.QProjReferenceIdeal.nD Cert.QProjReferenceIdeal.τ).loc Cert.QProjReferenceIdeal.main_arg1) = m ((c.tc : Thread Cert.QProjReferenceIdeal.nD Cert.QProjReferenceIdeal.τ).loc Cert.QProjReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3)
      ∧ r.2.mem ((c.tc : Thread Cert.Latent.nD Cert.Latent.τ).loc Cert.Latent.main_arg4) = m ((c.tc : Thread Cert.Latent.nD Cert.Latent.τ).loc Cert.Latent.main_arg4)
      ∧ r.2.mem ((c.tc : Thread Cert.Latent.nD Cert.Latent.τ).loc Cert.Latent.main_arg5) = m ((c.tc : Thread Cert.Latent.nD Cert.Latent.τ).loc Cert.Latent.main_arg5))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentIdeal_pre_finite_lat [hLatentIdeal : Cert.LatentIdeal.Facts] [hPre_finite_lat : Cert.Pre_finite_lat.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_finite_lat m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
      ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
      ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ r.2.sem = fun _ => 0)

def quiescent_LatentReferenceIdeal [hLatentReferenceIdeal : Cert.LatentReferenceIdeal.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def quiescent_LatentReferenceIdeal_pre_finite_lat [hLatentReferenceIdeal : Cert.LatentReferenceIdeal.Facts] [hPre_finite_lat : Cert.Pre_finite_lat.Facts] : Prop :=
  ∀ (m : (ℓ : Loc Cert.LatentReferenceIdeal.nD Cert.LatentReferenceIdeal.τ Cert.LatentReferenceIdeal.sig) → Buf (Elt Ideal) ℓ) (g : Dev Cert.LatentReferenceIdeal.nD → PrngReg), Pre_LatentReferenceIdeal_finite_lat m →
    θ_run (Cert.LatentReferenceIdeal.defs (F := Ideal)) (onTc (τ := Cert.LatentReferenceIdeal.τ) (Cert.LatentReferenceIdeal.main (F := Ideal))) ⟨m, fun _ => 0, g⟩ (fun r => (∀ c : Dev Cert.LatentReferenceIdeal.nD,
      r.2.mem ((c.tc : Thread Cert.LatentReferenceIdeal.nD Cert.LatentReferenceIdeal.τ).loc Cert.LatentReferenceIdeal.main_arg0) = m ((c.tc : Thread Cert.LatentReferenceIdeal.nD Cert.LatentReferenceIdeal.τ).loc Cert.LatentReferenceIdeal.main_arg0)
      ∧ r.2.mem ((c.tc : Thread Cert.LatentReferenceIdeal.nD Cert.LatentReferenceIdeal.τ).loc Cert.LatentReferenceIdeal.main_arg1) = m ((c.tc : Thread Cert.LatentReferenceIdeal.nD Cert.LatentReferenceIdeal.τ).loc Cert.LatentReferenceIdeal.main_arg1)
      ∧ r.2.mem ((c.tc : Thread Cert.LatentReferenceIdeal.nD Cert.LatentReferenceIdeal.τ).loc Cert.LatentReferenceIdeal.main_arg2) = m ((c.tc : Thread Cert.LatentReferenceIdeal.nD Cert.LatentReferenceIdeal.τ).loc Cert.LatentReferenceIdeal.main_arg2)
      ∧ r.2.mem ((c.tc : Thread Cert.LatentReferenceIdeal.nD Cert.LatentReferenceIdeal.τ).loc Cert.LatentReferenceIdeal.main_arg3) = m ((c.tc : Thread Cert.LatentReferenceIdeal.nD Cert.LatentReferenceIdeal.τ).loc Cert.LatentReferenceIdeal.main_arg3)
      ∧ r.2.mem ((c.tc : Thread Cert.LatentReferenceIdeal.nD Cert.LatentReferenceIdeal.τ).loc Cert.LatentReferenceIdeal.main_arg4) = m ((c.tc : Thread Cert.LatentReferenceIdeal.nD Cert.LatentReferenceIdeal.τ).loc Cert.LatentReferenceIdeal.main_arg4)
      ∧ r.2.mem ((c.tc : Thread Cert.LatentReferenceIdeal.nD Cert.LatentReferenceIdeal.τ).loc Cert.LatentReferenceIdeal.main_arg5) = m ((c.tc : Thread Cert.LatentReferenceIdeal.nD Cert.LatentReferenceIdeal.τ).loc Cert.LatentReferenceIdeal.main_arg5))
      ∧ r.2.sem = fun _ => 0)

def preserves_Kernel_KernelIdeal : Prop :=
  True

def algebraic_KernelIdeal_ReferenceIdeal_pre_finite_ctx [hKernelIdeal : Cert.KernelIdeal.Facts] [hReferenceIdeal : Cert.ReferenceIdeal.Facts] [hPre_finite_ctx : Cert.Pre_finite_ctx.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ctx m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] [hPre_planned : Cert.Pre_planned.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v47) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_KvProj_KvProjIdeal : Prop :=
  True

def algebraic_KvProjIdeal_KvProjReferenceIdeal [hKvProjIdeal : Cert.KvProjIdeal.Facts] [hKvProjReferenceIdeal : Cert.KvProjReferenceIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjReferenceIdeal.nD Cert.KvProjReferenceIdeal.τ Cert.KvProjReferenceIdeal.sig) → Buf (Elt Ideal) ℓ) (g' : Dev Cert.KvProjReferenceIdeal.nD → PrngReg), Pre_KvProjIdeal m →
    (∀ c : Dev Cert.KvProjIdeal.nD,
      m' ((c.tc : Thread Cert.KvProjReferenceIdeal.nD Cert.KvProjReferenceIdeal.τ).loc Cert.KvProjReferenceIdeal.main_arg0) = m ((c.tc : Thread Cert.KvProjIdeal.nD Cert.KvProjIdeal.τ).loc Cert.KvProjIdeal.main_arg0)
      ∧ m' ((c.tc : Thread Cert.KvProjReferenceIdeal.nD Cert.KvProjReferenceIdeal.τ).loc Cert.KvProjReferenceIdeal.main_arg1) = m ((c.tc : Thread Cert.KvProjIdeal.nD Cert.KvProjIdeal.τ).loc Cert.KvProjIdeal.main_arg1)
      ∧ m' ((c.tc : Thread Cert.KvProjReferenceIdeal.nD Cert.KvProjReferenceIdeal.τ).loc Cert.KvProjReferenceIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v7)) (v1 : (c : Dev Cert.KvProjIdeal.nD) → Buf (Elt Ideal) ((c.tc : Thread Cert.KvProjIdeal.nD Cert.KvProjIdeal.τ).loc Cert.KvProjIdeal.main_v8)) (v2 : (c : Dev Cert.KvProjIdeal.nD) → Buf (Elt Ideal) ((c.tc : Thread Cert.KvProjIdeal.nD Cert.KvProjIdeal.τ).loc Cert.KvProjIdeal.main_v2)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v7) = v0 c
          ∧ r.2.mem ((c.tc : Thread Cert.KvProjIdeal.nD Cert.KvProjIdeal.τ).loc Cert.KvProjIdeal.main_v8) = v1 c
          ∧ r.2.mem ((c.tc : Thread Cert.KvProjIdeal.nD Cert.KvProjIdeal.τ).loc Cert.KvProjIdeal.main_v2) = v2 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjReferenceIdeal.defs (F := Ideal)) (onTc (τ := Cert.KvProjReferenceIdeal.τ) (Cert.KvProjReferenceIdeal.main (F := Ideal))) ⟨m', fun _ => 0, g'⟩ (fun r => ∀ c : Dev Cert.KvProjReferenceIdeal.nD,
          r.2.mem ((c.tc : Thread Cert.KvProjReferenceIdeal.nD Cert.KvProjReferenceIdeal.τ).loc Cert.KvProjReferenceIdeal.main_v7) = v0 c
          ∧ r.2.mem ((c.tc : Thread Cert.KvProjReferenceIdeal.nD Cert.KvProjReferenceIdeal.τ).loc Cert.KvProjReferenceIdeal.main_v8) = v1 c
          ∧ r.2.mem ((c.tc : Thread Cert.KvProjReferenceIdeal.nD Cert.KvProjReferenceIdeal.τ).loc Cert.KvProjReferenceIdeal.main_v11) = v2 c
          ∧ r.2.mem ((c.tc : Thread Cert.KvProjReferenceIdeal.nD Cert.KvProjReferenceIdeal.τ).loc Cert.KvProjReferenceIdeal.main_arg0) = m' ((c.tc : Thread Cert.KvProjReferenceIdeal.nD Cert.KvProjReferenceIdeal.τ).loc Cert.KvProjReferenceIdeal.main_arg0)
          ∧ r.2.mem ((c.tc : Thread Cert.KvProjReferenceIdeal.nD Cert.KvProjReferenceIdeal.τ).loc Cert.KvProjReferenceIdeal.main_arg1) = m' ((c.tc : Thread Cert.KvProjReferenceIdeal.nD Cert.KvProjReferenceIdeal.τ).loc Cert.KvProjReferenceIdeal.main_arg1)
          ∧ r.2.mem ((c.tc : Thread Cert.KvProjReferenceIdeal.nD Cert.KvProjReferenceIdeal.τ).loc Cert.KvProjReferenceIdeal.main_arg2) = m' ((c.tc : Thread Cert.KvProjReferenceIdeal.nD Cert.KvProjReferenceIdeal.τ).loc Cert.KvProjReferenceIdeal.main_arg2))

def preserves_QProj_QProjIdeal : Prop :=
  True

def algebraic_QProjIdeal_QProjReferenceIdeal [hQProjIdeal : Cert.QProjIdeal.Facts] [hQProjReferenceIdeal : Cert.QProjReferenceIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjReferenceIdeal.nD Cert.QProjReferenceIdeal.τ Cert.QProjReferenceIdeal.sig) → Buf (Elt Ideal) ℓ) (g' : Dev Cert.QProjReferenceIdeal.nD → PrngReg), Pre_QProjIdeal m →
    (∀ c : Dev Cert.QProjIdeal.nD,
      m' ((c.tc : Thread Cert.QProjReferenceIdeal.nD Cert.QProjReferenceIdeal.τ).loc Cert.QProjReferenceIdeal.main_arg0) = m ((c.tc : Thread Cert.QProjIdeal.nD Cert.QProjIdeal.τ).loc Cert.QProjIdeal.main_arg0)
      ∧ m' ((c.tc : Thread Cert.QProjReferenceIdeal.nD Cert.QProjReferenceIdeal.τ).loc Cert.QProjReferenceIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v1)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v1) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjReferenceIdeal.defs (F := Ideal)) (onTc (τ := Cert.QProjReferenceIdeal.τ) (Cert.QProjReferenceIdeal.main (F := Ideal))) ⟨m', fun _ => 0, g'⟩ (fun r => ∀ c : Dev Cert.QProjReferenceIdeal.nD,
          r.2.mem ((c.tc : Thread Cert.QProjReferenceIdeal.nD Cert.QProjReferenceIdeal.τ).loc Cert.QProjReferenceIdeal.main_v2) = v0 c
          ∧ r.2.mem ((c.tc : Thread Cert.QProjReferenceIdeal.nD Cert.QProjReferenceIdeal.τ).loc Cert.QProjReferenceIdeal.main_arg0) = m' ((c.tc : Thread Cert.QProjReferenceIdeal.nD Cert.QProjReferenceIdeal.τ).loc Cert.QProjReferenceIdeal.main_arg0)
          ∧ r.2.mem ((c.tc : Thread Cert.QProjReferenceIdeal.nD Cert.QProjReferenceIdeal.τ).loc Cert.QProjReferenceIdeal.main_arg1) = m' ((c.tc : Thread Cert.QProjReferenceIdeal.nD Cert.QProjReferenceIdeal.τ).loc Cert.QProjReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)) (v1 : (c : Dev Cert.NormIdeal.nD) → Buf (Elt Ideal) ((c.tc : Thread Cert.NormIdeal.nD Cert.NormIdeal.τ).loc Cert.NormIdeal.main_v5)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_v5) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v14) = v0 c
          ∧ r.2.mem ((c.tc : Thread Cert.NormReferenceIdeal.nD Cert.NormReferenceIdeal.τ).loc Cert.NormReferenceIdeal.main_v29) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v1) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v24) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v24) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Latent_LatentIdeal : Prop :=
  True

def algebraic_LatentIdeal_LatentReferenceIdeal_pre_finite_lat [hLatentIdeal : Cert.LatentIdeal.Facts] [hLatentReferenceIdeal : Cert.LatentReferenceIdeal.Facts] [hPre_finite_lat : Cert.Pre_finite_lat.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentReferenceIdeal.nD Cert.LatentReferenceIdeal.τ Cert.LatentReferenceIdeal.sig) → Buf (Elt Ideal) ℓ) (g' : Dev Cert.LatentReferenceIdeal.nD → PrngReg), Pre_LatentIdeal_finite_lat m →
    (∀ c : Dev Cert.LatentIdeal.nD,
      m' ((c.tc : Thread Cert.LatentReferenceIdeal.nD Cert.LatentReferenceIdeal.τ).loc Cert.LatentReferenceIdeal.main_arg0) = m ((c.tc : Thread Cert.LatentIdeal.nD Cert.LatentIdeal.τ).loc Cert.LatentIdeal.main_arg0)
      ∧ m' ((c.tc : Thread Cert.LatentReferenceIdeal.nD Cert.LatentReferenceIdeal.τ).loc Cert.LatentReferenceIdeal.main_arg1) = m ((c.tc : Thread Cert.LatentIdeal.nD Cert.LatentIdeal.τ).loc Cert.LatentIdeal.main_arg1)
      ∧ m' ((c.tc : Thread Cert.LatentReferenceIdeal.nD Cert.LatentReferenceIdeal.τ).loc Cert.LatentReferenceIdeal.main_arg2) = m ((c.tc : Thread Cert.LatentIdeal.nD Cert.LatentIdeal.τ).loc Cert.LatentIdeal.main_arg2)
      ∧ m' ((c.tc : Thread Cert.LatentReferenceIdeal.nD Cert.LatentReferenceIdeal.τ).loc Cert.LatentReferenceIdeal.main_arg3) = m ((c.tc : Thread Cert.LatentIdeal.nD Cert.LatentIdeal.τ).loc Cert.LatentIdeal.main_arg3)
      ∧ m' ((c.tc : Thread Cert.LatentReferenceIdeal.nD Cert.LatentReferenceIdeal.τ).loc Cert.LatentReferenceIdeal.main_arg4) = m ((c.tc : Thread Cert.LatentIdeal.nD Cert.LatentIdeal.τ).loc Cert.LatentIdeal.main_arg4)
      ∧ m' ((c.tc : Thread Cert.LatentReferenceIdeal.nD Cert.LatentReferenceIdeal.τ).loc Cert.LatentReferenceIdeal.main_arg5) = m ((c.tc : Thread Cert.LatentIdeal.nD Cert.LatentIdeal.τ).loc Cert.LatentIdeal.main_arg5)) →
    ∃ (v0 : (c : Dev Cert.LatentIdeal.nD) → Buf (Elt Ideal) ((c.tc : Thread Cert.LatentIdeal.nD Cert.LatentIdeal.τ).loc Cert.LatentIdeal.main_v46)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v46) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3)
          ∧ r.2.mem ((c.tc : Thread Cert.LatentIdeal.nD Cert.LatentIdeal.τ).loc Cert.LatentIdeal.main_arg4) = m ((c.tc : Thread Cert.LatentIdeal.nD Cert.LatentIdeal.τ).loc Cert.LatentIdeal.main_arg4)
          ∧ r.2.mem ((c.tc : Thread Cert.LatentIdeal.nD Cert.LatentIdeal.τ).loc Cert.LatentIdeal.main_arg5) = m ((c.tc : Thread Cert.LatentIdeal.nD Cert.LatentIdeal.τ).loc Cert.LatentIdeal.main_arg5))
      ∧ θ_run (Cert.LatentReferenceIdeal.defs (F := Ideal)) (onTc (τ := Cert.LatentReferenceIdeal.τ) (Cert.LatentReferenceIdeal.main (F := Ideal))) ⟨m', fun _ => 0, g'⟩ (fun r => ∀ c : Dev Cert.LatentReferenceIdeal.nD,
          r.2.mem ((c.tc : Thread Cert.LatentReferenceIdeal.nD Cert.LatentReferenceIdeal.τ).loc Cert.LatentReferenceIdeal.main_v172) = v0 c
          ∧ r.2.mem ((c.tc : Thread Cert.LatentReferenceIdeal.nD Cert.LatentReferenceIdeal.τ).loc Cert.LatentReferenceIdeal.main_arg0) = m' ((c.tc : Thread Cert.LatentReferenceIdeal.nD Cert.LatentReferenceIdeal.τ).loc Cert.LatentReferenceIdeal.main_arg0)
          ∧ r.2.mem ((c.tc : Thread Cert.LatentReferenceIdeal.nD Cert.LatentReferenceIdeal.τ).loc Cert.LatentReferenceIdeal.main_arg1) = m' ((c.tc : Thread Cert.LatentReferenceIdeal.nD Cert.LatentReferenceIdeal.τ).loc Cert.LatentReferenceIdeal.main_arg1)
          ∧ r.2.mem ((c.tc : Thread Cert.LatentReferenceIdeal.nD Cert.LatentReferenceIdeal.τ).loc Cert.LatentReferenceIdeal.main_arg2) = m' ((c.tc : Thread Cert.LatentReferenceIdeal.nD Cert.LatentReferenceIdeal.τ).loc Cert.LatentReferenceIdeal.main_arg2)
          ∧ r.2.mem ((c.tc : Thread Cert.LatentReferenceIdeal.nD Cert.LatentReferenceIdeal.τ).loc Cert.LatentReferenceIdeal.main_arg3) = m' ((c.tc : Thread Cert.LatentReferenceIdeal.nD Cert.LatentReferenceIdeal.τ).loc Cert.LatentReferenceIdeal.main_arg3)
          ∧ r.2.mem ((c.tc : Thread Cert.LatentReferenceIdeal.nD Cert.LatentReferenceIdeal.τ).loc Cert.LatentReferenceIdeal.main_arg4) = m' ((c.tc : Thread Cert.LatentReferenceIdeal.nD Cert.LatentReferenceIdeal.τ).loc Cert.LatentReferenceIdeal.main_arg4)
          ∧ r.2.mem ((c.tc : Thread Cert.LatentReferenceIdeal.nD Cert.LatentReferenceIdeal.τ).loc Cert.LatentReferenceIdeal.main_arg5) = m' ((c.tc : Thread Cert.LatentReferenceIdeal.nD Cert.LatentReferenceIdeal.τ).loc Cert.LatentReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hKvProj : Cert.KvProj.Facts) (hKvProjIdeal : Cert.KvProjIdeal.Facts) (hKvProjReferenceIdeal : Cert.KvProjReferenceIdeal.Facts) (hQProj : Cert.QProj.Facts) (hQProjIdeal : Cert.QProjIdeal.Facts) (hQProjReferenceIdeal : Cert.QProjReferenceIdeal.Facts) (hNorm : Cert.Norm.Facts) (hNormIdeal : Cert.NormIdeal.Facts) (hNormReferenceIdeal : Cert.NormReferenceIdeal.Facts) (hAttnOut : Cert.AttnOut.Facts) (hAttnOutIdeal : Cert.AttnOutIdeal.Facts) (hAttnOutReferenceIdeal : Cert.AttnOutReferenceIdeal.Facts) (hOutProj : Cert.OutProj.Facts) (hOutProjIdeal : Cert.OutProjIdeal.Facts) (hOutProjReferenceIdeal : Cert.OutProjReferenceIdeal.Facts) (hLatent : Cert.Latent.Facts) (hLatentIdeal : Cert.LatentIdeal.Facts) (hLatentReferenceIdeal : Cert.LatentReferenceIdeal.Facts) (hPre_finite_ctx : Cert.Pre_finite_ctx.Facts) (hPre_planned : Cert.Pre_planned.Facts) (hPre_finite_lat : Cert.Pre_finite_lat.Facts),
    quiescent_Kernel (hKernel := hKernel)
    ∧ quiescent_KernelIdeal (hKernelIdeal := hKernelIdeal)
    ∧ quiescent_KernelIdeal_pre_finite_ctx (hKernelIdeal := hKernelIdeal) (hPre_finite_ctx := hPre_finite_ctx)
    ∧ quiescent_ReferenceIdeal (hReferenceIdeal := hReferenceIdeal)
    ∧ quiescent_ReferenceIdeal_pre_finite_ctx (hReferenceIdeal := hReferenceIdeal) (hPre_finite_ctx := hPre_finite_ctx)
    ∧ quiescent_Ffn (hFfn := hFfn) (hPre_planned := hPre_planned)
    ∧ quiescent_FfnIdeal (hFfnIdeal := hFfnIdeal) (hPre_planned := hPre_planned)
    ∧ quiescent_FfnReferenceIdeal (hFfnReferenceIdeal := hFfnReferenceIdeal)
    ∧ quiescent_FfnReferenceIdeal_pre_planned (hFfnReferenceIdeal := hFfnReferenceIdeal) (hPre_planned := hPre_planned)
    ∧ quiescent_InProj (hInProj := hInProj)
    ∧ quiescent_InProjIdeal (hInProjIdeal := hInProjIdeal)
    ∧ quiescent_InProjReferenceIdeal (hInProjReferenceIdeal := hInProjReferenceIdeal)
    ∧ quiescent_KvProj (hKvProj := hKvProj)
    ∧ quiescent_KvProjIdeal (hKvProjIdeal := hKvProjIdeal)
    ∧ quiescent_KvProjReferenceIdeal (hKvProjReferenceIdeal := hKvProjReferenceIdeal)
    ∧ quiescent_QProj (hQProj := hQProj)
    ∧ quiescent_QProjIdeal (hQProjIdeal := hQProjIdeal)
    ∧ quiescent_QProjReferenceIdeal (hQProjReferenceIdeal := hQProjReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Latent (hLatent := hLatent)
    ∧ quiescent_LatentIdeal (hLatentIdeal := hLatentIdeal)
    ∧ quiescent_LatentIdeal_pre_finite_lat (hLatentIdeal := hLatentIdeal) (hPre_finite_lat := hPre_finite_lat)
    ∧ quiescent_LatentReferenceIdeal (hLatentReferenceIdeal := hLatentReferenceIdeal)
    ∧ quiescent_LatentReferenceIdeal_pre_finite_lat (hLatentReferenceIdeal := hLatentReferenceIdeal) (hPre_finite_lat := hPre_finite_lat)
    ∧ preserves_Kernel_KernelIdeal
    ∧ algebraic_KernelIdeal_ReferenceIdeal_pre_finite_ctx (hKernelIdeal := hKernelIdeal) (hReferenceIdeal := hReferenceIdeal) (hPre_finite_ctx := hPre_finite_ctx)
    ∧ preserves_Ffn_FfnIdeal
    ∧ algebraic_FfnIdeal_FfnReferenceIdeal (hFfnIdeal := hFfnIdeal) (hFfnReferenceIdeal := hFfnReferenceIdeal) (hPre_planned := hPre_planned)
    ∧ preserves_InProj_InProjIdeal
    ∧ algebraic_InProjIdeal_InProjReferenceIdeal (hInProjIdeal := hInProjIdeal) (hInProjReferenceIdeal := hInProjReferenceIdeal)
    ∧ preserves_KvProj_KvProjIdeal
    ∧ algebraic_KvProjIdeal_KvProjReferenceIdeal (hKvProjIdeal := hKvProjIdeal) (hKvProjReferenceIdeal := hKvProjReferenceIdeal)
    ∧ preserves_QProj_QProjIdeal
    ∧ algebraic_QProjIdeal_QProjReferenceIdeal (hQProjIdeal := hQProjIdeal) (hQProjReferenceIdeal := hQProjReferenceIdeal)
    ∧ preserves_Norm_NormIdeal
    ∧ algebraic_NormIdeal_NormReferenceIdeal (hNormIdeal := hNormIdeal) (hNormReferenceIdeal := hNormReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Latent_LatentIdeal
    ∧ algebraic_LatentIdeal_LatentReferenceIdeal_pre_finite_lat (hLatentIdeal := hLatentIdeal) (hLatentReferenceIdeal := hLatentReferenceIdeal) (hPre_finite_lat := hPre_finite_lat)
-- ==== Pre_finite_ctx.lean ====
abbrev S16384x2048 : Shape := ⟨2, ![16384, 2048]⟩
abbrev S16384x1024 : Shape := ⟨2, ![16384, 1024]⟩
abbrev S32 : Shape := ⟨1, ![32]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16384x2048 .bf16) (main_arg1 : FVec F S16384x1024 .f32) (main_arg2 : FVec F S32 .f32) (main_arg3 : FVec F S16384x2048 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S32 .f32 := Host.absf main_arg2
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  main_v14
-- ==== Pre_finite_lat.lean ====
abbrev S16384x2048 : Shape := ⟨2, ![16384, 2048]⟩
abbrev S16384x1024 : Shape := ⟨2, ![16384, 1024]⟩
abbrev S2x1x512x8x64 : Shape := ⟨5, ![2, 1, 512, 8, 64]⟩
abbrev S32 : Shape := ⟨1, ![32]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S2x1x512x8x64 : S_.BroadcastsInDim S2x1x512x8x64 (![] : Fin 0 → Fin S2x1x512x8x64.rank)
  reducesTo_S2x1x512x8x64_S_d0_1_2_3_4 : S2x1x512x8x64.ReducesTo [0, 1, 2, 3, 4] S_
  bcast_S_S32 : S_.BroadcastsInDim S32 (![] : Fin 0 → Fin S32.rank)
  reducesTo_S32_S_d0 : S32.ReducesTo [0] S_

variable [Facts]

def fn_part1 {F : FTy → Type} [FloatOps F] (main_v14 : IVec S_ 1) (main_v15 : FVec F S32 .f32) (main_v16 : FVec F S32 .f32) : IVec S_ 1 :=
  let main_v17 : IVec S32 1 := cmpf .olt main_v15 main_v16
  let main_c_5 : IVec S_ 1 := constantI S_ 1 1#1
  let main_v18 : IVec S_ 1 := (fun x v => Host.reduce IntOp.andi x v reducesTo_S32_S_d0 h_S_) main_v17 main_c_5
  let main_v19 : IVec S_ 1 := andi main_v14 main_v18
  main_v19

def fn {F : FTy → Type} [FloatOps F] (main_arg0 : FVec F S16384x2048 .bf16) (main_arg1 : FVec F S16384x1024 .f32) (main_arg2 : FVec F S2x1x512x8x64 .f32) (main_arg3 : FVec F S2x1x512x8x64 .f32) (main_arg4 : FVec F S32 .f32) (main_arg5 : FVec F S16384x2048 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S2x1x512x8x64 .f32 := Host.absf main_arg2
  let main_cst_2 : FVec F S_ .f32 := constant S_ .f32 0x7F800000#32
  let main_v11 : FVec F S2x1x512x8x64 .f32 := broadcastInDim S2x1x512x8x64 ![] bcast_S_S2x1x512x8x64 main_cst_2
  let main_v12 : IVec S2x1x512x8x64 1 := cmpf .olt main_v10 main_v11
  let main_c_3 : IVec S_ 1 := constantI S_ 1 1#1
  let main_v13 : IVec S_ 1 := (fun x v => Host.reduce IntOp.andi x v reducesTo_S2x1x512x8x64_S_d0_1_2_3_4 h_S_) main_v12 main_c_3
  let main_v14 : IVec S_ 1 := andi main_v9 main_v13
  let main_v15 : FVec F S32 .f32 := Host.absf main_arg4
  let main_cst_4 : FVec F S_ .f32 := constant S_ .f32 0x7F800000#32
  let main_v16 : FVec F S32 .f32 := broadcastInDim S32 ![] bcast_S_S32 main_cst_4
  fn_part1 (F := F) main_v14 main_v15 main_v16
-- ==== Pre_planned.lean ====
abbrev S22528x2176 : Shape := ⟨2, ![22528, 2176]⟩
abbrev S88 : Shape := ⟨1, ![88]⟩
abbrev S1 : Shape := ⟨1, ![1]⟩
abbrev S2x16x2048x512 : Shape := ⟨4, ![2, 16, 2048, 512]⟩
abbrev S2x16x512x2048 : Shape := ⟨4, ![2, 16, 512, 2048]⟩
abbrev S_ : Shape := ⟨0, ![]⟩

class Facts : Prop where
  bcast_S_S88 : S_.BroadcastsInDim S88 (![] : Fin 0 → Fin S88.rank)
  reducesTo_S88_S_d0 : S88.ReducesTo [0] S_
  h_S_ : 0 < S_.numel

variable [Facts]

def fn {F : FTy → Type} [FloatOps F] (main_arg0 : FVec F S22528x2176 .f32) (main_arg1 : IVec S88 32) (main_arg2 : IVec S88 32) (main_arg3 : IVec S1 32) (main_arg4 : FVec F S2x16x2048x512 .bf16) (main_arg5 : FVec F S2x16x2048x512 .bf16) (main_arg6 : FVec F S2x16x512x2048 .bf16) : IVec S_ 1 :=
  let main_c : IVec S_ 32 := constantI S_ 32 0#32
  let main_v0 : IVec S88 32 := broadcastInDim S88 ![] bcast_S_S88 main_c
  let main_v1 : IVec S88 1 := cmpi .sge main_arg1 main_v0
  let main_c_0 : IVec S_ 1 := constantI S_ 1 1#1
  let main_v2 : IVec S_ 1 := (fun x v => Host.reduce IntOp.andi x v reducesTo_S88_S_d0 h_S_) main_v1 main_c_0
  let main_v3 : IVec S88 1 := cmpi .slt main_arg1 main_arg2
  let main_c_1 : IVec S_ 1 := constantI S_ 1 1#1
  let main_v4 : IVec S_ 1 := (fun x v => Host.reduce IntOp.andi x v reducesTo_S88_S_d0 h_S_) main_v3 main_c_1
  let main_v5 : IVec S_ 1 := andi main_v2 main_v4
  let main_c_2 : IVec S_ 32 := constantI S_ 32 16#32
  let main_v6 : IVec S88 32 := broadcastInDim S88 ![] bcast_S_S88 main_c_2
  let main_v7 : IVec S88 1 := cmpi .slt main_arg2 main_v6
  let main_c_3 : IVec S_ 1 := constantI S_ 1 1#1
  let main_v8 : IVec S_ 1 := (fun x v => Host.reduce IntOp.andi x v reducesTo_S88_S_d0 h_S_) main_v7 main_c_3
  let main_v9 : IVec S_ 1 := andi main_v5 main_v8
  main_v9
-- ==== Kernel.lean ====
abbrev S16384x2048 : Shape := ⟨2, ![16384, 2048]⟩
abbrev S16384x1024 : Shape := ⟨2, ![16384, 1024]⟩
abbrev S32 : Shape := ⟨1, ![32]⟩
abbrev S256x512 : Shape := ⟨2, ![256, 512]⟩
abbrev S256x128 : Shape := ⟨2, ![256, 128]⟩
abbrev S256x64 : Shape := ⟨2, ![256, 64]⟩
abbrev S1024x64 : Shape := ⟨2, ![1024, 64]⟩
abbrev S1024x256 : Shape := ⟨2, ![1024, 256]⟩
abbrev S1024x1 : Shape := ⟨2, ![1024, 1]⟩
abbrev S1 : Shape := ⟨1, ![1]⟩
abbrev S1024 : Shape := ⟨1, ![1024]⟩

abbrev nBuf : Space → Nat
  | .hbm => 5
  | .vmem => 8
  | .smem => 1
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S32, .f32⟩
  | .hbm, ⟨3, _⟩ => ⟨S16384x2048, .bf16⟩
  | .hbm, ⟨4, _⟩ => ⟨S16384x2048, .bf16⟩
  | .local _ .vmem, ⟨0, _⟩ => ⟨S256x512, .bf16⟩
  | .local _ .vmem, ⟨1, _⟩ => ⟨S256x512, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .bf16⟩
  | .local _ .vmem, ⟨7, _⟩ => ⟨S256x512, .bf16⟩
  | .local _ .smem, ⟨0, _⟩ => ⟨S32, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_off1 (i : grid0.Coords) (c0_i32 : BitVec 32) : Fin 1 → Nat :=
  let arg1 : BitVec 32 := BitVec.ofNat 32 (i 1).val
  let c2_i32 : BitVec 32 := 2#32
  let v15 : BitVec 32 := Scalar.muli arg1 c2_i32
  let v16 : BitVec 32 := Scalar.addi v15 c0_i32
  let c4_i32 : BitVec 32 := 4#32
  let v17 : BitVec 32 := Scalar.muli v16 c4_i32
  let c4_i32_6 : BitVec 32 := 4#32
  let v19 : BitVec 32 := Scalar.addi v17 c4_i32_6
  let c1_i32 : BitVec 32 := 1#32
  let v20 : BitVec 32 := Scalar.subi v19 c1_i32
  let v21 : Index := Scalar.indexCast v20
  ![v21.toNat]
def k0_off2 (i : grid0.Coords) (c0_i32 : BitVec 32) (c2_i32_7 : BitVec 32) : Fin 1 → Nat :=
  let arg1 : BitVec 32 := BitVec.ofNat 32 (i 1).val
  let c2_i32 : BitVec 32 := 2#32
  let v15 : BitVec 32 := Scalar.muli arg1 c2_i32
  let v16 : BitVec 32 := Scalar.addi v15 c0_i32
  let c4_i32 : BitVec 32 := 4#32
  let v17 : BitVec 32 := Scalar.muli v16 c4_i32
  let v26 : BitVec 32 := Scalar.addi v17 c2_i32_7
  let v27 : Index := Scalar.indexCast v26
  ![v27.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x2048 : Shape := ⟨2, ![16384, 2048]⟩
abbrev S16384x1024 : Shape := ⟨2, ![16384, 1024]⟩
abbrev S32 : Shape := ⟨1, ![32]⟩
abbrev S8192x2048 : Shape := ⟨2, ![8192, 2048]⟩
abbrev S32x256x8x4x64 : Shape := ⟨5, ![32, 256, 8, 4, 64]⟩
abbrev S8192x512 : Shape := ⟨2, ![8192, 512]⟩
abbrev S32x256x8x64 : Shape := ⟨4, ![32, 256, 8, 64]⟩
abbrev S1x8x4x1x1 : Shape := ⟨5, ![1, 8, 4, 1, 1]⟩
abbrev S32x8x256x256x4 : Shape := ⟨5, ![32, 8, 256, 256, 4]⟩
abbrev S32x8x4x256x256 : Shape := ⟨5, ![32, 8, 4, 256, 256]⟩
abbrev S_ : Shape := ⟨0, ![]⟩
abbrev S32x8x4x256x1 : Shape := ⟨5, ![32, 8, 4, 256, 1]⟩
abbrev S32x8x4x256x257 : Shape := ⟨5, ![32, 8, 4, 256, 257]⟩
abbrev S32x8x4x256 : Shape := ⟨4, ![32, 8, 4, 256]⟩
abbrev S32x8x64x4x256 : Shape := ⟨5, ![32, 8, 64, 4, 256]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S32, .f32⟩
  | .hbm, ⟨3, _⟩ => ⟨S16384x2048, .bf16⟩
  | .hbm, ⟨4, _⟩ => ⟨S8192x2048, .bf16⟩
  | .hbm, ⟨5, _⟩ => ⟨S8192x2048, .f32⟩
  | .hbm, ⟨6, _⟩ => ⟨S32x256x8x4x64, .f32⟩
  | .hbm, ⟨7, _⟩ => ⟨S8192x512, .f32⟩
  | .hbm, ⟨8, _⟩ => ⟨S32x256x8x64, .f32⟩
  | .hbm, ⟨9, _⟩ => ⟨S8192x512, .f32⟩
  | .hbm, ⟨10, _⟩ => ⟨S32x256x8x64, .f32⟩
  | .hbm, ⟨11, _⟩ => ⟨S1x8x4x1x1, .f32⟩
  | .hbm, ⟨12, _⟩ => ⟨S32x8x256x256x4, .f32⟩
  | .hbm, ⟨13, _⟩ => ⟨S32x8x4x256x256, .f32⟩
  | .hbm, ⟨14, _⟩ => ⟨S_, .f32⟩
  | .hbm, ⟨15, _⟩ => ⟨S32x8x4x256x256, .f32⟩
  | .hbm, ⟨16, _⟩ => ⟨S32x8x4x256x256, .f32⟩
  | .hbm, ⟨17, _⟩ => ⟨S32x8x4x256x1, .f32⟩
  | .hbm, ⟨18, _⟩ => ⟨S32x8x4x256x257, .f32⟩
  | .hbm, ⟨19, _⟩ => ⟨S_, .f32⟩
  | .hbm, ⟨20, _⟩ => ⟨S32x8x4x256, .f32⟩
  | .hbm, ⟨21, _⟩ => ⟨S_, .f32⟩
  | .hbm, ⟨22, _⟩ => ⟨S32x8x4x256, .f32⟩
  | .hbm, ⟨23, _⟩ => ⟨S32x8x4x256, .f32⟩
  | .hbm, ⟨24, _⟩ => ⟨S32x8x4x256x1, .f32⟩
  | .hbm, ⟨25, _⟩ => ⟨S32x8x4x256x257, .f32⟩
  | .hbm, ⟨26, _⟩ => ⟨S32x8x4x256x257, .f32⟩
  | .hbm, ⟨27, _⟩ => ⟨S32x8x4x256x257, .f32⟩
  | .hbm, ⟨28, _⟩ => ⟨S_, .f32⟩
  | .hbm, ⟨29, _⟩ => ⟨S32x8x4x256, .f32⟩
  | .hbm, ⟨30, _⟩ => ⟨S32x8x4x256x1, .f32⟩
  | .hbm, ⟨31, _⟩ => ⟨S32x8x4x256x257, .f32⟩
  | .hbm, ⟨32, _⟩ => ⟨S32x8x4x256x257, .f32⟩
  | .hbm, ⟨33, _⟩ => ⟨S32x8x4x256x256, .f32⟩
  | .hbm, ⟨34, _⟩ => ⟨S32x8x64x4x256, .f32⟩
  | .hbm, ⟨35, _⟩ => ⟨S32x256x8x4x64, .f32⟩
  | .hbm, ⟨36, _⟩ => ⟨S8192x2048, .f32⟩
  | .hbm, ⟨37, _⟩ => ⟨S8192x2048, .bf16⟩
  | .hbm, ⟨38, _⟩ => ⟨S8192x2048, .bf16⟩
  | .hbm, ⟨39, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Ffn.lean ====
abbrev S22528x2176 : Shape := ⟨2, ![22528, 2176]⟩
abbrev S88 : Shape := ⟨1, ![88]⟩
abbrev S1 : Shape := ⟨1, ![1]⟩
abbrev S2x16x2048x512 : Shape := ⟨4, ![2, 16, 2048, 512]⟩
abbrev S2x16x512x2048 : Shape := ⟨4, ![2, 16, 512, 2048]⟩
abbrev S22528x2048 : Shape := ⟨2, ![22528, 2048]⟩
abbrev S256x2176 : Shape := ⟨2, ![256, 2176]⟩
abbrev S1x1x2048x512 : Shape := ⟨4, ![1, 1, 2048, 512]⟩
abbrev S1x1x512x2048 : Shape := ⟨4, ![1, 1, 512, 2048]⟩
abbrev S256x2048 : Shape := ⟨2, ![256, 2048]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 16
  | .smem => 3
  | _ => 0

abbrev bufTy : (tb : Table) → Fin (tcTables nBuf tb) → BufTy
  | .hbm, ⟨0, _⟩ => ⟨S22528x2176, .f32⟩
  | .hbm, ⟨1, _⟩ => ⟨S2x16x2048x512, .bf16⟩
  | .hbm, ⟨2, _⟩ => ⟨S2x16x2048x512, .bf16⟩
  | .hbm, ⟨3, _⟩ => ⟨S2x16x512x2048, .bf16⟩
  | .hbm, ⟨4, _⟩ => ⟨S22528x2048, .f32⟩
  | .local _ .vmem, ⟨0, _⟩ => ⟨S256x2176, .f32⟩
  | .local _ .vmem, ⟨1, _⟩ => ⟨S256x2176, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x2048x512, .bf16⟩
  | .local _ .vmem, ⟨11, _⟩ => ⟨S1x1x2048x512, .bf16⟩
  | .local _ .vmem, ⟨12, _⟩ => ⟨S1x1x512x2048, .bf16⟩
  | .local _ .vmem, ⟨13, _⟩ => ⟨S1x1x512x2048, .bf16⟩
  | .local _ .vmem, ⟨14, _⟩ => ⟨S256x2048, .f32⟩
  | .local _ .vmem, ⟨15, _⟩ => ⟨S256x2048, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S22528x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S22528x2176 : Shape := ⟨2, ![22528, 2176]⟩
abbrev S88 : Shape := ⟨1, ![88]⟩
abbrev S1 : Shape := ⟨1, ![1]⟩
abbrev S2x16x2048x512 : Shape := ⟨4, ![2, 16, 2048, 512]⟩
abbrev S2x16x512x2048 : Shape := ⟨4, ![2, 16, 512, 2048]⟩
abbrev S22528x2048 : Shape := ⟨2, ![22528, 2048]⟩
abbrev S88x256 : Shape := ⟨2, ![88, 256]⟩
abbrev S22528 : Shape := ⟨1, ![22528]⟩
abbrev S22528x1 : Shape := ⟨2, ![22528, 1]⟩
abbrev S16 : Shape := ⟨1, ![16]⟩
abbrev S1x16 : Shape := ⟨2, ![1, 16]⟩
abbrev S22528x16 : Shape := ⟨2, ![22528, 16]⟩
abbrev S_ : Shape := ⟨0, ![]⟩
abbrev S1x1 : Shape := ⟨2, ![1, 1]⟩
abbrev S1x16x2048x512 : Shape := ⟨4, ![1, 16, 2048, 512]⟩
abbrev S16x2048x512 : Shape := ⟨3, ![16, 2048, 512]⟩
abbrev S1x16x512x2048 : Shape := ⟨4, ![1, 16, 512, 2048]⟩
abbrev S16x512x2048 : Shape := ⟨3, ![16, 512, 2048]⟩
abbrev S16x512x22528 : Shape := ⟨3, ![16, 512, 22528]⟩
abbrev S16x22528x512 : Shape := ⟨3, ![16, 22528, 512]⟩
abbrev S16x22528x2048 : Shape := ⟨3, ![16, 22528, 2048]⟩
abbrev S16x22528 : Shape := ⟨2, ![16, 22528]⟩
abbrev S16x22528x1 : Shape := ⟨3, ![16, 22528, 1]⟩

abbrev nBuf : Space → Nat
  | .hbm => 73
  | .vmem => 0
  | .smem => 0
  | _ => 0

abbrev bufTy : (tb : Table) → Fin (tcTables nBuf tb) → BufTy
  | .hbm, ⟨0, _⟩ => ⟨S22528x2176, .f32⟩
  | .hbm, ⟨1, _⟩ => ⟨S88, .i32⟩
  | .hbm, ⟨2, _⟩ => ⟨S88, .i32⟩
  | .hbm, ⟨3, _⟩ => ⟨S1, .i32⟩
  | .hbm, ⟨4, _⟩ => ⟨S2x16x2048x512, .bf16⟩
  | .hbm, ⟨5, _⟩ => ⟨S2x16x2048x512, .bf16⟩
  | .hbm, ⟨6, _⟩ => ⟨S2x16x512x2048, .bf16⟩
  | .hbm, ⟨7, _⟩ => ⟨S22528x2048, .f32⟩
  | .hbm, ⟨8, _⟩ => ⟨S88, .i32⟩
  | .hbm, ⟨9, _⟩ => ⟨S88x256, .i32⟩
  | .hbm, ⟨10, _⟩ => ⟨S22528, .i32⟩
  | .hbm, ⟨11, _⟩ => ⟨S22528x1, .i32⟩
  | .hbm, ⟨12, _⟩ => ⟨S16, .i32⟩
  | .hbm, ⟨13, _⟩ => ⟨S1x16, .i32⟩
  | .hbm, ⟨14, _⟩ => ⟨S88x256, .i32⟩
  | .hbm, ⟨15, _⟩ => ⟨S22528, .i32⟩
  | .hbm, ⟨16, _⟩ => ⟨S22528x1, .i32⟩
  | .hbm, ⟨17, _⟩ => ⟨S88x256, .i32⟩
  | .hbm, ⟨18, _⟩ => ⟨S22528, .i32⟩
  | .hbm, ⟨19, _⟩ => ⟨S22528x1, .i32⟩
  | .hbm, ⟨20, _⟩ => ⟨S22528x16, .i32⟩
  | .hbm, ⟨21, _⟩ => ⟨S22528x16, .i32⟩
  | .hbm, ⟨22, _⟩ => ⟨S22528x16, .i1⟩
  | .hbm, ⟨23, _⟩ => ⟨S22528x1, .f32⟩
  | .hbm, ⟨24, _⟩ => ⟨S22528x16, .i32⟩
  | .hbm, ⟨25, _⟩ => ⟨S22528x16, .i32⟩
  | .hbm, ⟨26, _⟩ => ⟨S22528x16, .i1⟩
  | .hbm, ⟨27, _⟩ => ⟨S22528x1, .f32⟩
  | .hbm, ⟨28, _⟩ => ⟨S_, .f32⟩
  | .hbm, ⟨29, _⟩ => ⟨S_, .f32⟩
  | .hbm, ⟨30, _⟩ => ⟨S22528x16, .f32⟩
  | .hbm, ⟨31, _⟩ => ⟨S22528x16, .f32⟩
  | .hbm, ⟨32, _⟩ => ⟨S22528x16, .f32⟩
  | .hbm, ⟨33, _⟩ => ⟨S22528x16, .f32⟩
  | .hbm, ⟨34, _⟩ => ⟨S22528x16, .f32⟩
  | .hbm, ⟨35, _⟩ => ⟨S1x1, .i32⟩
  | .hbm, ⟨36, _⟩ => ⟨S22528x1, .i32⟩
  | .hbm, ⟨37, _⟩ => ⟨S22528x1, .i1⟩
  | .hbm, ⟨38, _⟩ => ⟨S_, .f32⟩
  | .hbm, ⟨39, _⟩ => ⟨S_, .f32⟩
  | .hbm, ⟨40, _⟩ => ⟨S22528x16, .i1⟩
  | .hbm, ⟨41, _⟩ => ⟨S22528x16, .f32⟩
  | .hbm, ⟨42, _⟩ => ⟨S22528x16, .f32⟩
  | .hbm, ⟨43, _⟩ => ⟨S1x16x2048x512, .bf16⟩
  | .hbm, ⟨44, _⟩ => ⟨S16x2048x512, .bf16⟩
  | .hbm, ⟨45, _⟩ => ⟨S16x2048x512, .f32⟩
  | .hbm, ⟨46, _⟩ => ⟨S1x16x2048x512, .bf16⟩
  | .hbm, ⟨47, _⟩ => ⟨S16x2048x512, .bf16⟩
  | .hbm, ⟨48, _⟩ => ⟨S16x2048x512, .f32⟩
  | .hbm, ⟨49, _⟩ => ⟨S1x16x512x2048, .bf16⟩
  | .hbm, ⟨50, _⟩ => ⟨S16x512x2048, .bf16⟩
  | .hbm, ⟨51, _⟩ => ⟨S16x512x2048, .f32⟩
  | .hbm, ⟨52, _⟩ => ⟨S16x512x22528, .f32⟩
  | .hbm, ⟨53, _⟩ => ⟨S16x22528x512, .f32⟩
  | .hbm, ⟨54, _⟩ => ⟨S16x22528x512, .f32⟩
  | .hbm, ⟨55, _⟩ => ⟨S16x22528x512, .f32⟩
  | .hbm, ⟨56, _⟩ => ⟨S_, .f32⟩
  | .hbm, ⟨57, _⟩ => ⟨S16x22528x512, .f32⟩
  | .hbm, ⟨58, _⟩ => ⟨S16x22528x512, .f32⟩
  | .hbm, ⟨59, _⟩ => ⟨S_, .f32⟩
  | .hbm, ⟨60, _⟩ => ⟨S16x22528x512, .f32⟩
  | .hbm, ⟨61, _⟩ => ⟨S16x22528x512, .f32⟩
  | .hbm, ⟨62, _⟩ => ⟨S16x22528x512, .f32⟩
  | .hbm, ⟨63, _⟩ => ⟨S16x512x22528, .f32⟩
  | .hbm, ⟨64, _⟩ => ⟨S16x22528x512, .f32⟩
  | .hbm, ⟨65, _⟩ => ⟨S16x22528x512, .f32⟩
  | .hbm, ⟨66, _⟩ => ⟨S16x22528x2048, .f32⟩
  | .hbm, ⟨67, _⟩ => ⟨S16x22528, .f32⟩
  | .hbm, ⟨68, _⟩ => ⟨S16x22528x1, .f32⟩
  | .hbm, ⟨69, _⟩ => ⟨S16x22528x2048, .f32⟩
  | .hbm, ⟨70, _⟩ => ⟨S16x22528x2048, .f32⟩
  | .hbm, ⟨71, _⟩ => ⟨S_, .f32⟩
  | .hbm, ⟨72, _⟩ => ⟨S22528x2048, .f32⟩
  | _, _ => ⟨S22528x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_1 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== InProj.lean ====
abbrev S16384x2048 : Shape := ⟨2, ![16384, 2048]⟩
abbrev S2048x12352 : Shape := ⟨2, ![2048, 12352]⟩
abbrev S16384x12288 : Shape := ⟨2, ![16384, 12288]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x12352, .f32⟩
  | .hbm, ⟨2, _⟩ => ⟨S2048x12352, .bf16⟩
  | .hbm, ⟨3, _⟩ => ⟨S16384x12288, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 16, 24, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InProjReferenceIdeal.lean ====
abbrev S16384x2048 : Shape := ⟨2, ![16384, 2048]⟩
abbrev S2048x12352 : Shape := ⟨2, ![2048, 12352]⟩
abbrev S16384x12352 : Shape := ⟨2, ![16384, 12352]⟩
abbrev S16384x12288 : Shape := ⟨2, ![16384, 12288]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12352, .f32⟩
  | .hbm, ⟨2, _⟩ => ⟨S16384x2048, .f32⟩
  | .hbm, ⟨3, _⟩ => ⟨S16384x12352, .f32⟩
  | .hbm, ⟨4, _⟩ => ⟨S16384x12288, .f32⟩
  | .hbm, ⟨5, _⟩ => ⟨S16384x12288, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvProj.lean ====
abbrev S16384x2048 : Shape := ⟨2, ![16384, 2048]⟩
abbrev S2048x512 : Shape := ⟨2, ![2048, 512]⟩
abbrev S2048x1024 : Shape := ⟨2, ![2048, 1024]⟩
abbrev S16384x1024 : Shape := ⟨2, ![16384, 1024]⟩
abbrev S1024x2048 : Shape := ⟨2, ![1024, 2048]⟩
abbrev S1024x512 : Shape := ⟨2, ![1024, 512]⟩
abbrev S8192x512 : Shape := ⟨2, ![8192, 512]⟩
abbrev S32x256x8x64 : Shape := ⟨4, ![32, 256, 8, 64]⟩
abbrev S32x1x256x8x64 : Shape := ⟨5, ![32, 1, 256, 8, 64]⟩

abbrev nBuf : Space → Nat
  | .hbm => 12
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S2048x1024, .f32⟩
  | .hbm, ⟨4, _⟩ => ⟨S2048x1024, .bf16⟩
  | .hbm, ⟨5, _⟩ => ⟨S16384x1024, .f32⟩
  | .hbm, ⟨6, _⟩ => ⟨S8192x512, .f32⟩
  | .hbm, ⟨7, _⟩ => ⟨S32x256x8x64, .f32⟩
  | .hbm, ⟨8, _⟩ => ⟨S8192x512, .f32⟩
  | .hbm, ⟨9, _⟩ => ⟨S32x256x8x64, .f32⟩
  | .hbm, ⟨10, _⟩ => ⟨S32x1x256x8x64, .f32⟩
  | .hbm, ⟨11, _⟩ => ⟨S32x1x256x8x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 16, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== KvProjReferenceIdeal.lean ====
abbrev S16384x2048 : Shape := ⟨2, ![16384, 2048]⟩
abbrev S2048x512 : Shape := ⟨2, ![2048, 512]⟩
abbrev S8192x2048 : Shape := ⟨2, ![8192, 2048]⟩
abbrev S32x256x2048 : Shape := ⟨3, ![32, 256, 2048]⟩
abbrev S32x256x512 : Shape := ⟨3, ![32, 256, 512]⟩
abbrev S32x256x8x64 : Shape := ⟨4, ![32, 256, 8, 64]⟩
abbrev S32x1x256x8x64 : Shape := ⟨5, ![32, 1, 256, 8, 64]⟩
abbrev S16384x512 : Shape := ⟨2, ![16384, 512]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S2048x512, .f32⟩
  | .hbm, ⟨3, _⟩ => ⟨S16384x2048, .f32⟩
  | .hbm, ⟨4, _⟩ => ⟨S8192x2048, .f32⟩
  | .hbm, ⟨5, _⟩ => ⟨S32x256x2048, .f32⟩
  | .hbm, ⟨6, _⟩ => ⟨S32x256x512, .f32⟩
  | .hbm, ⟨7, _⟩ => ⟨S32x256x8x64, .f32⟩
  | .hbm, ⟨8, _⟩ => ⟨S32x256x512, .f32⟩
  | .hbm, ⟨9, _⟩ => ⟨S32x256x8x64, .f32⟩
  | .hbm, ⟨10, _⟩ => ⟨S32x1x256x8x64, .f32⟩
  | .hbm, ⟨11, _⟩ => ⟨S32x1x256x8x64, .f32⟩
  | .hbm, ⟨12, _⟩ => ⟨S16384x512, .f32⟩
  | .hbm, ⟨13, _⟩ => ⟨S16384x512, .f32⟩
  | .hbm, ⟨14, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== QProj.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S2048x2048, .bf16⟩
  | .hbm, ⟨3, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 16, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== QProjReferenceIdeal.lean ====
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩
abbrev S32x256x2048 : Shape := ⟨3, ![32, 256, 2048]⟩
abbrev S2x4096x2048 : Shape := ⟨3, ![2, 4096, 2048]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S32x256x2048, .f32⟩
  | .hbm, ⟨5, _⟩ => ⟨S1x2048, .f32⟩
  | .hbm, ⟨6, _⟩ => ⟨S8192x2048, .f32⟩
  | .hbm, ⟨7, _⟩ => ⟨S2x4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== NormReferenceIdeal.lean ====
abbrev S16384x2048 : Shape := ⟨2, ![16384, 2048]⟩
abbrev S2048 : Shape := ⟨1, ![2048]⟩
abbrev S8192x2048 : Shape := ⟨2, ![8192, 2048]⟩
abbrev S32x256x2048 : Shape := ⟨3, ![32, 256, 2048]⟩
abbrev S_ : Shape := ⟨0, ![]⟩
abbrev S32x256 : Shape := ⟨2, ![32, 256]⟩
abbrev S32x256x1 : Shape := ⟨3, ![32, 256, 1]⟩
abbrev S1x1x2048 : Shape := ⟨3, ![1, 1, 2048]⟩
abbrev S2x4096x2048 : Shape := ⟨3, ![2, 4096, 2048]⟩
abbrev S2x4096 : Shape := ⟨2, ![2, 4096]⟩
abbrev S2x4096x1 : Shape := ⟨3, ![2, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8192x2048, .f32⟩
  | .hbm, ⟨3, _⟩ => ⟨S32x256x2048, .f32⟩
  | .hbm, ⟨4, _⟩ => ⟨S32x256x2048, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x2048, .f32⟩
  | .hbm, ⟨16, _⟩ => ⟨S32x256x2048, .f32⟩
  | .hbm, ⟨17, _⟩ => ⟨S1x1x2048, .f32⟩
  | .hbm, ⟨18, _⟩ => ⟨S32x256x2048, .f32⟩
  | .hbm, ⟨19, _⟩ => ⟨S32x256x2048, .f32⟩
  | .hbm, ⟨20, _⟩ => ⟨S8192x2048, .f32⟩
  | .hbm, ⟨21, _⟩ => ⟨S2x4096x2048, .f32⟩
  | .hbm, ⟨22, _⟩ => ⟨S2x4096x2048, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S1x1x2048, .f32⟩
  | .hbm, ⟨36, _⟩ => ⟨S2x4096x2048, .f32⟩
  | .hbm, ⟨37, _⟩ => ⟨S2x4096x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== AttnOut.lean ====
abbrev S16384x2048 : Shape := ⟨2, ![16384, 2048]⟩
abbrev S2048x2048 : Shape := ⟨2, ![2048, 2048]⟩
abbrev S18x1x2048 : Shape := ⟨3, ![18, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S18x1x2048, .f32⟩
  | .hbm, ⟨4, _⟩ => ⟨S2048x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 16, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  ![v23.toNat, c0_i32_7.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== AttnOutReferenceIdeal.lean ====
abbrev S16384x2048 : Shape := ⟨2, ![16384, 2048]⟩
abbrev S2048x2048 : Shape := ⟨2, ![2048, 2048]⟩
abbrev S18x1x2048 : Shape := ⟨3, ![18, 1, 2048]⟩
abbrev S3x6x2048 : Shape := ⟨3, ![3, 6, 2048]⟩
abbrev S3x1x2048 : Shape := ⟨3, ![3, 1, 2048]⟩
abbrev S3x2048 : Shape := ⟨2, ![3, 2048]⟩
abbrev S8192x2048 : Shape := ⟨2, ![8192, 2048]⟩
abbrev S1x2048 : Shape := ⟨2, ![1, 2048]⟩
abbrev S2048 : Shape := ⟨1, ![2048]⟩
abbrev S2x4096x2048 : Shape := ⟨3, ![2, 4096, 2048]⟩
abbrev S2x2048 : Shape := ⟨2, ![2, 2048]⟩
abbrev S2x1x2048 : Shape := ⟨3, ![2, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S18x1x2048, .f32⟩
  | .hbm, ⟨4, _⟩ => ⟨S3x6x2048, .f32⟩
  | .hbm, ⟨5, _⟩ => ⟨S3x1x2048, .f32⟩
  | .hbm, ⟨6, _⟩ => ⟨S3x2048, .f32⟩
  | .hbm, ⟨7, _⟩ => ⟨S16384x2048, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2x4096x2048, .f32⟩
  | .hbm, ⟨19, _⟩ => ⟨S2x2048, .f32⟩
  | .hbm, ⟨20, _⟩ => ⟨S2x1x2048, .f32⟩
  | .hbm, ⟨21, _⟩ => ⟨S8192x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S8192x2048, .f32⟩
  | .hbm, ⟨28, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== OutProj.lean ====
abbrev S16384x4096 : Shape := ⟨2, ![16384, 4096]⟩
abbrev S4096x2048 : Shape := ⟨2, ![4096, 2048]⟩
abbrev S16384x2048 : Shape := ⟨2, ![16384, 2048]⟩
abbrev S18x1x2048 : Shape := ⟨3, ![18, 1, 2048]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S18x1x2048, .f32⟩
  | .hbm, ⟨4, _⟩ => ⟨S4096x2048, .bf16⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 16, 4, 2], ![false, false, false, false]⟩

def k0_cond3 (i : grid0.Coords) : BitVec 1 :=
  let arg3 : BitVec 32 := BitVec.ofNat 32 (i 3).val
  let c1_i32 : BitVec 32 := 1#32
  let v10 : BitVec 1 := Scalar.cmpi .eq arg3 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c6_i32 : BitVec 32 := 6#32
  let v22 : BitVec 32 := Scalar.muli v21 c6_i32
  let c2_i32 : BitVec 32 := 2#32
  let v23 : BitVec 32 := Scalar.addi v22 c2_i32
  let c0_i32_7 : BitVec 32 := 0#32
  let c0_i32_8 : BitVec 32 := 0#32
  ![v23.toNat, c0_i32_7.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== OutProjReferenceIdeal.lean ====
abbrev S16384x4096 : Shape := ⟨2, ![16384, 4096]⟩
abbrev S4096x2048 : Shape := ⟨2, ![4096, 2048]⟩
abbrev S16384x2048 : Shape := ⟨2, ![16384, 2048]⟩
abbrev S18x1x2048 : Shape := ⟨3, ![18, 1, 2048]⟩
abbrev S3x6x2048 : Shape := ⟨3, ![3, 6, 2048]⟩
abbrev S3x1x2048 : Shape := ⟨3, ![3, 1, 2048]⟩
abbrev S3x2048 : Shape := ⟨2, ![3, 2048]⟩
abbrev S8192x2048 : Shape := ⟨2, ![8192, 2048]⟩
abbrev S1x2048 : Shape := ⟨2, ![1, 2048]⟩
abbrev S2048 : Shape := ⟨1, ![2048]⟩
abbrev S8192x4096 : Shape := ⟨2, ![8192, 4096]⟩
abbrev S2x4096x2048 : Shape := ⟨3, ![2, 4096, 2048]⟩
abbrev S2x2048 : Shape := ⟨2, ![2, 2048]⟩
abbrev S2x1x2048 : Shape := ⟨3, ![2, 1, 2048]⟩
abbrev S2x4096x4096 : Shape := ⟨3, ![2, 4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S18x1x2048, .f32⟩
  | .hbm, ⟨4, _⟩ => ⟨S3x6x2048, .f32⟩
  | .hbm, ⟨5, _⟩ => ⟨S3x1x2048, .f32⟩
  | .hbm, ⟨6, _⟩ => ⟨S3x2048, .f32⟩
  | .hbm, ⟨7, _⟩ => ⟨S16384x4096, .f32⟩
  | .hbm, ⟨8, _⟩ => ⟨S8192x2048, .f32⟩
  | .hbm, ⟨9, _⟩ => ⟨S1x2048, .f32⟩
  | .hbm, ⟨10, _⟩ => ⟨S2048, .f32⟩
  | .hbm, ⟨11, _⟩ => ⟨S8192x4096, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2x4096x2048, .f32⟩
  | .hbm, ⟨19, _⟩ => ⟨S2x2048, .f32⟩
  | .hbm, ⟨20, _⟩ => ⟨S2x1x2048, .f32⟩
  | .hbm, ⟨21, _⟩ => ⟨S8192x4096, .f32⟩
  | .hbm, ⟨22, _⟩ => ⟨S2x4096x4096, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S8192x2048, .f32⟩
  | .hbm, ⟨28, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Latent.lean ====
abbrev S16384x2048 : Shape := ⟨2, ![16384, 2048]⟩
abbrev S16384x1024 : Shape := ⟨2, ![16384, 1024]⟩
abbrev S2x1x512x8x64 : Shape := ⟨5, ![2, 1, 512, 8, 64]⟩
abbrev S32 : Shape := ⟨1, ![32]⟩
abbrev S2x512x8x64 : Shape := ⟨4, ![2, 512, 8, 64]⟩
abbrev S2x512x512 : Shape := ⟨3, ![2, 512, 512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x32 : Shape := ⟨2, ![1, 32]⟩
abbrev S2x32 : Shape := ⟨2, ![2, 32]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128x512 : Shape := ⟨2, ![128, 512]⟩
abbrev S1x512x128 : Shape := ⟨3, ![1, 512, 128]⟩
abbrev S128x128 : Shape := ⟨2, ![128, 128]⟩
abbrev S512x128 : Shape := ⟨2, ![512, 128]⟩
abbrev S384x128 : Shape := ⟨2, ![384, 128]⟩
abbrev S512x384 : Shape := ⟨2, ![512, 384]⟩
abbrev S128x64 : Shape := ⟨2, ![128, 64]⟩
abbrev S512x64 : Shape := ⟨2, ![512, 64]⟩
abbrev S384x64 : Shape := ⟨2, ![384, 64]⟩
abbrev S512x512 : Shape := ⟨2, ![512, 512]⟩
abbrev S512x1 : Shape := ⟨2, ![512, 1]⟩
abbrev S1 : Shape := ⟨1, ![1]⟩
abbrev S512 : Shape := ⟨1, ![512]⟩

abbrev nBuf : Space → Nat
  | .hbm => 57
  | .vmem => 22
  | .smem => 1
  | _ => 0

abbrev bufTy : (tb : Table) → Fin (tcTables nBuf tb) → BufTy
  | .hbm, ⟨0, _⟩ => ⟨S16384x2048, .bf16⟩
  | .hbm, ⟨1, _⟩ => ⟨S16384x1024, .f32⟩
  | .hbm, ⟨2, _⟩ => ⟨S2x1x512x8x64, .f32⟩
  | .hbm, ⟨3, _⟩ => ⟨S2x1x512x8x64, .f32⟩
  | .hbm, ⟨4, _⟩ => ⟨S32, .f32⟩
  | .hbm, ⟨5, _⟩ => ⟨S16384x2048, .bf16⟩
  | .hbm, ⟨6, _⟩ => ⟨S2x512x8x64, .f32⟩
  | .hbm, ⟨7, _⟩ => ⟨S2x512x512, .f32⟩
  | .hbm, ⟨8, _⟩ => ⟨S2x512x8x64, .f32⟩
  | .hbm, ⟨9, _⟩ => ⟨S2x512x512, .f32⟩
  | .hbm, ⟨10, _⟩ => ⟨S64, .f32⟩
  | .hbm, ⟨11, _⟩ => ⟨S64x64, .f32⟩
  | .hbm, ⟨12, _⟩ => ⟨S4096, .f32⟩
  | .hbm, ⟨13, _⟩ => ⟨S64, .f32⟩
  | .hbm, ⟨14, _⟩ => ⟨S1x64, .f32⟩
  | .hbm, ⟨15, _⟩ => ⟨S64x64, .f32⟩
  | .hbm, ⟨16, _⟩ => ⟨S4096, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x1, .f32⟩
  | .hbm, ⟨31, _⟩ => ⟨S1x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x64, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S32, .f32⟩
  | .hbm, ⟨42, _⟩ => ⟨S1x32, .f32⟩
  | .hbm, ⟨43, _⟩ => ⟨S2x32, .f32⟩
  | .hbm, ⟨44, _⟩ => ⟨S64, .f32⟩
  | .hbm, ⟨45, _⟩ => ⟨S4096x64, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S4096x64, .f32⟩
  | .hbm, ⟨50, _⟩ => ⟨S1x64, .f32⟩
  | .hbm, ⟨51, _⟩ => ⟨S4096x64, .f32⟩
  | .hbm, ⟨52, _⟩ => ⟨S4096x64, .f32⟩
  | .hbm, ⟨53, _⟩ => ⟨S1x4096x1x64, .f32⟩
  | .hbm, ⟨54, _⟩ => ⟨S1x4096x2x64, .f32⟩
  | .hbm, ⟨55, _⟩ => ⟨S4096x128, .f32⟩
  | .hbm, ⟨56, _⟩ => ⟨S16384x2048, .bf16⟩
  | .local _ .vmem, ⟨0, _⟩ => ⟨S128x512, .bf16⟩
  | .local _ .vmem, ⟨1, _⟩ => ⟨S128x512, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S4096x128, .f32⟩
  | .local _ .vmem, ⟨15, _⟩ => ⟨S4096x128, .f32⟩
  | .local _ .vmem, ⟨16, _⟩ => ⟨S128x512, .bf16⟩
  | .local _ .vmem, ⟨17, _⟩ => ⟨S128x512, .bf16⟩
  | .local _ .vmem, ⟨18, _⟩ => ⟨S4096x128, .bf16⟩
  | .local _ .vmem, ⟨19, _⟩ => ⟨S4096x128, .bf16⟩
  | .local _ .vmem, ⟨20, _⟩ => ⟨S512x128, .bf16⟩
  | .local _ .vmem, ⟨21, _⟩ => ⟨S512x128, .bf16⟩
  | .local _ .smem, ⟨0, _⟩ => ⟨S32, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let c3712_i32 : BitVec 32 := 3712#32
  let c0_i32_1 : BitVec 32 := 0#32
  let arg2 : BitVec 32 := BitVec.ofNat 32 (i 2).val
  let c1_i32 : BitVec 32 := 1#32
  let v3 : BitVec 32 := Scalar.subi arg2 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  v6
def k0_off1 (i : grid0.Coords) : Fin 2 → Nat :=
  let c3712_i32 : BitVec 32 := 3712#32
  let c0_i32_1 : BitVec 32 := 0#32
  let arg2 : BitVec 32 := BitVec.ofNat 32 (i 2).val
  let c1_i32 : BitVec 32 := 1#32
  let v3 : BitVec 32 := Scalar.subi arg2 c1_i32
  let c128_i32 : BitVec 32 := 128#32
  let v4 : BitVec 32 := Scalar.muli v3 c128_i32
  let v5 : BitVec 32 := Scalar.maxsi c0_i32_1 v4
  let v6 : BitVec 32 := Scalar.minsi c3712_i32 v5
  let v7 : BitVec 32 := v6
  let v64 : Index := Scalar.indexCast v7
  let c0_19 : Index := 0#32
  ![v64.toNat, 0]
def k0_off2 (i : grid0.Coords) (c0_i32_28 : BitVec 32) : Fin 1 → Nat :=
  let arg1 : BitVec 32 := BitVec.ofNat 32 (i 1).val
  let c2_i32 : BitVec 32 := 2#32
  let v93 : BitVec 32 := Scalar.muli arg1 c2_i32
  let v94 : BitVec 32 := Scalar.addi v93 c0_i32_28
  let c4_i32 : BitVec 32 := 4#32
  let v95 : BitVec 32 := Scalar.muli v94 c4_i32
  let c4_i32_29 : BitVec 32 := 4#32
  let v97 : BitVec 32 := Scalar.addi v95 c4_i32_29
  let c1_i32_30 : BitVec 32 := 1#32
  let v98 : BitVec 32 := Scalar.subi v97 c1_i32_30
  let v99 : Index := Scalar.indexCast v98
  ![v99.toNat]
def k0_off3 (i : grid0.Coords) (c0_i32_28 : BitVec 32) (c2_i32_31 : BitVec 32) : Fin 1 → Nat :=
  let arg1 : BitVec 32 := BitVec.ofNat 32 (i 1).val
  let c2_i32 : BitVec 32 := 2#32
  let v93 : BitVec 32 := Scalar.muli arg1 c2_i32
  let v94 : BitVec 32 := Scalar.addi v93 c0_i32_28
  let c4_i32 : BitVec 32 := 4#32
  let v95 : BitVec 32 := Scalar.muli v94 c4_i32
  let v104 : BitVec 32 := Scalar.addi v95 c2_i32_31
  let v105 : Index := Scalar.indexCast v104
  ![v105.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let v1 : BitVec 32 := Scalar.addi c0_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c4_i32 : BitVec 32 := 4#32
  let v1 : BitVec 32 := Scalar.addi c4_i32 arg1
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== LatentReferenceIdeal.lean ====
abbrev S16384x2048 : Shape := ⟨2, ![16384, 2048]⟩
abbrev S16384x1024 : Shape := ⟨2, ![16384, 1024]⟩
abbrev S2x1x512x8x64 : Shape := ⟨5, ![2, 1, 512, 8, 64]⟩
abbrev S32 : Shape := ⟨1, ![32]⟩
abbrev S8192x2048 : Shape := ⟨2, ![8192, 2048]⟩
abbrev S2x4096x32x64 : Shape := ⟨4, ![2, 4096, 32, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S2x4096x32x32 : Shape := ⟨4, ![2, 4096, 32, 32]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x32x16 : Shape := ⟨4, ![2, 4096, 32, 16]⟩
abbrev S2x4096x8x4x64 : Shape := ⟨5, ![2, 4096, 8, 4, 64]⟩
abbrev S8192x512 : Shape := ⟨2, ![8192, 512]⟩
abbrev S2x4096x8x64 : Shape := ⟨4, ![2, 4096, 8, 64]⟩
abbrev S2x4096x8x32 : Shape := ⟨4, ![2, 4096, 8, 32]⟩
abbrev S2x4096x8x16 : Shape := ⟨4, ![2, 4096, 8, 16]⟩
abbrev S2x512x8x64 : Shape := ⟨4, ![2, 512, 8, 64]⟩
abbrev S1x8x4x1x1 : Shape := ⟨5, ![1, 8, 4, 1, 1]⟩
abbrev S1x4096 : Shape := ⟨2, ![1, 4096]⟩
abbrev S4096x4096 : Shape := ⟨2, ![4096, 4096]⟩
abbrev S2x8x4096x4096x4 : Shape := ⟨5, ![2, 8, 4096, 4096, 4]⟩
abbrev S2x8x4x4096x4096 : Shape := ⟨5, ![2, 8, 4, 4096, 4096]⟩
abbrev S2x8x512x4096x4 : Shape := ⟨5, ![2, 8, 512, 4096, 4]⟩
abbrev S2x8x4x4096x512 : Shape := ⟨5, ![2, 8, 4, 4096, 512]⟩
abbrev S2x8x4x4096x1 : Shape := ⟨5, ![2, 8, 4, 4096, 1]⟩
abbrev S2x8x4x4096x4609 : Shape := ⟨5, ![2, 8, 4, 4096, 4609]⟩
abbrev S2x8x4x4096 : Shape := ⟨4, ![2, 8, 4, 4096]⟩
abbrev S2x8x64x4x4096 : Shape := ⟨5, ![2, 8, 64, 4, 4096]⟩

abbrev nBuf : Space → Nat
  | .hbm => 193
  | .vmem => 0
  | .smem => 0
  | _ => 0

abbrev hbmTy0_0 (i : Nat) : BufTy := match i % 128 with
  | 0 => ⟨S16384x2048, .bf16⟩
  | 1 => ⟨S16384x1024, .f32⟩
  | 2 => ⟨S2x1x512x8x64, .f32⟩
  | 3 => ⟨S2x1x512x8x64, .f32⟩
  | 4 => ⟨S32, .f32⟩
  | 5 => ⟨S16384x2048, .bf16⟩
  | 6 => ⟨S8192x2048, .bf16⟩
  | 7 => ⟨S8192x2048, .f32⟩
  | 8 => ⟨S2x4096x32x64, .f32⟩
  | 9 => ⟨S64, .f32⟩
  | 10 => ⟨S64x64, .f32⟩
  | 11 => ⟨S4096, .f32⟩
  | 12 => ⟨S64, .f32⟩
  | 13 => ⟨S1x64, .f32⟩
  | 14 => ⟨S64x64, .f32⟩
  | 15 => ⟨S4096, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S2x4096x32x32, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x16, .f32⟩
  | 31 => ⟨S1x4096x1x16, .f32⟩
  | 32 => ⟨S4096x16, .f32⟩
  | 33 => ⟨S1x4096x1x16, .f32⟩
  | 34 => ⟨S2x4096x32x16, .f32⟩
  | 35 => ⟨S2x4096x32x16, .f32⟩
  | 36 => ⟨S2x4096x32x16, .f32⟩
  | 37 => ⟨S2x4096x32x16, .f32⟩
  | 38 => ⟨S2x4096x32x16, .f32⟩
  | 39 => ⟨S2x4096x32x16, .f32⟩
  | 40 => ⟨S2x4096x32x16, .f32⟩
  | 41 => ⟨S2x4096x32x16, .f32⟩
  | 42 => ⟨S2x4096x32x16, .f32⟩
  | 43 => ⟨S2x4096x32x16, .f32⟩
  | 44 => ⟨S2x4096x32x16, .f32⟩
  | 45 => ⟨S2x4096x32x16, .f32⟩
  | 46 => ⟨S2x4096x32x32, .f32⟩
  | 47 => ⟨S2x4096x32x32, .f32⟩
  | 48 => ⟨S4096x1, .f32⟩
  | 49 => ⟨S1x16, .f32⟩
  | 50 => ⟨S4096x16, .f32⟩
  | 51 => ⟨S4096x16, .f32⟩
  | 52 => ⟨S4096x16, .f32⟩
  | 53 => ⟨S4096x16, .f32⟩
  | 54 => ⟨S1x4096x1x16, .f32⟩
  | 55 => ⟨S4096x16, .f32⟩
  | 56 => ⟨S1x4096x1x16, .f32⟩
  | 57 => ⟨S2x4096x32x16, .f32⟩
  | 58 => ⟨S2x4096x32x16, .f32⟩
  | 59 => ⟨S2x4096x32x16, .f32⟩
  | 60 => ⟨S2x4096x32x16, .f32⟩
  | 61 => ⟨S2x4096x32x16, .f32⟩
  | 62 => ⟨S2x4096x32x16, .f32⟩
  | 63 => ⟨S2x4096x32x16, .f32⟩
  | 64 => ⟨S2x4096x32x16, .f32⟩
  | 65 => ⟨S2x4096x32x16, .f32⟩
  | 66 => ⟨S2x4096x32x16, .f32⟩
  | 67 => ⟨S2x4096x32x16, .f32⟩
  | 68 => ⟨S2x4096x32x16, .f32⟩
  | 69 => ⟨S2x4096x32x32, .f32⟩
  | 70 => ⟨S2x4096x32x64, .f32⟩
  | 71 => ⟨S2x4096x8x4x64, .f32⟩
  | 72 => ⟨S8192x512, .f32⟩
  | 73 => ⟨S2x4096x8x64, .f32⟩
  | 74 => ⟨S64, .f32⟩
  | 75 => ⟨S64x64, .f32⟩
  | 76 => ⟨S4096, .f32⟩
  | 77 => ⟨S64, .f32⟩
  | 78 => ⟨S1x64, .f32⟩
  | 79 => ⟨S64x64, .f32⟩
  | 80 => ⟨S4096, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S2x4096x8x32, .f32⟩
  | 90 => ⟨S4096x1, .f32⟩
  | 91 => ⟨S1x16, .f32⟩
  | 92 => ⟨S4096x16, .f32⟩
  | 93 => ⟨S4096x16, .f32⟩
  | 94 => ⟨S4096x16, .f32⟩
  | 95 => ⟨S4096x16, .f32⟩
  | 96 => ⟨S1x4096x1x16, .f32⟩
  | 97 => ⟨S4096x16, .f32⟩
  | 98 => ⟨S1x4096x1x16, .f32⟩
  | 99 => ⟨S2x4096x8x16, .f32⟩
  | 100 => ⟨S2x4096x8x16, .f32⟩
  | 101 => ⟨S2x4096x8x16, .f32⟩
  | 102 => ⟨S2x4096x8x16, .f32⟩
  | 103 => ⟨S2x4096x8x16, .f32⟩
  | 104 => ⟨S2x4096x8x16, .f32⟩
  | 105 => ⟨S2x4096x8x16, .f32⟩
  | 106 => ⟨S2x4096x8x16, .f32⟩
  | 107 => ⟨S2x4096x8x16, .f32⟩
  | 108 => ⟨S2x4096x8x16, .f32⟩
  | 109 => ⟨S2x4096x8x16, .f32⟩
  | 110 => ⟨S2x4096x8x16, .f32⟩
  | 111 => ⟨S2x4096x8x32, .f32⟩
  | 112 => ⟨S2x4096x8x32, .f32⟩
  | 113 => ⟨S4096x1, .f32⟩
  | 114 => ⟨S1x16, .f32⟩
  | 115 => ⟨S4096x16, .f32⟩
  | 116 => ⟨S4096x16, .f32⟩
  | 117 => ⟨S4096x16, .f32⟩
  | 118 => ⟨S4096x16, .f32⟩
  | 119 => ⟨S1x4096x1x16, .f32⟩
  | 120 => ⟨S4096x16, .f32⟩
  | 121 => ⟨S1x4096x1x16, .f32⟩
  | 122 => ⟨S2x4096x8x16, .f32⟩
  | 123 => ⟨S2x4096x8x16, .f32⟩
  | 124 => ⟨S2x4096x8x16, .f32⟩
  | 125 => ⟨S2x4096x8x16, .f32⟩
  | 126 => ⟨S2x4096x8x16, .f32⟩
  | 127 => ⟨S2x4096x8x16, .f32⟩
  | _ => ⟨S16384x2048, .bf16⟩

abbrev hbmTy0_1 (i : Nat) : BufTy := match i % 128 with
  | 0 => ⟨S2x4096x8x16, .f32⟩
  | 1 => ⟨S2x4096x8x16, .f32⟩
  | 2 => ⟨S2x4096x8x16, .f32⟩
  | 3 => ⟨S2x4096x8x16, .f32⟩
  | 4 => ⟨S2x4096x8x16, .f32⟩
  | 5 => ⟨S2x4096x8x16, .f32⟩
  | 6 => ⟨S2x4096x8x32, .f32⟩
  | 7 => ⟨S2x4096x8x64, .f32⟩
  | 8 => ⟨S8192x512, .f32⟩
  | 9 => ⟨S2x4096x8x64, .f32⟩
  | 10 => ⟨S2x512x8x64, .f32⟩
  | 11 => ⟨S2x512x8x64, .f32⟩
  | 12 => ⟨S1x8x4x1x1, .f32⟩
  | 13 => ⟨S4096, .i32⟩
  | 14 => ⟨S4096x1, .i32⟩
  | 15 => ⟨S1x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i1⟩
  | 23 => ⟨S2x8x4096x4096x4, .f32⟩
  | 24 => ⟨S2x8x4x4096x4096, .f32⟩
  | 25 => ⟨S_, .f32⟩
  | 26 => ⟨S2x8x4x4096x4096, .f32⟩
  | 27 => ⟨S2x8x4x4096x4096, .f32⟩
  | 28 => ⟨S_, .f32⟩
  | 29 => ⟨S_, .f32⟩
  | 30 => ⟨S2x8x4x4096x4096, .i1⟩
  | 31 => ⟨S2x8x4x4096x4096, .f32⟩
  | 32 => ⟨S2x8x4x4096x4096, .f32⟩
  | 33 => ⟨S2x8x512x4096x4, .f32⟩
  | 34 => ⟨S2x8x4x4096x512, .f32⟩
  | 35 => ⟨S_, .f32⟩
  | 36 => ⟨S2x8x4x4096x512, .f32⟩
  | 37 => ⟨S2x8x4x4096x512, .f32⟩
  | 38 => ⟨S2x8x4x4096x1, .f32⟩
  | 39 => ⟨S2x8x4x4096x4609, .f32⟩
  | 40 => ⟨S_, .f32⟩
  | 41 => ⟨S2x8x4x4096, .f32⟩
  | 42 => ⟨S_, .f32⟩
  | 43 => ⟨S2x8x4x4096, .f32⟩
  | 44 => ⟨S2x8x4x4096, .f32⟩
  | 45 => ⟨S2x8x4x4096x1, .f32⟩
  | 46 => ⟨S2x8x4x4096x4609, .f32⟩
  | 47 => ⟨S2x8x4x4096x4609, .f32⟩
  | 48 => ⟨S2x8x4x4096x4609, .f32⟩
  | 49 => ⟨S_, .f32⟩
  | 50 => ⟨S2x8x4x4096, .f32⟩
  | 51 => ⟨S2x8x4x4096x1, .f32⟩
  | 52 => ⟨S2x8x4x4096x4609, .f32⟩
  | 53 => ⟨S2x8x4x4096x4609, .f32⟩
  | 54 => ⟨S2x8x4x4096x4096, .f32⟩
  | 55 => ⟨S2x8x64x4x4096, .f32⟩
  | 56 => ⟨S2x4096x8x4x64, .f32⟩
  | 57 => ⟨S2x8x4x4096x512, .f32⟩
  | 58 => ⟨S2x8x64x4x4096, .f32⟩
  | 59 => ⟨S2x4096x8x4x64, .f32⟩
  | 60 => ⟨S2x4096x8x4x64, .f32⟩
  | 61 => ⟨S8192x2048, .bf16⟩
  | 62 => ⟨S8192x2048, .f32⟩
  | 63 => ⟨S8192x2048, .bf16⟩
  | 64 => ⟨S16384x2048, .bf16⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst_1 : Ref sig .tc := ⟨.hbm, 83, rfl⟩
abbrev main_v75 : Ref sig .tc := ⟨.hbm, 84, rfl⟩
abbrev main_v76 : Ref sig .tc := ⟨.hbm, 85, rfl⟩
abbrev main_cst_2 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_c : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_cst_3 : Ref sig .tc := ⟨.hbm, 153, rfl⟩
abbrev main_v142 : Ref sig .tc := ⟨.hbm, 154, rfl⟩
abbrev main_v143 : Ref sig .tc := ⟨.hbm, 155, rfl⟩
abbrev main_cst_4 : Ref sig .tc := ⟨.hbm, 156, rfl⟩
abbrev main_call0_v0 : Ref sig .tc := ⟨.hbm, 157, rfl⟩
abbrev main_call0_v1 : Ref sig .tc := ⟨.hbm, 158, rfl⟩
abbrev main_call0_v2 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_cst_5 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_cst_6 : Ref sig .tc := ⟨.hbm, 168, rfl⟩
abbrev main_v151 : Ref sig .tc := ⟨.hbm, 169, rfl⟩
abbrev main_cst_7 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_8 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩

abbrev nD : Nat := 1
abbrev τ : Topo := Topo.v7x

variable {F : FTy → Type} [FloatOps F]
-- ==== Proof.Softmax.lean ====
module

public import Idealize.ShloMosaic.Lib.Pipeline.ValueKit

@[expose] public section

/-!
Softmax attention over the extended reals.

A kernel keeps the sum of `exp (s - M) * v` and multiplies once by the reciprocal of the denominator; the textbook
form divides every weight by the denominator first. The two agree as soon as no score is `⊤` and one of them (the
sink) is a real number: then the running maximum and the denominator are real, and the denominator is positive.
-/
noncomputable section
open Idealize.ShloMosaic
namespace Cert.Softmax

/-- The exponential of anything below `⊤` is a nonnegative real. -/
theorem exp_real {x : EReal} (hx : x ≠ ⊤) : ∃ r : ℝ, 0 ≤ r ∧ Ideal.exp x = (r : EReal) := by
  induction x using EReal.rec with
  | bot => exact ⟨0, le_rfl, by simp⟩
  | top => exact absurd rfl hx
  | coe r => exact ⟨Real.exp r, (Real.exp_pos r).le, by simp⟩

/-- The exponential of a real is a positive real. -/
theorem exp_pos_real (x : ℝ) : ∃ r : ℝ, 0 < r ∧ Ideal.exp (x : EReal) = (r : EReal) :=
  ⟨Real.exp x, Real.exp_pos x, by simp⟩

/-- What is below `⊤` stays below it when a real is subtracted. -/
theorem sub_real_ne_top {x : EReal} (hx : x ≠ ⊤) (m : ℝ) : x - (m : EReal) ≠ ⊤ := by
  induction x using EReal.rec with
  | bot => simp
  | top => exact absurd rfl hx
  | coe r => rw [← EReal.coe_sub]; exact EReal.coe_ne_top _

/-- A finite sum of nonnegative reals is a nonnegative real. -/
theorem sum_real {ι : Type*} (S : Finset ι) (e : ι → EReal) (he : ∀ j, ∃ r : ℝ, 0 ≤ r ∧ e j = (r : EReal)) :
    ∃ r : ℝ, 0 ≤ r ∧ ∑ j ∈ S, e j = (r : EReal) := by
  choose f h0 hf using he
  refine ⟨∑ j ∈ S, f j, Finset.sum_nonneg fun j _ => h0 j, ?_⟩
  simp only [hf]
  induction S using Finset.cons_induction with
  | empty => simp
  | cons a S ha ih => rw [Finset.sum_cons, Finset.sum_cons, EReal.coe_add, ih]

/-- A finite sum of reals is a real. -/
theorem sum_real' {ι : Type*} (S : Finset ι) (e : ι → EReal) (he : ∀ j, ∃ r : ℝ, e j = (r : EReal)) :
    ∃ r : ℝ, ∑ j ∈ S, e j = (r : EReal) := by
  choose f hf using he
  refine ⟨∑ j ∈ S, f j, ?_⟩
  simp only [hf]
  induction S using Finset.cons_induction with
  | empty => simp
  | cons a S ha ih => rw [Finset.sum_cons, Finset.sum_cons, EReal.coe_add, ih]

/-- A nonnegative real factor passes through a finite sum. -/
theorem sum_mul_real {ι : Type*} (S : Finset ι) (f : ι → EReal) (c : ℝ) (hc : 0 ≤ c) :
    (∑ j ∈ S, f j) * (c : EReal) = ∑ j ∈ S, f j * (c : EReal) := by
  induction S using Finset.cons_induction with
  | empty => simp
  | cons a S ha ih =>
    rw [Finset.sum_cons, Finset.sum_cons, ← ih]
    exact EReal.right_distrib_of_nonneg_of_ne_top (by exact_mod_cast hc) (EReal.coe_ne_top c) _ _

/-- Division by a positive real is multiplication by its inverse. -/
theorem div_real (x : EReal) {d : ℝ} (hd : 0 < d) : Ideal.div x (d : EReal) = x * ((d⁻¹ : ℝ) : EReal) := by
  unfold Ideal.div
  rw [if_neg (by exact_mod_cast hd.ne'), EReal.coe_inv]

/-- Normalising after the weighted sum is normalising every weight. -/
theorem sum_mul_div {ι : Type*} (S : Finset ι) (e v : ι → EReal) {d : ℝ} (hd : 0 < d) :
    (∑ j ∈ S, e j * v j) * Ideal.div 1 (d : EReal) = ∑ j ∈ S, v j * Ideal.div (e j) (d : EReal) := by
  rw [div_real 1 hd, one_mul, sum_mul_real _ _ _ (inv_nonneg.2 hd.le)]
  refine Finset.sum_congr rfl fun j _ => ?_
  rw [div_real _ hd, mul_comm (e j), mul_assoc]

/-- The maximum of scores below `⊤` over a finite set, above a real one, is real. -/
theorem max_real {ι : Type*} (S : Finset ι) (s : ι → EReal) (hs : ∀ j, s j ≠ ⊤) (a : ℝ) :
    ∃ m : ℝ, max (a : EReal) (S.sup s) = (m : EReal) := by
  have h1 : max (a : EReal) (S.sup s) ≠ ⊥ := fun h =>
    absurd (le_bot_iff.1 (h ▸ le_max_left (a : EReal) (S.sup s))) (EReal.coe_ne_bot a)
  have h2 : max (a : EReal) (S.sup s) ≠ ⊤ := by
    have : S.sup s < ⊤ := (Finset.sup_lt_iff (by simp)).2 fun j _ => lt_top_iff_ne_top.2 (hs j)
    exact (max_lt (EReal.coe_lt_top a) this).ne
  exact ⟨_, (EReal.coe_toReal h2 h1).symm⟩

/-- A running maximum started at `⊥` is the supremum. -/
theorem fold_max {ι : Type*} (S : Finset ι) (s : ι → EReal) : S.fold max ⊥ s = S.sup s := rfl

end Cert.Softmax

end
-- ==== Proof.CtxBody.lean ====
module

public import proofs.«01_k».proof.Proof.Gen.KernelIdeal.Value
public import proofs.«01_k».proof.Proof.Softmax
public import Idealize.ShloMosaic.Lib.Pipeline.ValueKit

@[expose] public section

set_option maxRecDepth 16384
noncomputable section
open Idealize.ShloMosaic Idealize.ShloMosaic.TcCoe Idealize.SL.Sem
namespace Cert.KernelIdeal.Body
open Cert.KernelIdeal Cert.KernelIdeal.Gen

/-- The largest of each row's scores and its sink, as a column. -/
def peaks (s : FVec Ideal S1024x256 .f32) (z : FVec Ideal S1024x1 .f32) : FVec Ideal S1024x1 .f32 :=
  maximumf z (shapeCast S1024x1 (multiReduction .maximumf [1] S1024 s 0xFF800000#32 reduces_S1024x256_S1024 (.inl rfl) rfl) shapeCasts_S1024_S1024x1)

/-- One key group's attention as the kernel computes it, from its scores, its values and the sinks of its rows. -/
def attend (v : FVec Ideal S256x64 .bf16) (s : FVec Ideal S1024x256 .f32) (z : FVec Ideal S1024x1 .f32) : FVec Ideal S1024x64 .f32 :=
  have mx : FVec Ideal S1024x1 .f32 := peaks s z
  have e : FVec Ideal S1024x256 .f32 := exp (subf s (broadcastTo S1024x256 mx broadcasts_S1024x1_S1024x256))
  have d : FVec Ideal S1024x1 .f32 := addf (exp (subf z mx)) (shapeCast S1024x1 (multiReduction .add [1] S1024 e 0x00000000#32 reduces_S1024x256_S1024 (.inl rfl) rfl) shapeCasts_S1024_S1024x1)
  mulf (matmul dot_S1024x256_S256x64_S1024x64_1_0_0_1_n_n none (truncf .bf16 e bitsLt_bf16_f32) v (constant S1024x64 .f32 0x00000000#32))
    (broadcastTo S1024x64 (divf (broadcast S1024x1 (Scalar.ofBits .f32 0x3F800000#32)) d) broadcasts_S1024x1_S1024x64)

/-- The sinks of the four stacked heads, as a column. -/
def sinks (a b c d : Elt Ideal .f32) : FVec Ideal S1024x1 .f32 :=
  have n : IVec S1024x1 32 := iota .tc S1024x1 32 [0] iota_S1024x1_d0_w32
  select (cmpi .slt n (broadcast S1024x1 256#32)) (broadcast S1024x1 a)
    (select (cmpi .slt n (broadcast S1024x1 512#32)) (broadcast S1024x1 b)
      (select (cmpi .slt n (broadcast S1024x1 768#32)) (broadcast S1024x1 c) (broadcast S1024x1 d)))

theorem first_group (v7 : FVec Ideal S256x64 .bf16) (v14 : FVec Ideal S1024x256 .f32) (a b c d : Elt Ideal .f32) :
    k0_pay6 v7 v14 (k0_pay4 d c b) k0_pay5 a = attend v7 v14 (sinks a b c d) := rfl

/-- The largest of a row's scores and its sink. -/
def peak (s : FVec Ideal S1024x256 .f32) (z : FVec Ideal S1024x1 .f32) (n : Fin 1024) : EReal :=
  max (z (ix2 n 0)) (Finset.univ.sup fun j : Fin 256 => s (ix2 n j))

theorem neg_inf : Ideal.ofBits .f32 0xFF800000#32 = ⊥ := by simp [Ideal.ofBits, Ideal.ieee]

theorem peak_at (s : FVec Ideal S1024x256 .f32) (z : FVec Ideal S1024x1 .f32) (n : Fin 1024) :
    peaks s z (ix2 n 0) = peak s z n := by
  unfold peaks
  pointwise
  unfold peak
  rw [neg_inf]; rfl

theorem total_at (e : FVec Ideal S1024x256 .f32) (n : Fin 1024) :
    shapeCast S1024x1 (multiReduction .add [1] S1024 e 0x00000000#32 reduces_S1024x256_S1024 (.inl rfl) rfl) shapeCasts_S1024_S1024x1 (ix2 n 0)
      = ∑ j : Fin 256, e (ix2 n j) := by
  pointwise

theorem mix_at (e : FVec Ideal S1024x256 .f32) (v : FVec Ideal S256x64 .bf16) (w : FVec Ideal S1024x1 .f32) (n : Fin 1024) (d : Fin 64) :
    mulf (matmul dot_S1024x256_S256x64_S1024x64_1_0_0_1_n_n none (truncf .bf16 e bitsLt_bf16_f32) v (constant S1024x64 .f32 0x00000000#32))
      (broadcastTo S1024x64 w broadcasts_S1024x1_S1024x64) (ix2 n d)
      = (∑ j : Fin 256, e (ix2 n j) * v (ix2 j d)) * w (ix2 n 0) := by
  pointwise

theorem weight_at (s : FVec Ideal S1024x256 .f32) (mx : FVec Ideal S1024x1 .f32) (n : Fin 1024) (j : Fin 256) :
    exp (subf s (broadcastTo S1024x256 mx broadcasts_S1024x1_S1024x256)) (ix2 n j) = Ideal.exp (s (ix2 n j) - mx (ix2 n 0)) := by
  pointwise

theorem inverse_at (z mx t : FVec Ideal S1024x1 .f32) (n : Fin 1024) :
    divf (broadcast S1024x1 (Scalar.ofBits .f32 0x3F800000#32)) (addf (exp (subf z mx)) t) (ix2 n 0)
      = Ideal.div 1 (Ideal.exp (z (ix2 n 0) - mx (ix2 n 0)) + t (ix2 n 0)) := by
  pointwise

theorem attend_at (v : FVec Ideal S256x64 .bf16) (s : FVec Ideal S1024x256 .f32) (z : FVec Ideal S1024x1 .f32) (n : Fin 1024) (d : Fin 64) :
    attend v s z (ix2 n d)
      = (∑ j : Fin 256, Ideal.exp (s (ix2 n j) - peak s z n) * v (ix2 j d))
          * Ideal.div 1 (Ideal.exp (z (ix2 n 0) - peak s z n) + ∑ j : Fin 256, Ideal.exp (s (ix2 n j) - peak s z n)) := by
  unfold attend
  rw [mix_at, inverse_at, total_at]
  simp only [weight_at, peak_at]

theorem below : ∀ n : Fin 1024,
    (IntOp.cmpi .slt (BitVec.ofNat 32 n.val) 256#32 = if n.val < 256 then 1#1 else 0#1)
    ∧ (IntOp.cmpi .slt (BitVec.ofNat 32 n.val) 512#32 = if n.val < 512 then 1#1 else 0#1)
    ∧ (IntOp.cmpi .slt (BitVec.ofNat 32 n.val) 768#32 = if n.val < 768 then 1#1 else 0#1) := by decide +kernel

theorem select_if (p : Prop) [Decidable p] (a b : Elt Ideal .f32) :
    Scalar.select (if p then 1#1 else 0#1) a b = if p then a else b := by
  split <;> rfl

theorem sinks_at (a b c d : Elt Ideal .f32) (n : Fin 1024) :
    sinks a b c d (ix2 n 0) = if n.val < 256 then a else if n.val < 512 then b else if n.val < 768 then c else d := by
  unfold sinks
  pointwise
  rw [(below n).1, (below n).2.1, (below n).2.2, select_if, select_if, select_if]

theorem at2 {α : Type} {A B : Nat} (f : (⟨2, ![A, B]⟩ : Shape).Idx → α) {a a' b b' : Nat} {ha : a < A} {ha' : a' < A} {hb : b < B} {hb' : b' < B}
    (h : a = a') (h' : b = b') : f (ix2 ⟨a, ha⟩ ⟨b, hb⟩) = f (ix2 ⟨a', ha'⟩ ⟨b', hb'⟩) := by
  subst h; subst h'; rfl

theorem scores1 (q : Vec Ideal S256x512 .bf16) (k : Vec Ideal S256x64 .f32) (n : Fin 1024) (j : Fin 256) :
    k0_pay3 q k (ix2 n j) = ∑ l : Fin 64, q (ix2 ⟨n.val % 256, by omega⟩ ⟨n.val / 256 * 64 + l.val, by omega⟩) * Ideal.ofBits .f32 0x3E000000#32 * k (ix2 j l) := by
  pointwise [k0_pay3, k0_pay1]
  refine Finset.sum_congr rfl fun l _ => ?_
  split_ifs
  all_goals exact congrArg (· * k (ix2 j l)) (congrArg (· * Ideal.ofBits .f32 0x3E000000#32) (at2 q (by omega) (by omega)))

theorem scores2 (q : Vec Ideal S256x512 .bf16) (k : Vec Ideal S256x64 .f32) (n : Fin 1024) (j : Fin 256) :
    k0_pay12 (k0_pay1 q) k (ix2 n j) = ∑ l : Fin 64, q (ix2 ⟨n.val % 256, by omega⟩ ⟨256 + (n.val / 256 * 64 + l.val), by omega⟩) * Ideal.ofBits .f32 0x3E000000#32 * k (ix2 j l) := by
  pointwise [k0_pay12, k0_pay1]
  refine Finset.sum_congr rfl fun l _ => ?_
  split_ifs
  all_goals exact congrArg (· * k (ix2 j l)) (congrArg (· * Ideal.ofBits .f32 0x3E000000#32) (at2 q (by omega) (by omega)))

/-- The eight heads of two key groups, side by side. -/
def beside (x y : FVec Ideal S1024x64 .f32) : FVec Ideal S256x512 .bf16 :=
  truncf .bf16 (concatenate S256x512 1 [⟨S256x64, extractStridedSlice S256x64 ![0, 0] x slices_S1024x64_o0_0_S256x64⟩, ⟨S256x64, extractStridedSlice S256x64 ![256, 0] x slices_S1024x64_o256_0_S256x64⟩, ⟨S256x64, extractStridedSlice S256x64 ![512, 0] x slices_S1024x64_o512_0_S256x64⟩, ⟨S256x64, extractStridedSlice S256x64 ![768, 0] x slices_S1024x64_o768_0_S256x64⟩, ⟨S256x64, extractStridedSlice S256x64 ![0, 0] y slices_S1024x64_o0_0_S256x64⟩, ⟨S256x64, extractStridedSlice S256x64 ![256, 0] y slices_S1024x64_o256_0_S256x64⟩, ⟨S256x64, extractStridedSlice S256x64 ![512, 0] y slices_S1024x64_o512_0_S256x64⟩, ⟨S256x64, extractStridedSlice S256x64 ![768, 0] y slices_S1024x64_o768_0_S256x64⟩]
    concatenates_S256x64_S256x64_S256x64_S256x64_S256x64_S256x64_S256x64_S256x64_S256x512_d1 : FVec Ideal S256x512 .f32) bitsLt_bf16_f32

theorem whole (v7 v69 : FVec Ideal S256x64 .bf16) (v14 v76 : FVec Ideal S1024x256 .f32) (a b c d a' b' c' d' : Elt Ideal .f32) :
    k0_pay13 (k0_pay7 v7 v14 (k0_pay4 d c b) k0_pay5 a) (k0_pay8 v7 v14 (k0_pay4 d c b) k0_pay5 a) (k0_pay9 v7 v14 (k0_pay4 d c b) k0_pay5 a) (k0_pay10 v7 v14 (k0_pay4 d c b) k0_pay5 a)
        v69 v76 (iota .tc S1024x1 32 [0] iota_S1024x1_d0_w32) d' c' b' a'
      = beside (attend v7 v14 (sinks a b c d)) (attend v69 v76 (sinks a' b' c' d')) := rfl

theorem beside_at (x y : FVec Ideal S1024x64 .f32) (r : Fin 256) (j : Fin 512) :
    beside x y (ix2 r j)
      = if j.val < 256 then x (ix2 ⟨j.val / 64 % 4 * 256 + r.val, by omega⟩ ⟨j.val % 64, by omega⟩)
        else y (ix2 ⟨j.val / 64 % 4 * 256 + r.val, by omega⟩ ⟨j.val % 64, by omega⟩) := by
  pointwise [beside]
  by_cases hj : j.val < 256
  · rw [if_pos hj]
    split_ifs
    all_goals first
      | omega
      | exact at2 x (by omega) (by omega)
  · rw [if_neg hj]
    split_ifs
    all_goals first
      | omega
      | exact at2 y (by omega) (by omega)

end Cert.KernelIdeal.Body

end
-- ==== Proof.CtxRef.lean ====
module

public import proofs.«01_k».proof.Proof.Gen.ReferenceIdeal.Read
public import proofs.«01_k».proof.Proof.Softmax
public import Idealize.ShloMosaic.Lib.Pipeline.ValueKit

@[expose] public section

set_option maxRecDepth 16384
noncomputable section
open Idealize.ShloMosaic Idealize.ShloMosaic.TcCoe Idealize.SL.Sem
namespace Cert.ReferenceIdeal.Read
open Cert.ReferenceIdeal Cert.ReferenceIdeal.Gen

variable (x0 : FVec Ideal S16384x2048 .bf16) (x1 : FVec Ideal S16384x1024 .f32) (x2 : FVec Ideal S32 .f32)

/-- The scaled score of query row `r` of sequence `b` against key row `j`, for head `g` of key group `h`. -/
def score (b : Fin 32) (h : Fin 8) (g : Fin 4) (r j : Fin 256) : EReal :=
  (∑ k : Fin 64, x1 (ix2 ⟨b.val * 256 + j.val, by omega⟩ ⟨h.val * 64 + k.val, by omega⟩)
    * x0 (ix2 ⟨b.val * 256 + r.val, by omega⟩ ⟨h.val * 256 + g.val * 64 + k.val, by omega⟩))
    * Ideal.ofBits .f32 0x3E000000#32

/-- The sink of a head. -/
def sinkOf (h : Fin 8) (g : Fin 4) : EReal := x2 (ix1 ⟨h.val * 4 + g.val, by omega⟩)

theorem score_at (b : Fin 32) (h : Fin 8) (g : Fin 4) (r j : Fin 256) :
    val_main_v11 (F := Ideal) x0 x1 (ix5 b h g r j) = score x0 x1 b h g r j := by
  unfold score
  pointwise [val_main_v11, val_main_v10, val_main_cst, val_main_v9, val_main_v8, val_main_v4, val_main_v3, val_main_v2, val_main_v1, val_main_v0]

/-- The largest of a query's scores and its sink. -/
def top (b : Fin 32) (h : Fin 8) (g : Fin 4) (r : Fin 256) : EReal :=
  max (sinkOf x2 h g) (Finset.univ.sup (score x0 x1 b h g r))

theorem logit_at (b : Fin 32) (h : Fin 8) (g : Fin 4) (r : Fin 256) (j : Fin 257) :
    val_main_v13 (F := Ideal) x0 x1 x2 (ix5 b h g r j)
      = if hj : j.val < 256 then score x0 x1 b h g r ⟨j.val, hj⟩ else sinkOf x2 h g := by
  pointwise [val_main_v13]
  split
  · exact score_at x0 x1 b h g r _
  · unfold sinkOf
    pointwise [val_main_v12, val_main_v7]

theorem neg_inf : Ideal.ofBits .f32 0xFF800000#32 = ⊥ := by simp [Ideal.ofBits, Ideal.ieee]

theorem rowmax (z : FVec Ideal S32x8x4x256x257 .f32) (v : FVec Ideal S_ .f32) (hv : ∀ i, v i = ⊥)
    (b : Fin 32) (h : Fin 8) (g : Fin 4) (r : Fin 256) :
    Host.reduce FloatOps.maximumf z v reducesTo_S32x8x4x256x257_S32x8x4x256_d4 h_S_ (ix4 b h g r)
      = Finset.univ.sup fun k : Fin 257 => z (ix5 b h g r k) := by
  pointwise
  rw [hv]; rfl

theorem sup_split (f : Fin 256 → EReal) (a : EReal) :
    (Finset.univ.sup fun k : Fin 257 => if hk : k.val < 256 then f ⟨k.val, hk⟩ else a) = max a (Finset.univ.sup f) := by
  apply le_antisymm
  · refine Finset.sup_le fun k _ => ?_
    split
    · exact le_max_of_le_right (Finset.le_sup (f := f) (Finset.mem_univ _))
    · exact le_max_left _ _
  · refine max_le ?_ (Finset.sup_le fun k _ => ?_)
    · refine le_trans ?_ (Finset.le_sup (Finset.mem_univ (⟨256, by omega⟩ : Fin 257)))
      simp
    · refine le_trans ?_ (Finset.le_sup (Finset.mem_univ (⟨k.val, by omega⟩ : Fin 257)))
      simp

theorem top_at (b : Fin 32) (h : Fin 8) (g : Fin 4) (r : Fin 256) :
    val_main_v16 (F := Ideal) x0 x1 x2 (ix4 b h g r) = top x0 x1 x2 b h g r := by
  have h1 : val_main_v14 (F := Ideal) x0 x1 x2 (ix4 b h g r) = top x0 x1 x2 b h g r := by
    unfold val_main_v14
    rw [rowmax _ (val_main_cst_0 (F := Ideal)) (fun i => by exact neg_inf)]
    have hf : (fun k : Fin 257 => val_main_v13 (F := Ideal) x0 x1 x2 (ix5 b h g r k))
        = fun k => if hk : k.val < 256 then score x0 x1 b h g r ⟨k.val, hk⟩ else sinkOf x2 h g :=
      funext fun k => logit_at x0 x1 x2 b h g r k
    rw [hf]
    exact sup_split _ _
  have h2 : val_main_v15 (F := Ideal) (ix4 b h g r) = ⊥ := by
    rw [val_main_v15_apply]; exact neg_inf
  rw [val_main_v16_apply, h1, h2]; exact max_bot_left _

end Cert.ReferenceIdeal.Read

end
-- ==== Proof.CtxRefOut.lean ====
module

public import proofs.«01_k».proof.Proof.Gen.ReferenceIdeal.Read
public import proofs.«01_k».proof.Proof.CtxRef
public import Idealize.ShloMosaic.Lib.Pipeline.ValueKit

@[expose] public section

set_option maxRecDepth 16384
noncomputable section
open Idealize.ShloMosaic Idealize.ShloMosaic.TcCoe Idealize.SL.Sem
namespace Cert.ReferenceIdeal.Read
open Cert.ReferenceIdeal Cert.ReferenceIdeal.Gen

variable (x0 : FVec Ideal S16384x2048 .bf16) (x1 : FVec Ideal S16384x1024 .f32) (x2 : FVec Ideal S32 .f32)

theorem spread (y : FVec Ideal S32x8x4x256 .f32) (b : Fin 32) (h : Fin 8) (g : Fin 4) (r : Fin 256) (j : Fin 257) :
    (broadcastInDim S32x8x4x256x257 ![0, 1, 2, 3, 4] bcast_S32x8x4x256x1_S32x8x4x256x257_0_1_2_3_4
      (broadcastInDim S32x8x4x256x1 ![0, 1, 2, 3] bcast_S32x8x4x256_S32x8x4x256x1_0_1_2_3 y)) (ix5 b h g r j)
      = y (ix4 b h g r) := by
  pointwise

theorem rowsum (z : FVec Ideal S32x8x4x256x257 .f32) (v : FVec Ideal S_ .f32) (hv : ∀ i, v i = 0)
    (b : Fin 32) (h : Fin 8) (g : Fin 4) (r : Fin 256) :
    Host.reduceAdd z v reducesTo_S32x8x4x256x257_S32x8x4x256_d4 h_S_ (ix4 b h g r)
      = ∑ k : Fin 257, z (ix5 b h g r k) := by
  pointwise
  rw [hv, zero_add]

theorem product (x : FVec Ideal S32x256x8x64 .f32) (w : FVec Ideal S32x8x4x256x257 .f32)
    (b : Fin 32) (h : Fin 8) (g : Fin 4) (r : Fin 256) (d : Fin 64) :
    Host.dotGeneral dot_S32x256x8x64_S32x8x4x256x256_S32x8x64x4x256_1_4_3_23_02_01 none x
        (extractStridedSlice S32x8x4x256x256 ![0, 0, 0, 0, 0] w slices_S32x8x4x256x257_S32x8x4x256x256_0_0_0_0_0)
        (ix5 b h d g r)
      = ∑ j : Fin 256, x (ix4 b j h d) * w (ix5 b h g r ⟨j.val, by omega⟩) := by
  pointwise

theorem weight_at (b : Fin 32) (h : Fin 8) (g : Fin 4) (r : Fin 256) (j : Fin 257) :
    val_main_v20 (F := Ideal) x0 x1 x2 (ix5 b h g r j)
      = Ideal.exp ((if hj : j.val < 256 then score x0 x1 b h g r ⟨j.val, hj⟩ else sinkOf x2 h g) - top x0 x1 x2 b h g r) := by
  rw [val_main_v20_apply, val_main_v19_apply, logit_at]
  unfold val_main_v18 val_main_v17
  rw [spread, top_at]
  rfl

/-- The normaliser: the weights of the keys and of the sink. -/
def denom (b : Fin 32) (h : Fin 8) (g : Fin 4) (r : Fin 256) : EReal :=
  (∑ j : Fin 256, Ideal.exp (score x0 x1 b h g r j - top x0 x1 x2 b h g r)) + Ideal.exp (sinkOf x2 h g - top x0 x1 x2 b h g r)

theorem denom_at (b : Fin 32) (h : Fin 8) (g : Fin 4) (r : Fin 256) :
    val_main_v21 (F := Ideal) x0 x1 x2 (ix4 b h g r) = denom x0 x1 x2 b h g r := by
  unfold val_main_v21
  rw [rowsum _ (val_main_cst_2 (F := Ideal)) (fun i => by exact Ideal.ofBits_zero_f32)]
  have hf : (fun k : Fin 257 => val_main_v20 (F := Ideal) x0 x1 x2 (ix5 b h g r k))
      = fun k => Ideal.exp ((if hj : k.val < 256 then score x0 x1 b h g r ⟨k.val, hj⟩ else sinkOf x2 h g) - top x0 x1 x2 b h g r) :=
    funext fun k => weight_at x0 x1 x2 b h g r k
  rw [hf, Fin.sum_univ_castSucc]
  unfold denom
  simp

theorem value_at (b : Fin 32) (j : Fin 256) (h : Fin 8) (d : Fin 64) :
    val_main_v6 (F := Ideal) x1 (ix4 b j h d) = x1 (ix2 ⟨b.val * 256 + j.val, by omega⟩ ⟨512 + (h.val * 64 + d.val), by omega⟩) := by
  pointwise [val_main_v6, val_main_v5]

/-- The context attention of one query against the keys of its own sequence. -/
def out (b : Fin 32) (h : Fin 8) (g : Fin 4) (r : Fin 256) (d : Fin 64) : EReal :=
  ∑ j : Fin 256, x1 (ix2 ⟨b.val * 256 + j.val, by omega⟩ ⟨512 + (h.val * 64 + d.val), by omega⟩)
    * Ideal.div (Ideal.exp (score x0 x1 b h g r j - top x0 x1 x2 b h g r)) (denom x0 x1 x2 b h g r)

theorem out_at (b : Fin 32) (h : Fin 8) (g : Fin 4) (r : Fin 256) (d : Fin 64) :
    val_main_v26 (F := Ideal) x0 x1 x2 (ix5 b h d g r) = out x0 x1 x2 b h g r d := by
  unfold val_main_v26 val_main_v25
  rw [product]
  refine Finset.sum_congr rfl fun j _ => ?_
  rw [value_at, val_main_v24_apply, weight_at, dif_pos j.isLt]
  unfold val_main_v23 val_main_v22
  rw [spread, denom_at]
  rfl

theorem rows (y : FVec Ideal S32x8x64x4x256 .f32) (i : Fin 8192) (j : Fin 2048) :
    (shapeCast S8192x2048 (transpose S32x256x8x4x64 [0, 4, 1, 3, 2] y transposes_S32x8x64x4x256_S32x256x8x4x64_0_4_1_3_2)
      shapeCasts_S32x256x8x4x64_S8192x2048) (ix2 i j)
      = y (ix5 ⟨i.val / 256, by omega⟩ ⟨j.val / 256, by omega⟩ ⟨j.val % 64, by omega⟩ ⟨j.val / 64 % 4, by omega⟩ ⟨i.val % 256, by omega⟩) := by
  pointwise

theorem joined (y z : FVec Ideal S8192x2048 .bf16) (i : Fin 16384) (j : Fin 2048) :
    (concatenate S16384x2048 0 [⟨S8192x2048, y⟩, ⟨S8192x2048, z⟩] concatenates_S8192x2048_S8192x2048_S16384x2048_d0 : FVec Ideal S16384x2048 .bf16) (ix2 i j)
      = if hi : i.val < 8192 then y (ix2 ⟨i.val, hi⟩ j) else z (ix2 ⟨i.val - 8192, by omega⟩ j) := by
  pointwise

/-- The reference's result, entry by entry: attention in the context's rows, the filled array's own rows below. -/
theorem result_at (x3 : FVec Ideal S16384x2048 .bf16) (i : Fin 16384) (j : Fin 2048) :
    val_main_v31 (F := Ideal) x0 x1 x2 x3 (ix2 i j)
      = if hi : i.val < 8192 then out x0 x1 x2 ⟨i.val / 256, by omega⟩ ⟨j.val / 256, by omega⟩ ⟨j.val / 64 % 4, by omega⟩ ⟨i.val % 256, by omega⟩ ⟨j.val % 64, by omega⟩
        else x3 (ix2 i j) := by
  unfold val_main_v31
  rw [joined]
  split
  · rw [val_main_v29_apply]
    unfold val_main_v28 val_main_v27
    rw [rows, out_at]
    rfl
  · pointwise [val_main_v30]
    exact congrArg x3 (congrArg (fun k => ix2 k j) (Fin.ext (by show 8192 + (i.val - 8192) = i.val; omega)))

end Cert.ReferenceIdeal.Read

end
-- ==== Proof.CtxMath.lean ====
module

public import proofs.«01_k».proof.Proof.CtxRefOut

@[expose] public section

set_option maxRecDepth 16384
noncomputable section
open Idealize.ShloMosaic Idealize.ShloMosaic.TcCoe Idealize.SL.Sem
namespace Cert.ReferenceIdeal.Read
open Cert.ReferenceIdeal Cert.ReferenceIdeal.Gen

/-- An extended real that is an ordinary real. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.ne_top {x : EReal} (hx : Real' x) : x ≠ ⊤ := by
  obtain ⟨a, rfl⟩ := hx; exact EReal.coe_ne_top a

theorem eighth : Ideal.ofBits .f32 0x3E000000#32 = ((1 / 8 : ℝ) : EReal) := by
  simp [Ideal.ofBits, Ideal.ieee, -EReal.coe_mul]; norm_num

variable (x0 : FVec Ideal S16384x2048 .bf16) (x1 : FVec Ideal S16384x1024 .f32) (x2 : FVec Ideal S32 .f32)
variable (h0 : ∀ i, Real' (x0 i)) (h1 : ∀ i, Real' (x1 i)) (h2 : ∀ i, Real' (x2 i))

include h0 h1 in
theorem score_real (b : Fin 32) (h : Fin 8) (g : Fin 4) (r j : Fin 256) : Real' (score x0 x1 b h g r j) := by
  unfold score
  refine Real'.mul (Cert.Softmax.sum_real' _ _ fun k => Real'.mul (h1 _) (h0 _)) ⟨_, eighth⟩

/-- Scaling every query before the products is scaling their sum. -/
theorem scaled (b : Fin 32) (h : Fin 8) (g : Fin 4) (r j : Fin 256) :
    (∑ l : Fin 64, x0 (ix2 ⟨b.val * 256 + r.val, by omega⟩ ⟨h.val * 256 + g.val * 64 + l.val, by omega⟩) * Ideal.ofBits .f32 0x3E000000#32
        * x1 (ix2 ⟨b.val * 256 + j.val, by omega⟩ ⟨h.val * 64 + l.val, by omega⟩))
      = score x0 x1 b h g r j := by
  unfold score
  rw [eighth, Cert.Softmax.sum_mul_real _ _ _ (by norm_num)]
  refine Finset.sum_congr rfl fun l _ => ?_
  rw [mul_comm (x1 _), mul_right_comm]

include h0 h1 h2 in
/-- Normalising once after the weighted sum gives the reference's normalised weights. -/
theorem normalised (b : Fin 32) (h : Fin 8) (g : Fin 4) (r : Fin 256) (d : Fin 64) :
    (∑ j : Fin 256, Ideal.exp (score x0 x1 b h g r j - top x0 x1 x2 b h g r)
        * x1 (ix2 ⟨b.val * 256 + j.val, by omega⟩ ⟨512 + (h.val * 64 + d.val), by omega⟩))
        * Ideal.div 1 (Ideal.exp (sinkOf x2 h g - top x0 x1 x2 b h g r)
            + ∑ j : Fin 256, Ideal.exp (score x0 x1 b h g r j - top x0 x1 x2 b h g r))
      = out x0 x1 x2 b h g r d := by
  have hs : ∀ j, score x0 x1 b h g r j ≠ ⊤ := fun j => (score_real x0 x1 h0 h1 b h g r j).ne_top
  obtain ⟨z, hz⟩ : Real' (sinkOf x2 h g) := h2 _
  obtain ⟨M, hM⟩ : ∃ M : ℝ, top x0 x1 x2 b h g r = (M : EReal) := by
    unfold top; rw [hz]; exact Cert.Softmax.max_real _ _ hs z
  obtain ⟨w, hw, hwe⟩ := Cert.Softmax.exp_pos_real (z - M)
  obtain ⟨u, hu, hue⟩ := Cert.Softmax.sum_real Finset.univ (fun j => Ideal.exp (score x0 x1 b h g r j - (M : EReal)))
    fun j => Cert.Softmax.exp_real (Cert.Softmax.sub_real_ne_top (hs j) M)
  have hd : Ideal.exp (sinkOf x2 h g - top x0 x1 x2 b h g r) + ∑ j : Fin 256, Ideal.exp (score x0 x1 b h g r j - top x0 x1 x2 b h g r)
      = ((w + u : ℝ) : EReal) := by
    rw [hM, hue, hz, ← EReal.coe_sub, hwe, ← EReal.coe_add]
  have hd' : denom x0 x1 x2 b h g r = ((w + u : ℝ) : EReal) := by
    unfold denom; rw [add_comm]; exact hd
  unfold out
  rw [hd, hd']
  exact Cert.Softmax.sum_mul_div _ _ _ (by linarith)

end Cert.ReferenceIdeal.Read

end
-- ==== Proof.CtxFinal.lean ====
module

public import proofs.«01_k».proof.Proof.CtxBody
public import proofs.«01_k».proof.Proof.CtxMath

@[expose] public section

set_option maxRecDepth 16384
noncomputable section
open Idealize.ShloMosaic Idealize.ShloMosaic.TcCoe Idealize.SL.Sem
namespace Cert.KernelIdeal.Final
open Cert.KernelIdeal Cert.KernelIdeal.Gen Cert.KernelIdeal.Body
open Cert.ReferenceIdeal.Read (Real' score sinkOf top out scaled normalised)
variable (m : (ℓ : Loc nD τ sig) → Buf (Elt Ideal) ℓ)

theorem idx : ∀ t : Fin cfg0.N, win0_0.index t = ![0] ∧ win0_1.index t = ![t.val / 4, t.val % 4] ∧ win0_2.index t = ![t.val / 4, t.val % 4]
    ∧ win0_3.index t = ![t.val / 4, 4 + t.val % 4] ∧ win0_4.index t = ![t.val / 4, t.val % 4] ∧ (grid0.coords t 1).val = t.val % 4 ∧ t.val / 4 < 32 :=
  (by decide +kernel : ∀ t : Fin grid0.N, _)

/-- The sequence a grid point works on. -/
abbrev seqOf (t : Fin cfg0.N) : Fin 32 := ⟨t.val / 4, (idx t).2.2.2.2.2.2⟩

/-- The queries, the keys and values, and the sinks. -/
abbrev Q (c : Dev nD) : FVec Ideal S16384x2048 .bf16 := m ((c : Thread nD τ).loc main_arg0)
abbrev KV (c : Dev nD) : FVec Ideal S16384x1024 .f32 := m ((c : Thread nD τ).loc main_arg1)
abbrev SK (c : Dev nD) : FVec Ideal S32 .f32 := m ((c : Thread nD τ).loc main_arg2)

abbrev qb (c : Dev nD) (t : Fin cfg0.N) : FVec Ideal S256x512 .bf16 := iblk m c 1 t
abbrev kb0 (c : Dev nD) (t : Fin cfg0.N) : FVec Ideal S256x64 .f32 := View.ld (iblk m c 2 t) (Rect.unit ![0, 0] ![256, 64] inb_S256x128_S256x64_0_0)
abbrev kb1 (c : Dev nD) (t : Fin cfg0.N) : FVec Ideal S256x64 .f32 := View.ld (iblk m c 2 t) (Rect.unit ![0, 64] ![256, 64] inb_S256x128_S256x64_0_64)
abbrev vb0 (c : Dev nD) (t : Fin cfg0.N) : FVec Ideal S256x64 .f32 := View.ld (iblk m c 3 t) (Rect.unit ![0, 0] ![256, 64] inb_S256x128_S256x64_0_0)
abbrev vb1 (c : Dev nD) (t : Fin cfg0.N) : FVec Ideal S256x64 .f32 := View.ld (iblk m c 3 t) (Rect.unit ![0, 64] ![256, 64] inb_S256x128_S256x64_0_64)

theorem qb_at (c : Dev nD) (t : Fin cfg0.N) (r : Fin 256) (k : Fin 512) :
    qb m c t (ix2 r k) = Q m c (ix2 ⟨(seqOf t).val * 256 + r.val, by omega⟩ ⟨t.val % 4 * 512 + k.val, by omega⟩) := by
  blk_point [iblk, V, idx t]
theorem kb0_at (c : Dev nD) (t : Fin cfg0.N) (j : Fin 256) (l : Fin 64) :
    kb0 m c t (ix2 j l) = KV m c (ix2 ⟨(seqOf t).val * 256 + j.val, by omega⟩ ⟨(t.val % 4 * 2) * 64 + l.val, by omega⟩) := by
  unfold kb0 KV
  blk_point [iblk, V, idx t]
theorem kb1_at (c : Dev nD) (t : Fin cfg0.N) (j : Fin 256) (l : Fin 64) :
    kb1 m c t (ix2 j l) = KV m c (ix2 ⟨(seqOf t).val * 256 + j.val, by omega⟩ ⟨(t.val % 4 * 2 + 1) * 64 + l.val, by omega⟩) := by
  unfold kb1 KV
  blk_point [iblk, V, idx t]
theorem vb0_at (c : Dev nD) (t : Fin cfg0.N) (j : Fin 256) (l : Fin 64) :
    vb0 m c t (ix2 j l) = KV m c (ix2 ⟨(seqOf t).val * 256 + j.val, by omega⟩ ⟨512 + ((t.val % 4 * 2) * 64 + l.val), by omega⟩) := by
  unfold vb0 KV
  blk_point [iblk, V, idx t]
theorem vb1_at (c : Dev nD) (t : Fin cfg0.N) (j : Fin 256) (l : Fin 64) :
    vb1 m c t (ix2 j l) = KV m c (ix2 ⟨(seqOf t).val * 256 + j.val, by omega⟩ ⟨512 + ((t.val % 4 * 2 + 1) * 64 + l.val), by omega⟩) := by
  unfold vb1 KV
  blk_point [iblk, V, idx t]

abbrev sw (c : Dev nD) (t : Fin cfg0.N) (p : Fin 2) (q : Fin 3) : Elt Ideal .f32 :=
  View.ld (iblk m c 0 t) (Rect.unit (s := S32) (k0_off2 (grid0.coords t) (BitVec.ofNat 32 p.val) (BitVec.ofNat 32 q.val)) S1.size (k0_off2_inb (grid0.coords t) p q)) (Shape.Idx.first (s := S1) (by decide))
abbrev sw3 (c : Dev nD) (t : Fin cfg0.N) (p : Fin 2) : Elt Ideal .f32 :=
  View.ld (iblk m c 0 t) (Rect.unit (s := S32) (k0_off1 (grid0.coords t) (BitVec.ofNat 32 p.val)) S1.size (k0_off1_inb (grid0.coords t) p)) (Shape.Idx.first (s := S1) (by decide))

theorem sw_at (c : Dev nD) (t : Fin cfg0.N) (p : Fin 2) (q : Fin 3) :
    sw m c t p q = SK m c (ix1 ⟨(t.val % 4 * 2 + p.val) * 4 + q.val, by omega⟩) := by
  have := k0_off2_eq (grid0.coords t) p q
  unfold sw SK
  blk_point [iblk, V, idx t, this]
theorem sw3_at (c : Dev nD) (t : Fin cfg0.N) (p : Fin 2) :
    sw3 m c t p = SK m c (ix1 ⟨(t.val % 4 * 2 + p.val) * 4 + 3, by omega⟩) := by
  have := k0_off1_eq (grid0.coords t) p
  unfold sw3 SK
  blk_point [iblk, V, idx t, this]

/-- A column of sinks of one key group, at a stacked row. -/
theorem sinks_head (c : Dev nD) (t : Fin cfg0.N) (p : Fin 2) (g : Fin 4) (r : Fin 256) :
    sinks (sw m c t p 0) (sw m c t p 1) (sw m c t p 2) (sw3 m c t p) (ix2 ⟨g.val * 256 + r.val, by omega⟩ 0)
      = sinkOf (SK m c) ⟨t.val % 4 * 2 + p.val, by omega⟩ g := by
  rw [sinks_at, sw_at, sw_at, sw_at, sw3_at]
  unfold sinkOf
  have hg := g.isLt
  have hr := r.isLt
  split_ifs with a1 a2 a3
  all_goals
    dsimp only at *
    refine congrArg (SK m c) (congrArg ix1 (Fin.ext ?_))
    show (_ : Nat) = _
    simp
    omega

theorem stored (c : Dev nD) (t : Fin cfg0.N) :
    outsAt0 m c t = beside (attend (k0_pay2 (vb0 m c t)) (k0_pay3 (qb m c t) (kb0 m c t)) (sinks (sw m c t 0 0) (sw m c t 0 1) (sw m c t 0 2) (sw3 m c t 0)))
      (attend (k0_pay11 (vb1 m c t)) (k0_pay12 (k0_pay1 (qb m c t)) (kb1 m c t)) (sinks (sw m c t 1 0) (sw m c t 1 1) (sw m c t 1 2) (sw3 m c t 1))) := by
  rw [outsAt0]; funext y; frame_out
  exact congrFun (whole _ _ _ _ _ _ _ _ _ _ _ _) y

end Cert.KernelIdeal.Final
end
-- ==== Proof.CtxPoint.lean ====
module

public import proofs.«01_k».proof.Proof.CtxFinal

@[expose] public section

set_option maxRecDepth 16384
noncomputable section
open Idealize.ShloMosaic Idealize.ShloMosaic.TcCoe Idealize.SL.Sem
namespace Cert.KernelIdeal.Final
open Cert.KernelIdeal Cert.KernelIdeal.Gen Cert.KernelIdeal.Body
open Cert.ReferenceIdeal.Read (Real' score sinkOf top out scaled normalised val_main_v31 result_at)
variable (m : (ℓ : Loc nD τ sig) → Buf (Elt Ideal) ℓ)

/-- One stacked row of a key group is the reference's attention of that row's head. -/
theorem head (x0 : FVec Ideal S16384x2048 .bf16) (x1 : FVec Ideal S16384x1024 .f32) (x2 : FVec Ideal S32 .f32)
    (h0 : ∀ i, Real' (x0 i)) (h1 : ∀ i, Real' (x1 i)) (h2 : ∀ i, Real' (x2 i))
    (v : FVec Ideal S256x64 .bf16) (s : FVec Ideal S1024x256 .f32) (z : FVec Ideal S1024x1 .f32)
    (b : Fin 32) (h : Fin 8) (g : Fin 4) (r : Fin 256) (d : Fin 64)
    (hv : ∀ j : Fin 256, v (ix2 j d) = x1 (ix2 ⟨b.val * 256 + j.val, by omega⟩ ⟨512 + (h.val * 64 + d.val), by omega⟩))
    (hs : ∀ j : Fin 256, s (ix2 ⟨g.val * 256 + r.val, by omega⟩ j) = score x0 x1 b h g r j)
    (hz : z (ix2 ⟨g.val * 256 + r.val, by omega⟩ 0) = sinkOf x2 h g) :
    attend v s z (ix2 ⟨g.val * 256 + r.val, by omega⟩ d) = out x0 x1 x2 b h g r d := by
  have hp : peak s z ⟨g.val * 256 + r.val, by omega⟩ = top x0 x1 x2 b h g r := by
    unfold peak top
    rw [hz, funext hs]
  rw [attend_at, hp, hz, ← normalised x0 x1 x2 h0 h1 h2]
  simp only [hs, hv]

theorem first_scores (c : Dev nD) (t : Fin cfg0.N) (g : Fin 4) (r j : Fin 256) :
    k0_pay3 (F := Ideal) (qb m c t) (kb0 m c t) (ix2 ⟨g.val * 256 + r.val, by omega⟩ j)
      = score (Q m c) (KV m c) (seqOf t) ⟨t.val % 4 * 2, by omega⟩ g r j := by
  rw [scores1, ← scaled]
  refine Finset.sum_congr rfl fun l _ => ?_
  rw [qb_at, kb0_at]
  exact congrArg (· * KV m c _) (congrArg (· * Ideal.ofBits .f32 0x3E000000#32) (at2 (Q m c) (by dsimp only; omega) (by dsimp only; omega)))

theorem second_scores (c : Dev nD) (t : Fin cfg0.N) (g : Fin 4) (r j : Fin 256) :
    k0_pay12 (F := Ideal) (k0_pay1 (qb m c t)) (kb1 m c t) (ix2 ⟨g.val * 256 + r.val, by omega⟩ j)
      = score (Q m c) (KV m c) (seqOf t) ⟨t.val % 4 * 2 + 1, by omega⟩ g r j := by
  rw [scores2, ← scaled]
  refine Finset.sum_congr rfl fun l _ => ?_
  rw [qb_at, kb1_at]
  exact congrArg (· * KV m c _) (congrArg (· * Ideal.ofBits .f32 0x3E000000#32) (at2 (Q m c) (by dsimp only; omega) (by dsimp only; omega)))

/-- What a grid point stores, at one row and column of its block. -/
theorem block_at (c : Dev nD) (h0 : ∀ i, Real' (Q m c i)) (h1 : ∀ i, Real' (KV m c i)) (h2 : ∀ i, Real' (SK m c i))
    (t : Fin cfg0.N) (r : Fin 256) (j : Fin 512) :
    outsAt0 m c t (ix2 r j)
      = out (Q m c) (KV m c) (SK m c) (seqOf t) ⟨t.val % 4 * 2 + j.val / 256, by omega⟩ ⟨j.val / 64 % 4, by omega⟩ r ⟨j.val % 64, by omega⟩ := by
  rw [stored, beside_at]
  split
  · rename_i hj
    refine (head (Q m c) (KV m c) (SK m c) h0 h1 h2 (k0_pay2 (vb0 m c t)) _ _ (seqOf t) ⟨t.val % 4 * 2, by omega⟩ ⟨j.val / 64 % 4, by omega⟩ r ⟨j.val % 64, by omega⟩
      (fun i => vb0_at m c t i _) (fun i => first_scores m c t ⟨j.val / 64 % 4, by omega⟩ r i) (sinks_head m c t 0 ⟨j.val / 64 % 4, by omega⟩ r)).trans ?_
    exact congrArg (fun h => out (Q m c) (KV m c) (SK m c) (seqOf t) h ⟨j.val / 64 % 4, by omega⟩ r ⟨j.val % 64, by omega⟩) (Fin.ext (by show _ = _; dsimp only; omega))
  · rename_i hj
    refine (head (Q m c) (KV m c) (SK m c) h0 h1 h2 (k0_pay11 (vb1 m c t)) _ _ (seqOf t) ⟨t.val % 4 * 2 + 1, by omega⟩ ⟨j.val / 64 % 4, by omega⟩ r ⟨j.val % 64, by omega⟩
      (fun i => vb1_at m c t i _) (fun i => second_scores m c t ⟨j.val / 64 % 4, by omega⟩ r i) (sinks_head m c t 1 ⟨j.val / 64 % 4, by omega⟩ r)).trans ?_
    exact congrArg (fun h => out (Q m c) (KV m c) (SK m c) (seqOf t) h ⟨j.val / 64 % 4, by omega⟩ r ⟨j.val % 64, by omega⟩) (Fin.ext (by show _ = _; dsimp only; omega))

theorem place (t : Fin cfg0.N) (r : Fin 256) (j : Fin 512) :
    (show S16384x2048.Idx from ((cfg0.win 4).blk t).view.emb (ix2 r j)) = ix2 ⟨(seqOf t).val * 256 + r.val, by omega⟩ ⟨t.val % 4 * 512 + j.val, by omega⟩ := by
  blk_ext! [idx t]

theorem point (c : Dev nD) (h0 : ∀ i, Real' (Q m c i)) (h1 : ∀ i, Real' (KV m c i)) (h2 : ∀ i, Real' (SK m c i))
    (x3 : FVec Ideal S16384x2048 .bf16) (t : Fin cfg0.N) (y : S256x512.Idx) :
    outsAt0 m c t y = val_main_v31 (F := Ideal) (Q m c) (KV m c) (SK m c) x3 (((cfg0.win 4).blk t).view.emb y) := by
  idx_vars y
  refine (block_at m c h0 h1 h2 t _ _).trans ?_
  refine Eq.trans ?_ (congrArg (val_main_v31 (F := Ideal) (Q m c) (KV m c) (SK m c) x3) (place t _ _)).symm
  rw [result_at, dif_pos (by have := (idx t).2.2.2.2.2.2; dsimp only; omega)]
  congr 1 <;> (apply Fin.ext; dsimp only; omega)

/-- The result array after the run: attention in the context's rows, the aliased array's own rows below. -/
theorem final (c : Dev nD) (h0 : ∀ i, Real' (Q m c i)) (h1 : ∀ i, Real' (KV m c i)) (h2 : ∀ i, Real' (SK m c i)) :
    (dats m 0 c).arrAt 4 (cfgs 0).N
      = val_main_v31 (F := Ideal) (Q m c) (KV m c) (SK m c) (m ((c : Thread nD τ).loc main_arg3)) := by
  have key : (dats m 0 c).arrAt 4 (cfgs 0).N
      = fun i => if (i 0).val < 8192 then val_main_v31 (F := Ideal) (Q m c) (KV m c) (SK m c) (m ((c : Thread nD τ).loc main_arg3)) i
          else V m c main_v0 i := by
    refine (dats m 0 c).arrAt_eq_of_coversWhere 4 _ (fun β => β 0 < 32) (by decide +kernel) (fun t hf y => ?_)
      (fun j => by blk_simp [Pipeline.Window.cell_apply]; omega)
    blk_simp
    rw [after0_4]
    exact point m c h0 h1 h2 _ t y
  have hV : V m c main_v0 = m ((c : Thread nD τ).loc main_arg3) := by unfold V; after_results; try rfl
  rw [key, hV]
  funext i
  split
  · rfl
  · rename_i hi
    idx_vars i
    refine ((result_at (Q m c) (KV m c) (SK m c) _ _ _).trans (dif_neg hi)).symm

end Cert.KernelIdeal.Final
end
-- ==== Proof.CtxClaim.lean ====
module

public import proofs.«01_k».proof.Defs
public import proofs.«01_k».proof.Proof.CtxPoint
public import proofs.«01_k».proof.Proof.Gen.KernelIdeal.Value
public import proofs.«01_k».proof.Proof.Gen.Kernel.Frame
public import proofs.«01_k».proof.Proof.Gen.ReferenceIdeal.Run
public import proofs.«01_k».proof.Proof.Gen.Pre_finite_ctx
public import Idealize.ShloMosaic.Lib.Claim
public import Idealize.ShloMosaic.Lib.ReduceAll

@[expose] public section

set_option maxRecDepth 16384
noncomputable section
open Idealize.ShloMosaic Idealize.ShloMosaic.TcCoe Idealize.SL.Sem
namespace Cert.CtxClaim
open Cert.ReferenceIdeal.Read (Real')

theorem pos_inf : Ideal.ofBits .f32 0x7F800000#32 = ⊤ := by simp [Ideal.ofBits, Ideal.ieee]

/-- An extended real whose absolute value is below infinity is an ordinary real. -/
theorem real_of_abs (x : EReal) (h : Ideal.cmp .olt (max x (-x)) (Ideal.ofBits .f32 0x7F800000#32) = 1#1) : Real' x := by
  rw [pos_inf] at h
  induction x using EReal.rec with
  | bot => simp [Ideal.cmp] at h
  | top => simp [Ideal.cmp] at h
  | coe r => exact ⟨r, rfl⟩

theorem and_one (a b : BitVec 1) (h : a &&& b = 1#1) : a = 1#1 ∧ b = 1#1 := by
  revert a b; decide

open Cert.Pre_finite_ctx in
/-- What the precondition says of the three float arrays the attention reads. -/
theorem finite (x0 : FVec Ideal S16384x2048 .bf16) (x1 : FVec Ideal S16384x1024 .f32) (x2 : FVec Ideal S32 .f32) (x3 : FVec Ideal S16384x2048 .bf16)
    (h : Cert.Pre_finite_ctx.fn (F := Ideal) x0 x1 x2 x3 = fun _ => 1#1) :
    (∀ i, Real' (x0 i)) ∧ (∀ i, Real' (x1 i)) ∧ (∀ i, Real' (x2 i)) := by
  have : Subsingleton S_.Idx := ⟨fun a b => funext fun i => i.elim0⟩
  have e := congrFun h ix0
  obtain ⟨e01, e2⟩ := and_one _ _ e
  obtain ⟨e0, e1⟩ := and_one _ _ e01
  refine ⟨fun i => ?_, fun i => ?_, fun i => ?_⟩
  · exact real_of_abs _ (Host.reduce_andi_all _ _ _ _ _ e0 i)
  · exact real_of_abs _ (Host.reduce_andi_all _ _ _ _ _ e1 i)
  · exact real_of_abs _ (Host.reduce_andi_all _ _ _ _ _ e2 i)

theorem algebraic : Cert.algebraic_KernelIdeal_ReferenceIdeal_pre_finite_ctx := by
  pair_intro
  · run_from Cert.KernelIdeal.Gen.run_main m g
  · run_from Cert.ReferenceIdeal.Value.run m' g'
    obtain ⟨a0, a1, a2, a3⟩ := hagree c
    obtain ⟨f0, f1, f2⟩ := finite _ _ _ _ (hpre c)
    rw [Cert.ReferenceIdeal.Read.val_main_v31_eq, a0, a1, a2, a3]
    exact (Cert.KernelIdeal.Final.final m c f0 f1 f2).symm

theorem frame_kernel : Cert.quiescent_Kernel := fun m g _ => Cert.Kernel.Gen.frame m g
theorem frame_ideal : Cert.quiescent_KernelIdeal := fun m g _ => Cert.KernelIdeal.Gen.frame m g
theorem frame_ideal_pre : Cert.quiescent_KernelIdeal_pre_finite_ctx := fun m g _ => Cert.KernelIdeal.Gen.frame m g
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)
theorem frame_reference_pre : Cert.quiescent_ReferenceIdeal_pre_finite_ctx := fun m g _ => frame_reference m g trivial

theorem preserves : Cert.preserves_Kernel_KernelIdeal := trivial

end Cert.CtxClaim

end
-- ==== Proof.FfnIdealKit.lean ====
module

public import proofs.«01_k».proof.Proof.Gen.FfnIdeal.Launch
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.FfnIdeal.Kit

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The call's arrays and tables -/

/-- The buffers of core `c` when the call starts: those of the launch. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables at the launch: each tile's two experts, and the number of tiles in use. -/
def tbl : pre0.Contents (Elt F) := fun j => V m (0 : Dev nD) (pre0.ref j)

/-- There is one device, so every device sees the same tables. -/
theorem V_pre (c : Dev nD) (j : Fin 3) : V m c (pre0.ref j) = tbl m j := by
  obtain rfl : c = 0 := Subsingleton.elim _ _; rfl

/-- Every block a table names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev lowTable : Memref sig .tc .smem S88 .i32 := Memref.whole main_arg1
abbrev lowTable_whole : lowTable.IsWhole := Memref.isWhole_whole _
abbrev highTable : Memref sig .tc .smem S88 .i32 := Memref.whole main_arg2
abbrev highTable_whole : highTable.IsWhole := Memref.isWhole_whole _
abbrev usedTable : Memref sig .tc .smem S1 .i32 := Memref.whole main_arg3
abbrev usedTable_whole : usedTable.IsWhole := Memref.isWhole_whole _

/-- A table's contents on core `c`, and the half share of it the body holds. -/
abbrev Table (c : Dev nD) {S : Shape} {e : EltTy} (M : Memref sig .tc .smem S e) : Type := Buf (Elt F) (M.view.loc (c : Thread nD τ))
abbrev held (c : Dev nD) {S : Shape} {e : EltTy} (M : Memref sig .tc .smem S e) (f : Table (F := F) c M) : sProp 𝕄 :=
  M.view.loc (c : Thread nD τ) ↦{fullShare.right} f

/-- The tables' halves, one by one. -/
theorem tables_eq (c : Dev nD) : (Pipeline.ΦT pre0 (tbl m) c : sProp 𝕄)
    = iprop(held c lowTable (tbl m 0) ∗ held c highTable (tbl m 1) ∗ held c usedTable (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The blocks -/

/-- The block of window `w` at tile `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0 is in its staging buffer at every tile, whether fetched there or kept. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1 is in its staging buffer at every tile, whether fetched there or kept. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2 is in its staging buffer at every tile, whether fetched there or kept. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3 is in its staging buffer at every tile, whether fetched there or kept. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4 is in its staging buffer at every tile, whether fetched there or kept. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5 is in its staging buffer at every tile, whether fetched there or kept. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6 is in its staging buffer at every tile, whether fetched there or kept. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- A run of the call leaves the arguments as they were. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      (h c).2 main_arg3 (by decide : main_arg3 ∈ Pipeline.restRefs sig spec0),
      ((h c).1 4).trans (((dats 0 c).arrAt_in 4 rfl _).trans (hA c 4)),
      ((h c).1 5).trans (((dats 0 c).arrAt_in 5 rfl _).trans (hA c 5)),
      ((h c).1 6).trans (((dats 0 c).arrAt_in 6 rfl _).trans (hA c 6))⟩) h

/-! ## The body on any staging buffers -/

/-- One staging buffer of the output, through which its contents are stated. -/
abbrev VO : View sig .tc .vmem S256x2048 .f32 := (Memref.whole cc0_stg7_0 : Memref sig .tc .vmem S256x2048 .f32).view
abbrev ms0_0 (hO : Ok m) (t : Fin (cfgM m hO).N) : Memref sig .tc .vmem S256x2176 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x2048x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2048x512 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x512x2048 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x2048 .f32 := spec0_7.stage ((cfgM m hO).slots t 7)
abbrev hs0_7 (hO : Ok m) (t : Fin (cfgM m hO).N) : (ms0_7 m hO t).IsWhole := hstage0_7 (((cfgM m hO).slots t 7).cast nbuf0_7)

/-- The body as it is called at tile `t`. -/
abbrev bodyAt0 (a : (pcfg0 (F := F)).Adm) (t : Fin (cfg0 a).N) : Prog (TpuEff nD τ sig (Elt F) Λ₀ .tc) PUnit :=
  cc0_moe_ffn (grid0.coords t) lowTable lowTable_whole highTable highTable_whole usedTable usedTable_whole (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-- The number of tiles in use, as the body reads it. -/
abbrev usedWord (c : Dev nD) (xt2 : Table (F := F) c usedTable) : BitVec 32 :=
  usedTable.view.readAt (Elt F) (Rect.unit (s := S1) ![0] S1.size inb_S1_S1_0).toLoadRect xt2 (Shape.Idx.first (numel1_S1.symm ▸ Nat.one_pos))

set_option maxHeartbeats 1000000 in
/-- The body at a tile in use: what it stores, with its triple. -/
noncomputable def runUsed (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : k0_cond1 i (usedTable.view.readAt (Elt F) (Rect.unit (s := S1) ![0] S1.size inb_S1_S1_0).toLoadRect xt2 (Shape.Idx.first (numel1_S1.symm ▸ Nat.one_pos))) = 1#1) (h2 : ¬ k0_cond2 i (usedTable.view.readAt (Elt F) (Rect.unit (s := S1) ![0] S1.size inb_S1_S1_0).toLoadRect xt2 (Shape.Idx.first (numel1_S1.symm ▸ Nat.one_pos))) = 1#1) :
    { L7 : List (View.Piece (Elt F) S256x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ held c lowTable xt0 ∗ held c highTable xt1 ∗ held c usedTable xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ held c lowTable xt0 ∗ held c highTable xt1 ∗ held c usedTable xt2) -∗ K ⟨⟩))
          ⊢ wp frame (wpE (defs₀ (F := F)) Variants.none c none) E (cc0_moe_ffn i lowTable lowTable_whole highTable highTable_whole usedTable usedTable_whole arg4 harg4 arg5 harg5 arg6 harg6 arg7 harg7 arg8 harg8 arg9 harg9 arg10 harg10 arg11 harg11) K } := by
  refine ⟨?_, fun E K => ?run⟩
  case run =>
    simp only [cc0_moe_ffn_eq_skeleton]; unfold cc0_moe_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HT0]; · iexact HT0
    isplitl [HT1]; · iexact HT1
    iexact HT2

set_option maxHeartbeats 1000000 in
/-- The body at a tile not in use: what it stores, with its triple. -/
noncomputable def runSpare (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : ¬ k0_cond1 i (usedTable.view.readAt (Elt F) (Rect.unit (s := S1) ![0] S1.size inb_S1_S1_0).toLoadRect xt2 (Shape.Idx.first (numel1_S1.symm ▸ Nat.one_pos))) = 1#1) (h2 : k0_cond2 i (usedTable.view.readAt (Elt F) (Rect.unit (s := S1) ![0] S1.size inb_S1_S1_0).toLoadRect xt2 (Shape.Idx.first (numel1_S1.symm ▸ Nat.one_pos))) = 1#1) :
    { L7 : List (View.Piece (Elt F) S256x2048 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ held c lowTable xt0 ∗ held c highTable xt1 ∗ held c usedTable xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ f, arg11.view.loc (c : Thread nD τ) ↦[arg11.view.set]{fullShare} arg11.view.writes (Elt F) f L7) ∗ held c lowTable xt0 ∗ held c highTable xt1 ∗ held c usedTable xt2) -∗ K ⟨⟩))
          ⊢ wp frame (wpE (defs₀ (F := F)) Variants.none c none) E (cc0_moe_ffn i lowTable lowTable_whole highTable highTable_whole usedTable usedTable_whole arg4 harg4 arg5 harg5 arg6 harg6 arg7 harg7 arg8 harg8 arg9 harg9 arg10 harg10 arg11 harg11) K } := by
  refine ⟨?_, fun E K => ?run⟩
  case run =>
    simp only [cc0_moe_ffn_eq_skeleton]; unfold cc0_moe_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]; · iexists _; iexact H7
    isplitl [HT0]; · iexact HT0
    isplitl [HT1]; · iexact HT1
    iexact HT2

end Cert.FfnIdeal.Kit

end
-- ==== Proof.FfnIdealFrame.lean ====
module

public import proofs.«01_k».proof.Proof.FfnIdealKit

@[expose] public section

set_option maxRecDepth 16384

noncomputable section

namespace Cert.FfnIdeal.Kit

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile is either before the number of tiles in use or not. -/
theorem spare_iff (i : grid0.Coords) (w : BitVec 32) : k0_cond2 i w = 1#1 ↔ ¬ k0_cond1 i w = 1#1 := by
  have h : ∀ b : Bool, (Scalar.cmpi .ne (Scalar.extui (BitVec.ofBool b) : BitVec 32) 0#32 = 1#1) ↔ b = true := by decide
  have h1 : k0_cond1 i w = 1#1 ↔ (BitVec.ofNat 32 (i 0).val).slt w = true := h _
  have h2 : k0_cond2 i w = 1#1 ↔ w.sle (BitVec.ofNat 32 (i 0).val) = true := h _
  rw [h1, h2]
  simp [BitVec.slt, BitVec.sle]

/-- The one store fills the block. -/
theorem coverUsed (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : k0_cond1 i (usedWord c xt2) = 1#1) (h2 : ¬ k0_cond2 i (usedWord c xt2) = 1#1) (y : S256x2048.Idx) :
    ∃ pc ∈ (runUsed c i arg4 harg4 arg5 harg5 arg6 harg6 arg7 harg7 arg8 harg8 arg9 harg9 arg10 harg10 arg11 harg11 x0 x1 x2 x3 x4 x5 x6 xt0 xt1 xt2 h1 h2).1, y ∈ pc.1.set :=
  View.cover_of_tiledL (runUsed c i arg4 harg4 arg5 harg5 arg6 harg6 arg7 harg7 arg8 harg8 arg9 harg9 arg10 harg10 arg11 harg11 x0 x1 x2 x3 x4 x5 x6 xt0 xt1 xt2 h1 h2).1 S256x2048.size (by sl_kernel_rfl) y

/-- What the body leaves in the output's staging buffer. -/
def outUsed (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : k0_cond1 i (usedWord c xt2) = 1#1) (h2 : ¬ k0_cond2 i (usedWord c xt2) = 1#1) : Vec F S256x2048 .f32 :=
  VO.read (Elt F) (VO.writes (Elt F) VO.junk (runUsed c i arg4 harg4 arg5 harg5 arg6 harg6 arg7 harg7 arg8 harg8 arg9 harg9 arg10 harg10 arg11 harg11 x0 x1 x2 x3 x4 x5 x6 xt0 xt1 xt2 h1 h2).1)

/-- The one store fills the block. -/
theorem coverSpare (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : ¬ k0_cond1 i (usedWord c xt2) = 1#1) (h2 : k0_cond2 i (usedWord c xt2) = 1#1) (y : S256x2048.Idx) :
    ∃ pc ∈ (runSpare c i arg4 harg4 arg5 harg5 arg6 harg6 arg7 harg7 arg8 harg8 arg9 harg9 arg10 harg10 arg11 harg11 x0 x1 x2 x3 x4 x5 x6 xt0 xt1 xt2 h1 h2).1, y ∈ pc.1.set :=
  View.cover_of_tiledL (runSpare c i arg4 harg4 arg5 harg5 arg6 harg6 arg7 harg7 arg8 harg8 arg9 harg9 arg10 harg10 arg11 harg11 x0 x1 x2 x3 x4 x5 x6 xt0 xt1 xt2 h1 h2).1 S256x2048.size (by sl_kernel_rfl) y

/-- What the body leaves in the output's staging buffer. -/
def outSpare (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole) (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : Vec F S256x2176 .f32) (x1 : Vec F S1x1x2048x512 .bf16) (x2 : Vec F S1x1x2048x512 .bf16) (x3 : Vec F S1x1x512x2048 .bf16) (x4 : Vec F S1x1x2048x512 .bf16) (x5 : Vec F S1x1x2048x512 .bf16) (x6 : Vec F S1x1x512x2048 .bf16) (xt0 : Table (F := F) c lowTable) (xt1 : Table (F := F) c highTable) (xt2 : Table (F := F) c usedTable) (h1 : ¬ k0_cond1 i (usedWord c xt2) = 1#1) (h2 : k0_cond2 i (usedWord c xt2) = 1#1) : Vec F S256x2048 .f32 :=
  VO.read (Elt F) (VO.writes (Elt F) VO.junk (runSpare c i arg4 harg4 arg5 harg5 arg6 harg6 arg7 harg7 arg8 harg8 arg9 harg9 arg10 harg10 arg11 harg11 x0 x1 x2 x3 x4 x5 x6 xt0 xt1 xt2 h1 h2).1)

/-! ## The output, tile by tile -/

/-- Tile `t` is in use. -/
abbrev InUse (c : Dev nD) (i : grid0.Coords) : Prop := k0_cond1 i (usedWord (F := F) c (tbl m 2)) = 1#1

/-- What the output's staging buffer holds after tile `t`. -/
@[irreducible] def outsAt0 (hO : Ok m) (c : Dev nD) (t : Fin (cfgM m hO).N) : Vec F S256x2048 .f32 :=
  if h : InUse m c (grid0.coords t) then
    outUsed c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) h (fun h' => (spare_iff _ _).1 h' h)
  else
    outSpare c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (tbl m 1) (tbl m 2) h ((spare_iff _ _).2 h)

/-- The data of the pipeline: arrays as at the launch, each input kept at its block, the output as above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outsAt0 m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- The output is stored at every tile, in use or not. -/
theorem never_idle (hO : Ok m) (i : grid0.Coords) : (cfgM m hO).idle 7 i = false := by
  show (!(k0_cond1 i ((tbl m).atD 2 ![0]) == 1#1) && !(k0_cond2 i ((tbl m).atD 2 ![0]) == 1#1)) = false
  by_cases h : k0_cond1 i ((tbl m).atD 2 ![0]) = 1#1
  · simp [h]
  · simp [(spare_iff i ((tbl m).atD 2 ![0])).2 h]

theorem leaves_output (hO : Ok m) (c : Dev nD) (t : Fin (cfgM m hO).N) :
    (dats m hO 0 c).leavesExact 7 t = owns (c : Thread nD τ) (ms0_7 m hO t) fullShare (outsAt0 m hO c t) := by
  unfold Dat.leavesExact
  rw [never_idle m hO]
  show owns _ _ _ ((dats m hO 0 c).after 7 t) = _
  rw [after0_7]
  rfl

/-- What the body is called with at tile `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it gives back. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (dats m hO 0 c).leavesExact 7 t)

set_option maxHeartbeats 1600000 in
/-- The body at any tile. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, leaves_output]
  rw [show (dats m hO 0 c).Φ t.castSucc = iprop(Pipeline.ΦA spec0 c ∗ Pipeline.ΦT pre0 (tbl m) c) from rfl, tables_eq]
  unfold outsAt0
  by_cases h : InUse m c (grid0.coords t)
  · rw [dif_pos h]
    unfold outUsed
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runUsed c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) h (fun h' => (spare_iff _ _).1 h' h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverUsed c _ _ _ _ _ _ _ _ _ _ _ _ _ _ _ _ _ _ _ _ _ _ _ _ _ _ _ h _)
  · rw [dif_neg h]
    unfold outSpare
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runSpare c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) h ((spare_iff _ _).2 h)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverSpare c _ _ _ _ _ _ _ _ _ _ _ _ _ _ _ _ _ _ _ _ _ _ _ _ _ _ _ h _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
/-- The body at every tile, as the pipeline asks for it. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
/-- Every run ends, with each array as the data compute it and every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame: the arguments are as they were, and every semaphore counter is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ hO (dats m hO) (A_eq m hO) (run_main m ρ hO)) ((θ_run defs _ _).mono (fun _ h => h.2) (run_main_quiescent m ρ hO))

end Cert.FfnIdeal.Kit

end
-- ==== Proof.FfnIdealOk.lean ====
module

public import proofs.«01_k».proof.Defs
public import proofs.«01_k».proof.Proof.FfnIdealKit
public import proofs.«01_k».proof.Proof.Gen.Pre_planned
public import Idealize.ShloMosaic.Lib.ReduceAll
public import Idealize.ShloMosaic.Lib.Pipeline.ValueKit

@[expose] public section

set_option maxRecDepth 16384
noncomputable section
open Idealize.ShloMosaic Idealize.ShloMosaic.TcCoe Idealize.SL.Sem
namespace Cert.FfnIdeal.Kit
open Cert.FfnIdeal Cert.FfnIdeal.Gen

variable {F : FTy → Type} [FloatOps F] (m : (ℓ : Loc nD τ sig) → Buf (Elt F) ℓ)

/-- A tile's first expert, its second, and the number of tiles in use, as words. -/
abbrev lowWords : IVec S88 32 := m (((0 : Dev nD) : Thread nD τ).loc main_arg1)
abbrev highWords : IVec S88 32 := m (((0 : Dev nD) : Thread nD τ).loc main_arg2)
abbrev usedWords : IVec S1 32 := m (((0 : Dev nD) : Thread nD τ).loc main_arg3)

/-- What the host's plan gives: the two experts of a tile are among the sixteen, the first below the second. -/
def Planned (lo hi : IVec S88 32) : Prop := ∀ t : Fin 88, (lo (ix1 t)).toNat < (hi (ix1 t)).toNat ∧ (hi (ix1 t)).toNat < 16

theorem word_lt (a b : BitVec 32) (h0 : (0#32).sle a = true) (h1 : a.slt b = true) (h2 : b.slt 16#32 = true) :
    a.toNat < b.toNat ∧ b.toNat < 16 := by
  have e0 : (0 : Int) ≤ a.toInt := by simpa [BitVec.sle] using h0
  have e1 : a.toInt < b.toInt := by simpa [BitVec.slt] using h1
  have e2 : b.toInt < 16 := by simpa [BitVec.slt] using h2
  rw [BitVec.toInt_eq_toNat_cond] at e0 e1 e2
  rw [BitVec.toInt_eq_toNat_cond] at e1
  split_ifs at e0 e1 e2 <;> omega

theorem and_one (a b : BitVec 1) (h : a &&& b = 1#1) : a = 1#1 ∧ b = 1#1 := by
  revert a b; decide

theorem bit_true (b : Bool) (h : BitVec.ofBool b = 1#1) : b = true := by
  revert b; decide

theorem planned_of (x0 : FVec F Cert.Pre_planned.S22528x2176 .f32) (lo hi : IVec S88 32) (n : IVec S1 32)
    (x4 x5 : FVec F Cert.Pre_planned.S2x16x2048x512 .bf16) (x6 : FVec F Cert.Pre_planned.S2x16x512x2048 .bf16)
    (h : Cert.Pre_planned.fn (F := F) x0 lo hi n x4 x5 x6 = fun _ => 1#1) : Planned lo hi := by
  have : Subsingleton Cert.Pre_planned.S_.Idx := ⟨fun a b => funext fun i => i.elim0⟩
  have e := congrFun h Idealize.ShloMosaic.ix0
  obtain ⟨e01, e2⟩ := and_one _ _ e
  obtain ⟨e0, e1⟩ := and_one _ _ e01
  intro t
  exact word_lt _ _ (bit_true _ (Host.reduce_andi_all _ _ _ _ _ e0 (ix1 t))) (bit_true _ (Host.reduce_andi_all _ _ _ _ _ e1 (ix1 t)))
    (bit_true _ (Host.reduce_andi_all _ _ _ _ _ e2 (ix1 t)))

theorem coord_toNat (i : grid0.Coords) : (Scalar.indexCast (BitVec.ofNat 32 (i 0).val) : Index).toNat = (i 0).val := by
  have h : ∀ i : grid0.Coords, (Scalar.indexCast (BitVec.ofNat 32 (i 0).val) : Index).toNat = (i 0).val := by decide +kernel
  exact h i

theorem tile_ext (j k : S88.Idx) (h : (j 0).val = (k 0).val) : j = k := by
  funext a
  obtain rfl : a = 0 := Subsingleton.elim _ _
  exact Fin.ext h

/-- A tile's expert as the index maps read it. -/
theorem low_at (i : grid0.Coords) :
    (tbl m).at 0 (Rect.unit (s := S88) ![(Scalar.indexCast (BitVec.ofNat 32 (i 0).val) : Index).toNat] S1.size (k0_off1_inb i)) numel1_S1
      = lowWords m (ix1 (i 0)) := by
  exact congrArg (lowWords m) (tile_ext _ _ ((Nat.add_zero _).trans (coord_toNat i)))
theorem high_at (i : grid0.Coords) :
    (tbl m).at 1 (Rect.unit (s := S88) ![(Scalar.indexCast (BitVec.ofNat 32 (i 0).val) : Index).toNat] S1.size (k0_off1_inb i)) numel1_S1
      = highWords m (ix1 (i 0)) := by
  exact congrArg (highWords m) (tile_ext _ _ ((Nat.add_zero _).trans (coord_toNat i)))

/-- The blocks the six weight windows name. -/
theorem map1 (i : grid0.Coords) : cc0_transform_1 k0_off1_inb numel1_S1 (tbl m) i = ![0, (lowWords m (ix1 (i 0))).toNat, 0, 0] := by
  unfold cc0_transform_1; dsimp only; rw [low_at]; rfl
theorem map2 (i : grid0.Coords) : cc0_transform_2 k0_off1_inb numel1_S1 (tbl m) i = ![0, (lowWords m (ix1 (i 0))).toNat, 0, 0] := by
  unfold cc0_transform_2; dsimp only; rw [low_at]; rfl
theorem map3 (i : grid0.Coords) : cc0_transform_3 k0_off1_inb numel1_S1 (tbl m) i = ![0, (lowWords m (ix1 (i 0))).toNat, 0, 0] := by
  unfold cc0_transform_3; dsimp only; rw [low_at]; rfl
theorem map4 (i : grid0.Coords) : cc0_transform_4 k0_off1_inb numel1_S1 (tbl m) i = ![0, (highWords m (ix1 (i 0))).toNat, 0, 0] := by
  unfold cc0_transform_4; dsimp only; rw [high_at]; rfl
theorem map5 (i : grid0.Coords) : cc0_transform_5 k0_off1_inb numel1_S1 (tbl m) i = ![0, (highWords m (ix1 (i 0))).toNat, 0, 0] := by
  unfold cc0_transform_5; dsimp only; rw [high_at]; rfl
theorem map6 (i : grid0.Coords) : cc0_transform_6 k0_off1_inb numel1_S1 (tbl m) i = ![0, (highWords m (ix1 (i 0))).toNat, 0, 0] := by
  unfold cc0_transform_6; dsimp only; rw [high_at]; rfl

theorem wide (e : Nat) (he : e < 16) : ∀ a, ((![0, e, 0, 0] : Fin 4 → Nat) a + 1) * S1x1x2048x512.size a ≤ S2x16x2048x512.size a := by
  intro a; fin_cases a <;> simp <;> omega
theorem tall (e : Nat) (he : e < 16) : ∀ a, ((![0, e, 0, 0] : Fin 4 → Nat) a + 1) * S1x1x512x2048.size a ≤ S2x16x512x2048.size a := by
  intro a; fin_cases a <;> simp <;> omega

/-- Under the plan, every block a table names lies inside its array. -/
theorem ok_of (h : Planned (lowWords m) (highWords m)) : Ok m := by
  have lo : ∀ i : grid0.Coords, (lowWords m (ix1 (i 0))).toNat < 16 := fun i => (h (i 0)).1.trans (h (i 0)).2
  have hi : ∀ i : grid0.Coords, (highWords m (ix1 (i 0))).toNat < 16 := fun i => (h (i 0)).2
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩, fun i => ⟨?_, .inr (Affine.block_words_dvd (of_decide_eq_true rfl) (by decide))⟩⟩
  · rw [map1]; exact wide _ (lo i)
  · rw [map2]; exact wide _ (lo i)
  · rw [map3]; exact tall _ (lo i)
  · rw [map4]; exact wide _ (hi i)
  · rw [map5]; exact wide _ (hi i)
  · rw [map6]; exact tall _ (hi i)

end Cert.FfnIdeal.Kit

namespace Cert.FfnIdeal.Kit
open Cert.FfnIdeal Cert.FfnIdeal.Gen

theorem planned_of_pre (m : (ℓ : Loc nD τ sig) → Buf (Elt Ideal) ℓ) (h : Cert.Pre_FfnIdeal m) : Planned (lowWords m) (highWords m) :=
  planned_of _ _ _ _ _ _ _ (h 0)

end Cert.FfnIdeal.Kit

end
-- ==== Proof.FfnRef.lean ====
module

public import proofs.«01_k».proof.Proof.Gen.FfnReferenceIdeal.Read
public import Idealize.ShloMosaic.Lib.Pipeline.ValueKit

@[expose] public section

set_option maxRecDepth 16384
noncomputable section
open Idealize.ShloMosaic Idealize.ShloMosaic.TcCoe Idealize.SL.Sem
namespace Cert.FfnReferenceIdeal.Read
open Cert.FfnReferenceIdeal Cert.FfnReferenceIdeal.Gen

variable (x0 : FVec Ideal S22528x2176 .f32) (x1 x2 : IVec S88 32) (x3 : IVec S1 32)
  (x4 x5 : FVec Ideal S2x16x2048x512 .bf16) (x6 : FVec Ideal S2x16x512x2048 .bf16)

/-- A row's value times its logistic. -/
def swish (x : EReal) : EReal :=
  x * Ideal.div (Ideal.ofBits .f32 0x3F800000#32) (Ideal.ofBits .f32 0x3F800000#32 + Ideal.exp (-x))

/-- Row `r` through one weight of expert `e`, at hidden lane `f`. -/
def into (w : FVec Ideal S2x16x2048x512 .bf16) (e : Fin 16) (r : Fin 22528) (f : Fin 512) : EReal :=
  ∑ k : Fin 2048, w (ix4 0 e k f) * x0 (ix2 r ⟨k.val, by omega⟩)

/-- Expert `e` of row `r`, at output lane `d`. -/
def expert (e : Fin 16) (r : Fin 22528) (d : Fin 2048) : EReal :=
  ∑ f : Fin 512, (swish (into x0 x4 e r f) * into x0 x5 e r f) * x6 (ix4 0 e f d)

/-- The weight of expert `e` in row `r`, whose tile is `t`. -/
def gate (r : Fin 22528) (e : Fin 16) : EReal :=
  if (BitVec.ofNat 32 (r.val / 256)).slt (x3 (ix1 0)) = true then
    if BitVec.ofNat 32 e.val = x1 (ix1 ⟨r.val / 256, by omega⟩) then x0 (ix2 r ⟨2048, by omega⟩)
    else if BitVec.ofNat 32 e.val = x2 (ix1 ⟨r.val / 256, by omega⟩) then x0 (ix2 r ⟨2049, by omega⟩) else 0
  else 0

theorem zero_bits : Ideal.ofBits .f32 0x00000000#32 = 0 := by simp [Ideal.ofBits, Ideal.ieee]

theorem sel_eq (a b : BitVec 32) (u v : EReal) : Scalar.select (IntOp.cmpi .eq a b) u v = if a = b then u else v := by
  change (if IntOp.cmpi .eq a b = 1#1 then u else v) = _
  have h : IntOp.cmpi .eq a b = 1#1 ↔ a = b := by
    show BitVec.ofBool (a == b) = 1#1 ↔ a = b
    by_cases h : a = b
    · simp [h]
    · simp [beq_eq_false_iff_ne.2 h, h]
  by_cases hh : a = b
  · rw [if_pos (h.2 hh), if_pos hh]
  · rw [if_neg (fun c => hh (h.1 c)), if_neg hh]

theorem sel_lt (a b : BitVec 32) (u v : EReal) : Scalar.select (IntOp.cmpi .slt a b) u v = if a.slt b = true then u else v := by
  change (if IntOp.cmpi .slt a b = 1#1 then u else v) = _
  have h : IntOp.cmpi .slt a b = 1#1 ↔ a.slt b = true := by
    show BitVec.ofBool (a.slt b) = 1#1 ↔ _
    cases a.slt b <;> decide
  by_cases hh : a.slt b = true
  · rw [if_pos (h.2 hh), if_pos hh]
  · rw [if_neg (fun c => hh (h.1 c)), if_neg hh]

theorem second_at (r : Fin 22528) (e : Fin 16) : val_main_v21 (F := Ideal) x0 x2 (ix2 r e)
    = if BitVec.ofNat 32 e.val = x2 (ix1 ⟨r.val / 256, by omega⟩) then x0 (ix2 r ⟨2049, by omega⟩) else 0 := by
  pointwise [val_main_v21, val_main_v19, val_main_v17, val_main_v6, val_main_v5, val_main_v18, val_main_v12, val_main_v11, val_main_v10,
      val_main_call0_v1, val_main_v20, val_main_call0_v2, val_main_call0_v0, val_main_cst]
  refine (sel_eq _ _ _ _).trans ?_
  show (if _ then _ else Ideal.ofBits .f32 0x00000000#32) = _
  rw [zero_bits]

theorem into1_at (e : Fin 16) (r : Fin 22528) (f : Fin 512) : val_main_v37 (F := Ideal) x0 x4 (ix3 e r f) = into x0 x4 e r f := by
  unfold into
  pointwise [val_main_v37, val_main_v36, val_main_v29, val_main_v28, val_main_v27, val_main_v0]

theorem into3_at (e : Fin 16) (r : Fin 22528) (f : Fin 512) : val_main_v40 (F := Ideal) x0 x5 (ix3 e r f) = into x0 x5 e r f := by
  unfold into
  pointwise [val_main_v40, val_main_v39, val_main_v32, val_main_v31, val_main_v30, val_main_v0]

theorem hidden_at (e : Fin 16) (r : Fin 22528) (f : Fin 512) :
    val_main_v41 (F := Ideal) x0 x4 x5 (ix3 e r f) = swish (into x0 x4 e r f) * into x0 x5 e r f := by
  rw [val_main_v41_apply, into3_at, val_main_v38_apply, val_main_call3_v5_apply, val_main_call3_v4_apply, val_main_call3_v3_apply,
    val_main_call3_v2_apply, val_main_call3_v1_apply, val_main_call3_v0_apply, into1_at]
  rfl

theorem out_step (a : FVec Ideal S16x22528x512 .f32) (w : FVec Ideal S16x512x2048 .f32) (e : Fin 16) (r : Fin 22528) (d : Fin 2048) :
    Host.dotGeneral (F := Ideal) dot_S16x22528x512_S16x512x2048_S16x22528x2048_2_1_1_2_0_0 none a w (ix3 e r d)
      = ∑ f : Fin 512, a (ix3 e r f) * w (ix3 e f d) := by
  pointwise

theorem w2_at (e : Fin 16) (f : Fin 512) (d : Fin 2048) : val_main_v35 (F := Ideal) x6 (ix3 e f d) = x6 (ix4 0 e f d) := by
  pointwise [val_main_v35, val_main_v34, val_main_v33]

theorem expert_at (e : Fin 16) (r : Fin 22528) (d : Fin 2048) :
    val_main_v42 (F := Ideal) x0 x4 x5 x6 (ix3 e r d) = expert x0 x4 x5 x6 e r d := by
  unfold val_main_v42 expert
  rw [out_step]
  exact Finset.sum_congr rfl fun f _ => by rw [hidden_at, w2_at]

theorem gate_at (r : Fin 22528) (e : Fin 16) : val_main_v26 (F := Ideal) x0 x1 x2 x3 (ix2 r e) = gate x0 x1 x2 x3 r e := by
  have first : val_main_v22 (F := Ideal) x0 x1 x2 (ix2 r e)
      = if BitVec.ofNat 32 e.val = x1 (ix1 ⟨r.val / 256, by omega⟩) then x0 (ix2 r ⟨2048, by omega⟩) else val_main_v21 (F := Ideal) x0 x2 (ix2 r e) := by
    generalize hz : val_main_v21 (F := Ideal) x0 x2 = z
    pointwise [val_main_v22, hz, val_main_v15, val_main_v13, val_main_v6, val_main_v5, val_main_v14, val_main_v9, val_main_v8, val_main_v7,
      val_main_call1_v0, val_main_v16]
    exact sel_eq _ _ _ _
  have used : val_main_v26 (F := Ideal) x0 x1 x2 x3 (ix2 r e)
      = if (BitVec.ofNat 32 (r.val / 256)).slt (x3 (ix1 0)) = true then val_main_v22 (F := Ideal) x0 x1 x2 (ix2 r e) else 0 := by
    generalize hz : val_main_v22 (F := Ideal) x0 x1 x2 = z
    pointwise [val_main_v26, hz, val_main_call2_v1, val_main_v25, val_main_v4, val_main_v3, val_main_v2, val_main_v1, val_main_v24, val_main_v23,
      val_main_call2_v2, val_main_call2_v0, val_main_cst_0]
    refine (sel_lt _ _ _ _).trans ?_
    show (if _ then _ else Ideal.ofBits .f32 0x00000000#32) = _
    rw [zero_bits]
  rw [used, first, second_at]
  rfl

theorem sum_step (a : FVec Ideal S16x22528x2048 .f32) (v : FVec Ideal S_ .f32) (hv : ∀ i, v i = 0) (r : Fin 22528) (d : Fin 2048) :
    Host.reduceAdd (F := Ideal) a v reducesTo_S16x22528x2048_S22528x2048_d0 h_S_ (ix2 r d) = ∑ e : Fin 16, a (ix3 e r d) := by
  pointwise
  rw [hv, zero_add]

theorem wide_at (r : Fin 22528) (e : Fin 16) (d : Fin 2048) : val_main_v45 (F := Ideal) x0 x1 x2 x3 (ix3 e r d) = gate x0 x1 x2 x3 r e := by
  rw [← gate_at]
  generalize hz : val_main_v26 (F := Ideal) x0 x1 x2 x3 = z
  pointwise [val_main_v45, val_main_v44, val_main_v43, hz]

theorem result_at (r : Fin 22528) (d : Fin 2048) :
    val_main_v47 (F := Ideal) x0 x1 x2 x3 x4 x5 x6 (ix2 r d) = ∑ e : Fin 16, gate x0 x1 x2 x3 r e * expert x0 x4 x5 x6 e r d := by
  unfold val_main_v47
  rw [sum_step _ (val_main_cst_1 (F := Ideal)) (fun i => zero_bits)]
  exact Finset.sum_congr rfl fun e _ => by rw [val_main_v46_apply, wide_at, expert_at]; rfl

/-- The sum over the sixteen has two terms at most: the weights are zero but at the tile's two experts. -/
theorem two_terms (r : Fin 22528) (d : Fin 2048) (a b : Fin 16)
    (ha : x1 (ix1 ⟨r.val / 256, by omega⟩) = BitVec.ofNat 32 a.val) (hb : x2 (ix1 ⟨r.val / 256, by omega⟩) = BitVec.ofNat 32 b.val) (hab : a ≠ b) :
    val_main_v47 (F := Ideal) x0 x1 x2 x3 x4 x5 x6 (ix2 r d)
      = if (BitVec.ofNat 32 (r.val / 256)).slt (x3 (ix1 0)) = true then
          x0 (ix2 r ⟨2048, by omega⟩) * expert x0 x4 x5 x6 a r d + x0 (ix2 r ⟨2049, by omega⟩) * expert x0 x4 x5 x6 b r d
        else 0 := by
  have inj : ∀ e e' : Fin 16, BitVec.ofNat 32 e.val = BitVec.ofNat 32 e'.val ↔ e = e' := by decide
  rw [result_at]
  unfold gate
  split_ifs with hu
  · rw [ha, hb]
    simp only [inj]
    rw [← Finset.sum_subset (Finset.subset_univ {a, b}), Finset.sum_pair hab]
    · rw [if_pos rfl, if_neg hab.symm, if_pos rfl]
    · intro e _ he
      rw [Finset.mem_insert, Finset.mem_singleton, not_or] at he
      rw [if_neg he.1, if_neg he.2, zero_mul]
  · exact Finset.sum_eq_zero fun e _ => zero_mul _

end Cert.FfnReferenceIdeal.Read
end
-- ==== Proof.FfnBody.lean ====
module

public import proofs.«01_k».proof.Proof.Gen.FfnIdeal.Skeleton
public import proofs.«01_k».proof.Proof.FfnRef

@[expose] public section

set_option maxRecDepth 16384
noncomputable section
open Idealize.ShloMosaic Idealize.ShloMosaic.TcCoe Idealize.SL.Sem
namespace Cert.FfnIdeal.Body
open Cert.FfnIdeal Cert.FfnIdeal.Gen
open Cert.FfnReferenceIdeal.Read (swish zero_bits)

/-- A tile of rows through one weight of an expert. -/
def through (x : FVec Ideal S256x2048 .f32) (w : FVec Ideal S1x1x2048x512 .bf16) (p : Fin 256) (f : Fin 512) : EReal :=
  ∑ k : Fin 2048, w (ix4 0 0 k f) * x (ix2 p k)

theorem mm_at (x : FVec Ideal S256x2048 .bf16) (w : FVec Ideal S2048x512 .bf16) (p : Fin 256) (f : Fin 512) :
    matmul (F := Ideal) dot_S256x2048_S2048x512_S256x512_1_0_0_1_n_n none x w (constant S256x512 .f32 0x00000000#32) (ix2 p f)
      = ∑ k : Fin 2048, w (ix2 k f) * x (ix2 p k) := by
  pointwise
  refine Finset.sum_congr rfl fun k _ => mul_comm _ _

theorem mm2_at (x : FVec Ideal S256x512 .bf16) (w : FVec Ideal S512x2048 .bf16) (p : Fin 256) (d : Fin 2048) :
    matmul (F := Ideal) dot_S256x512_S512x2048_S256x2048_1_0_0_1_n_n none x w (constant S256x2048 .f32 0x00000000#32) (ix2 p d)
      = ∑ f : Fin 512, x (ix2 p f) * w (ix2 f d) := by
  pointwise

theorem wide_cast (w : FVec Ideal S1x1x2048x512 .bf16) (k : Fin 2048) (f : Fin 512) :
    shapeCast S2048x512 w shapeCasts_S1x1x2048x512_S2048x512 (ix2 k f) = w (ix4 0 0 k f) := by
  pointwise
theorem tall_cast (w : FVec Ideal S1x1x512x2048 .bf16) (f : Fin 512) (d : Fin 2048) :
    shapeCast S512x2048 w shapeCasts_S1x1x512x2048_S512x2048 (ix2 f d) = w (ix4 0 0 f d) := by
  pointwise

theorem pay5_at (x : FVec Ideal S256x2048 .f32) (w : FVec Ideal S1x1x2048x512 .bf16) (p : Fin 256) (f : Fin 512) :
    k0_pay5 (F := Ideal) x w (ix2 p f) = through x w p f := by
  unfold k0_pay5 through

  rw [mm_at]
  exact Finset.sum_congr rfl fun k _ => by rw [wide_cast]; rfl

/-- The hidden lanes from the two products. -/
def hid (u v : FVec Ideal S256x512 .f32) : FVec Ideal S256x512 .f32 :=
  mulf (mulf u (divf (broadcast S256x512 (Scalar.ofBits .f32 0x3F800000#32)) (addf (broadcast S256x512 (Scalar.ofBits .f32 0x3F800000#32))
    (exp (subf (broadcast S256x512 (Scalar.ofBits .f32 0x00000000#32)) u))))) v

theorem hid_at (u v : FVec Ideal S256x512 .f32) (i : S256x512.Idx) : hid u v i = swish (u i) * v i := by
  show (u i * Ideal.div (Ideal.ofBits .f32 0x3F800000#32) (Ideal.ofBits .f32 0x3F800000#32 + Ideal.exp (Ideal.ofBits .f32 0x00000000#32 - u i))) * v i = _
  rw [zero_bits, zero_sub]
  rfl

/-- One expert on a tile, weighted by the tile's column of weights. -/
def weighted (u v : FVec Ideal S256x512 .f32) (g : FVec Ideal S256x1 .f32) (w : FVec Ideal S1x1x512x2048 .bf16) : FVec Ideal S256x2048 .f32 :=
  mulf (broadcastTo S256x2048 g broadcasts_S256x1_S256x2048)
    (matmul dot_S256x512_S512x2048_S256x2048_1_0_0_1_n_n none (truncf .bf16 (hid u v) bitsLt_bf16_f32)
      (shapeCast S512x2048 w shapeCasts_S1x1x512x2048_S512x2048) (constant S256x2048 .f32 0x00000000#32))

theorem col_at (g : FVec Ideal S256x1 .f32) (p : Fin 256) (d : Fin 2048) : broadcastTo S256x2048 g broadcasts_S256x1_S256x2048 (ix2 p d) = g (ix2 p 0) := by
  pointwise

theorem weighted_at (u v : FVec Ideal S256x512 .f32) (g : FVec Ideal S256x1 .f32) (w : FVec Ideal S1x1x512x2048 .bf16) (p : Fin 256) (d : Fin 2048) :
    weighted u v g w (ix2 p d) = g (ix2 p 0) * ∑ f : Fin 512, (swish (u (ix2 p f)) * v (ix2 p f)) * w (ix4 0 0 f d) := by
  show broadcastTo S256x2048 g broadcasts_S256x1_S256x2048 (ix2 p d) * matmul (F := Ideal) dot_S256x512_S512x2048_S256x2048_1_0_0_1_n_n none _ _ _ (ix2 p d) = _
  rw [col_at, mm2_at]
  refine congrArg (g (ix2 p 0) * ·) (Finset.sum_congr rfl fun f _ => ?_)
  rw [tall_cast]
  exact congrArg (· * w (ix4 0 0 f d)) (hid_at u v (ix2 p f))

theorem pay4_eq (x : FVec Ideal S256x2048 .f32) (g : FVec Ideal S256x1 .f32) (w1 w3 : FVec Ideal S1x1x2048x512 .bf16) (w2 : FVec Ideal S1x1x512x2048 .bf16) :
    k0_pay4 (F := Ideal) x g w1 w3 w2 = weighted (k0_pay5 x w1) (k0_pay5 x w3) g w2 := rfl

theorem pay1_eq (x : FVec Ideal S256x2048 .f32) (y : FVec Ideal S256x2048 .f32) (g : FVec Ideal S256x1 .f32) (u : FVec Ideal S256x512 .f32) (w3 : FVec Ideal S1x1x2048x512 .bf16)
    (w2 : FVec Ideal S1x1x512x2048 .bf16) :
    k0_pay1 (F := Ideal) (k0_pay3 x) y g u w3 w2 = addf y (weighted u (k0_pay5 x w3) g w2) := rfl

/-- One expert's output on a tile. -/
def expertOf (x : FVec Ideal S256x2048 .f32) (w1 w3 : FVec Ideal S1x1x2048x512 .bf16) (w2 : FVec Ideal S1x1x512x2048 .bf16) (p : Fin 256) (d : Fin 2048) : EReal :=
  ∑ f : Fin 512, (swish (through x w1 p f) * through x w3 p f) * w2 (ix4 0 0 f d)

/-- What a tile in use stores. -/
theorem stored_at (x : FVec Ideal S256x2048 .f32) (ga gb : FVec Ideal S256x1 .f32) (a1 a3 b1 b3 : FVec Ideal S1x1x2048x512 .bf16) (a2 b2 : FVec Ideal S1x1x512x2048 .bf16)
    (p : Fin 256) (d : Fin 2048) :
    k0_pay1 (F := Ideal) (k0_pay3 x) (k0_pay4 x ga a1 a3 a2) gb (k0_pay5 x b1) b3 b2 (ix2 p d)
      = ga (ix2 p 0) * expertOf x a1 a3 a2 p d + gb (ix2 p 0) * expertOf x b1 b3 b2 p d := by
  rw [pay1_eq, pay4_eq]
  show weighted _ _ _ _ (ix2 p d) + weighted _ _ _ _ (ix2 p d) = _
  rw [weighted_at, weighted_at]
  simp only [pay5_at]
  rfl

theorem spare_at (i : S256x2048.Idx) : k0_pay2 (F := Ideal) i = 0 := zero_bits

end Cert.FfnIdeal.Body
end
-- ==== Proof.FfnFinal.lean ====
module

public import proofs.«01_k».proof.Proof.FfnIdealFrame
public import proofs.«01_k».proof.Proof.FfnIdealOk
public import proofs.«01_k».proof.Proof.FfnBody

@[expose] public section

set_option maxRecDepth 16384
noncomputable section
open Idealize.ShloMosaic Idealize.ShloMosaic.TcCoe Idealize.SL.Sem
namespace Cert.FfnIdeal.Final
open Cert.FfnIdeal Cert.FfnIdeal.Gen Cert.FfnIdeal.Kit Cert.FfnIdeal.Body
variable (m : (ℓ : Loc nD τ sig) → Buf (Elt Ideal) ℓ) (hO : Ok m)

/-- The rows with their weights, and the three weight arrays. -/
abbrev XS (c : Dev nD) : FVec Ideal S22528x2176 .f32 := m ((c : Thread nD τ).loc main_arg0)
abbrev W1 (c : Dev nD) : FVec Ideal S2x16x2048x512 .bf16 := m ((c : Thread nD τ).loc main_arg4)
abbrev W3 (c : Dev nD) : FVec Ideal S2x16x2048x512 .bf16 := m ((c : Thread nD τ).loc main_arg5)
abbrev W2 (c : Dev nD) : FVec Ideal S2x16x512x2048 .bf16 := m ((c : Thread nD τ).loc main_arg6)

theorem coord : ∀ t : Fin grid0.N, (grid0.coords t 0).val = t.val ∧ cc0_transform_0 (grid0.coords t) = ![t.val, 0] ∧ cc0_transform_7 (grid0.coords t) = ![t.val, 0] := by
  decide +kernel

theorem tile_lt (t : Fin (cfgM m hO).N) : t.val < 88 := by
  have := t.isLt
  have h : (cfgM m hO).N = 88 := by show grid0.N = 88; decide +kernel
  omega

theorem coord_eq (t : Fin (cfgM m hO).N) : (ix1 (grid0.coords t 0) : S88.Idx) = ix1 ⟨t.val, tile_lt m hO t⟩ :=
  congrArg ix1 (Fin.ext (coord t).1)

/-- The two experts of a tile. -/
abbrev loOf (t : Fin (cfgM m hO).N) : Nat := (lowWords m (ix1 ⟨t.val, tile_lt m hO t⟩)).toNat
abbrev hiOf (t : Fin (cfgM m hO).N) : Nat := (highWords m (ix1 ⟨t.val, tile_lt m hO t⟩)).toNat

theorem index0 (t : Fin (cfgM m hO).N) : ((cfgM m hO).win 0).index t = ![t.val, 0] := (coord t).2.1
theorem index7 (t : Fin (cfgM m hO).N) : ((cfgM m hO).win 7).index t = ![t.val, 0] := (coord t).2.2
theorem index1 (t : Fin (cfgM m hO).N) : ((cfgM m hO).win 1).index t = ![0, loOf m hO t, 0, 0] := (map1 m _).trans (by rw [coord_eq m hO])
theorem index2 (t : Fin (cfgM m hO).N) : ((cfgM m hO).win 2).index t = ![0, loOf m hO t, 0, 0] := (map2 m _).trans (by rw [coord_eq m hO])
theorem index3 (t : Fin (cfgM m hO).N) : ((cfgM m hO).win 3).index t = ![0, loOf m hO t, 0, 0] := (map3 m _).trans (by rw [coord_eq m hO])
theorem index4 (t : Fin (cfgM m hO).N) : ((cfgM m hO).win 4).index t = ![0, hiOf m hO t, 0, 0] := (map4 m _).trans (by rw [coord_eq m hO])
theorem index5 (t : Fin (cfgM m hO).N) : ((cfgM m hO).win 5).index t = ![0, hiOf m hO t, 0, 0] := (map5 m _).trans (by rw [coord_eq m hO])
theorem index6 (t : Fin (cfgM m hO).N) : ((cfgM m hO).win 6).index t = ![0, hiOf m hO t, 0, 0] := (map6 m _).trans (by rw [coord_eq m hO])

theorem rows_at (c : Dev nD) (t : Fin (cfgM m hO).N) (p : Fin 256) (k : Fin 2176) :
    (iblk m hO c 0 t : FVec Ideal S256x2176 .f32) (ix2 p k) = XS m c (ix2 ⟨t.val * 256 + p.val, by have := tile_lt m hO t; omega⟩ k) := by
  unfold XS
  blk_point [iblk, V, index0 m hO t]

theorem w1a_at (c : Dev nD) (t : Fin (cfgM m hO).N) (h : loOf m hO t < 16) (k : Fin 2048) (f : Fin 512) :
    (iblk m hO c 1 t : FVec Ideal S1x1x2048x512 .bf16) (ix4 0 0 k f) = W1 m c (ix4 0 ⟨loOf m hO t, h⟩ k f) := by
  unfold W1
  blk_point [iblk, V, index1 m hO t]
theorem w3a_at (c : Dev nD) (t : Fin (cfgM m hO).N) (h : loOf m hO t < 16) (k : Fin 2048) (f : Fin 512) :
    (iblk m hO c 2 t : FVec Ideal S1x1x2048x512 .bf16) (ix4 0 0 k f) = W3 m c (ix4 0 ⟨loOf m hO t, h⟩ k f) := by
  unfold W3
  blk_point [iblk, V, index2 m hO t]
theorem w2a_at (c : Dev nD) (t : Fin (cfgM m hO).N) (h : loOf m hO t < 16) (f : Fin 512) (d : Fin 2048) :
    (iblk m hO c 3 t : FVec Ideal S1x1x512x2048 .bf16) (ix4 0 0 f d) = W2 m c (ix4 0 ⟨loOf m hO t, h⟩ f d) := by
  unfold W2
  blk_point [iblk, V, index3 m hO t]
theorem w1b_at (c : Dev nD) (t : Fin (cfgM m hO).N) (h : hiOf m hO t < 16) (k : Fin 2048) (f : Fin 512) :
    (iblk m hO c 4 t : FVec Ideal S1x1x2048x512 .bf16) (ix4 0 0 k f) = W1 m c (ix4 0 ⟨hiOf m hO t, h⟩ k f) := by
  unfold W1
  blk_point [iblk, V, index4 m hO t]
theorem w3b_at (c : Dev nD) (t : Fin (cfgM m hO).N) (h : hiOf m hO t < 16) (k : Fin 2048) (f : Fin 512) :
    (iblk m hO c 5 t : FVec Ideal S1x1x2048x512 .bf16) (ix4 0 0 k f) = W3 m c (ix4 0 ⟨hiOf m hO t, h⟩ k f) := by
  unfold W3
  blk_point [iblk, V, index5 m hO t]
theorem w2b_at (c : Dev nD) (t : Fin (cfgM m hO).N) (h : hiOf m hO t < 16) (f : Fin 512) (d : Fin 2048) :
    (iblk m hO c 6 t : FVec Ideal S1x1x512x2048 .bf16) (ix4 0 0 f d) = W2 m c (ix4 0 ⟨hiOf m hO t, h⟩ f d) := by
  unfold W2
  blk_point [iblk, V, index6 m hO t]

/-- The rows of a tile, and its two columns of weights. -/
abbrev xb (c : Dev nD) (t : Fin (cfgM m hO).N) : FVec Ideal S256x2048 .f32 :=
  View.ld (iblk m hO c 0 t : FVec Ideal S256x2176 .f32) (Rect.unit (s := S256x2176) ![0, 0] S256x2048.size inb_S256x2176_S256x2048_0_0)
abbrev ga (c : Dev nD) (t : Fin (cfgM m hO).N) : FVec Ideal S256x1 .f32 :=
  View.ld (iblk m hO c 0 t : FVec Ideal S256x2176 .f32) (Rect.unit (s := S256x2176) ![0, 2048] S256x1.size inb_S256x2176_S256x1_0_2048)
abbrev gb (c : Dev nD) (t : Fin (cfgM m hO).N) : FVec Ideal S256x1 .f32 :=
  View.ld (iblk m hO c 0 t : FVec Ideal S256x2176 .f32) (Rect.unit (s := S256x2176) ![0, 2049] S256x1.size inb_S256x2176_S256x1_0_2049)

theorem xb_at (c : Dev nD) (t : Fin (cfgM m hO).N) (p : Fin 256) (k : Fin 2048) :
    xb m hO c t (ix2 p k) = XS m c (ix2 ⟨t.val * 256 + p.val, by have := tile_lt m hO t; omega⟩ ⟨k.val, by omega⟩) := by
  unfold xb XS
  blk_point [iblk, V, index0 m hO t]
theorem ga_at (c : Dev nD) (t : Fin (cfgM m hO).N) (p : Fin 256) :
    ga m hO c t (ix2 p 0) = XS m c (ix2 ⟨t.val * 256 + p.val, by have := tile_lt m hO t; omega⟩ ⟨2048, by omega⟩) := by
  unfold ga XS
  blk_point [iblk, V, index0 m hO t]
theorem gb_at (c : Dev nD) (t : Fin (cfgM m hO).N) (p : Fin 256) :
    gb m hO c t (ix2 p 0) = XS m c (ix2 ⟨t.val * 256 + p.val, by have := tile_lt m hO t; omega⟩ ⟨2049, by omega⟩) := by
  unfold gb XS
  blk_point [iblk, V, index0 m hO t]

/-- What the body leaves on a tile in use, over any blocks. -/
theorem out_used (c : Dev nD) (i : grid0.Coords) (arg4 : Memref sig .tc .vmem S256x2176 .f32) (harg4 : arg4.IsWhole) (arg5 : Memref sig .tc .vmem S1x1x2048x512 .bf16) (harg5 : arg5.IsWhole) (arg6 : Memref sig .tc .vmem S1x1x2048x512 .bf16) (harg6 : arg6.IsWhole) (arg7 : Memref sig .tc .vmem S1x1x512x2048 .bf16) (harg7 : arg7.IsWhole)
    (arg8 : Memref sig .tc .vmem S1x1x2048x512 .bf16) (harg8 : arg8.IsWhole) (arg9 : Memref sig .tc .vmem S1x1x2048x512 .bf16) (harg9 : arg9.IsWhole) (arg10 : Memref sig .tc .vmem S1x1x512x2048 .bf16) (harg10 : arg10.IsWhole) (arg11 : Memref sig .tc .vmem S256x2048 .f32) (harg11 : arg11.IsWhole)
    (x0 : FVec Ideal S256x2176 .f32) (x1 x2 : FVec Ideal S1x1x2048x512 .bf16) (x3 : FVec Ideal S1x1x512x2048 .bf16) (x4 x5 : FVec Ideal S1x1x2048x512 .bf16) (x6 : FVec Ideal S1x1x512x2048 .bf16)
    (xt0 : Table (F := Ideal) c lowTable) (xt1 : Table (F := Ideal) c highTable) (xt2 : Table (F := Ideal) c usedTable)
    (h1 : k0_cond1 i (usedWord c xt2) = 1#1) (h2 : ¬ k0_cond2 i (usedWord c xt2) = 1#1) :
    outUsed c i arg4 harg4 arg5 harg5 arg6 harg6 arg7 harg7 arg8 harg8 arg9 harg9 arg10 harg10 arg11 harg11 x0 x1 x2 x3 x4 x5 x6 xt0 xt1 xt2 h1 h2
      = k0_pay1 (F := Ideal) (k0_pay3 (View.ld x0 (Rect.unit (s := S256x2176) ![0, 0] S256x2048.size inb_S256x2176_S256x2048_0_0))) (k0_pay4 (View.ld x0 (Rect.unit (s := S256x2176) ![0, 0] S256x2048.size inb_S256x2176_S256x2048_0_0)) (View.ld x0 (Rect.unit (s := S256x2176) ![0, 2048] S256x1.size inb_S256x2176_S256x1_0_2048)) x1 x2 x3)
        (View.ld x0 (Rect.unit (s := S256x2176) ![0, 2049] S256x1.size inb_S256x2176_S256x1_0_2049)) (k0_pay5 (View.ld x0 (Rect.unit (s := S256x2176) ![0, 0] S256x2048.size inb_S256x2176_S256x2048_0_0)) x4) x5 x6 := by
  funext y
  unfold outUsed
  frame_out

theorem stored_used (c : Dev nD) (t : Fin (cfgM m hO).N) (h : InUse m c (grid0.coords t)) :
    outsAt0 m hO c t = k0_pay1 (F := Ideal) (k0_pay3 (xb m hO c t)) (k0_pay4 (xb m hO c t) (ga m hO c t) (iblk m hO c 1 t) (iblk m hO c 2 t) (iblk m hO c 3 t))
      (gb m hO c t) (k0_pay5 (xb m hO c t) (iblk m hO c 4 t)) (iblk m hO c 5 t) (iblk m hO c 6 t) := by
  unfold outsAt0
  rw [dif_pos h]
  exact out_used c _ _ _ _ _ _ _ _ _ _ _ _ _ _ _ _ _ _ _ _ _ _ _ _ _ _ _ _ _

theorem stored_spare (c : Dev nD) (t : Fin (cfgM m hO).N) (h : ¬ InUse m c (grid0.coords t)) :
    outsAt0 m hO c t = k0_pay2 (F := Ideal) := by
  unfold outsAt0
  rw [dif_neg h]
  funext y
  unfold outSpare
  frame_out

/-- Every index of the output is in the block of its row's tile. -/
theorem covers (i : S22528x2048.Idx) : ∃ t : Fin (cfgM m hO).N, ((cfgM m hO).win 7).flush t = true ∧ i ∈ (((cfgM m hO).win 7).blk t).view.set := by
  have hN : (cfgM m hO).N = 88 := by show grid0.N = 88; decide +kernel
  have h : ∀ t : Fin grid0.N, (t.val + 1 = grid0.N || decide (∃ h : t.val + 1 < grid0.N, cc0_transform_7 (grid0.coords ⟨t.val + 1, h⟩) ≠ cc0_transform_7 (grid0.coords t))) = true := by
    decide +kernel
  have h0 : (i 0).val < 22528 := (i 0).isLt
  have h1 : (i 1).val < 2048 := (i 1).isLt
  refine ⟨⟨(i 0).val / 256, by omega⟩, h _, ?_⟩
  refine (((cfgM m hO).win 7).emb_mem_blk_iff _ (i : S22528x2048.Idx) rfl).mpr fun a => ?_
  rw [index7 m hO]
  revert a
  show ∀ a : Fin 2, _
  intro a
  fin_cases a
  · show (i 0).val / 256 * 256 ≤ (i 0).val ∧ (i 0).val < (i 0).val / 256 * 256 + 256
    omega
  · show 0 * 2048 ≤ (i 1).val ∧ (i 1).val < 0 * 2048 + 2048
    omega

end Cert.FfnIdeal.Final
end
-- ==== Proof.FfnPoint.lean ====
module

public import proofs.«01_k».proof.Proof.FfnFinal

@[expose] public section

set_option maxRecDepth 16384
noncomputable section
open Idealize.ShloMosaic Idealize.ShloMosaic.TcCoe Idealize.SL.Sem
namespace Cert.FfnIdeal.Final
open Cert.FfnIdeal Cert.FfnIdeal.Gen Cert.FfnIdeal.Kit Cert.FfnIdeal.Body
open Cert.FfnReferenceIdeal.Read (swish into expert val_main_v47 two_terms)
variable (m : (ℓ : Loc nD τ sig) → Buf (Elt Ideal) ℓ) (hO : Ok m)

theorem used_read (c : Dev nD) : usedWord (F := Ideal) c (tbl m 2) = usedWords m (ix1 0) := by
  refine congrArg (usedWords m) ?_
  have key : ∀ j k : S1.Idx, j = k := fun j k => funext fun a => by
    obtain rfl : a = 0 := Subsingleton.elim _ _
    exact Subsingleton.elim (α := Fin 1) _ _
  exact key _ _

/-- A tile is in use when it comes before the number of tiles in use. -/
theorem inUse_iff (c : Dev nD) (t : Fin (cfgM m hO).N) :
    InUse m c (grid0.coords t) ↔ (BitVec.ofNat 32 t.val).slt (usedWords m (ix1 0)) = true := by
  have h : ∀ b : Bool, (Scalar.cmpi .ne (Scalar.extui (BitVec.ofBool b) : BitVec 32) 0#32 = 1#1) ↔ b = true := by decide
  have h1 : ∀ w : BitVec 32, k0_cond1 (grid0.coords t) w = 1#1 ↔ (BitVec.ofNat 32 (grid0.coords t 0).val).slt w = true := fun w => h _
  unfold InUse
  rw [used_read, h1, (coord t).1]

/-- One expert on a tile is the reference's expert of the tile's rows. -/
theorem expert_block (X : FVec Ideal S22528x2176 .f32) (w1 w3 : FVec Ideal S2x16x2048x512 .bf16) (w2 : FVec Ideal S2x16x512x2048 .bf16)
    (x : FVec Ideal S256x2048 .f32) (b1 b3 : FVec Ideal S1x1x2048x512 .bf16) (b2 : FVec Ideal S1x1x512x2048 .bf16)
    (e : Fin 16) (r : Fin 22528) (p : Fin 256) (d : Fin 2048)
    (hx : ∀ k : Fin 2048, x (ix2 p k) = X (ix2 r ⟨k.val, by omega⟩))
    (h1 : ∀ k f, b1 (ix4 0 0 k f) = w1 (ix4 0 e k f)) (h3 : ∀ k f, b3 (ix4 0 0 k f) = w3 (ix4 0 e k f)) (h2 : ∀ f, b2 (ix4 0 0 f d) = w2 (ix4 0 e f d)) :
    expertOf x b1 b3 b2 p d = expert X w1 w3 w2 e r d := by
  unfold expertOf expert through into
  simp only [hx, h1, h2, h3]

theorem place (t : Fin (cfgM m hO).N) (p : Fin 256) (d : Fin 2048) :
    (show S22528x2048.Idx from (((cfgM m hO).win 7).blk t).view.emb (ix2 p d)) = ix2 ⟨t.val * 256 + p.val, by have := tile_lt m hO t; omega⟩ d := by
  blk_ext! [index7 m hO t]

/-- What tile `t` stores, at one row and lane of its block. -/
theorem point (hP : Planned (lowWords m) (highWords m)) (c : Dev nD) (t : Fin (cfgM m hO).N) (p : Fin 256) (d : Fin 2048) :
    outsAt0 m hO c t (ix2 p d)
      = val_main_v47 (F := Ideal) (XS m c) (lowWords m) (highWords m) (usedWords m) (W1 m c) (W3 m c) (W2 m c)
        (ix2 ⟨t.val * 256 + p.val, by have := tile_lt m hO t; omega⟩ d) := by
  have ht := tile_lt m hO t
  have hrow : (⟨(t.val * 256 + p.val) / 256, by omega⟩ : Fin 88) = ⟨t.val, ht⟩ := Fin.ext (by show (t.val * 256 + p.val) / 256 = t.val; omega)
  obtain ⟨hlt, hhi⟩ := hP ⟨t.val, ht⟩
  have hlo := hlt.trans hhi
  have word : ∀ w : BitVec 32, w = BitVec.ofNat 32 w.toNat := fun w => by simp
  refine Eq.trans ?_ (two_terms (XS m c) (lowWords m) (highWords m) (usedWords m) (W1 m c) (W3 m c) (W2 m c) ⟨t.val * 256 + p.val, by omega⟩ d
    ⟨loOf m hO t, hlo⟩ ⟨hiOf m hO t, hhi⟩ (by rw [hrow]; exact word _) (by rw [hrow]; exact word _)
    (fun h => absurd (congrArg Fin.val h) (Nat.ne_of_lt hlt))).symm
  have hdiv : (t.val * 256 + p.val) / 256 = t.val := by omega
  by_cases hu : InUse m c (grid0.coords t)
  · refine ((congrFun (stored_used m hO c t hu) _).trans
      (stored_at (xb m hO c t) (ga m hO c t) (gb m hO c t) (iblk m hO c 1 t) (iblk m hO c 2 t) (iblk m hO c 4 t) (iblk m hO c 5 t) (iblk m hO c 3 t) (iblk m hO c 6 t) p d)).trans ?_
    rw [if_pos (by rw [hdiv]; exact (inUse_iff m hO c t).1 hu)]
    exact congrArg₂ (· + ·)
      (congrArg₂ (· * ·) (ga_at m hO c t p) (expert_block (XS m c) (W1 m c) (W3 m c) (W2 m c) (xb m hO c t) _ _ _ ⟨loOf m hO t, hlo⟩ ⟨t.val * 256 + p.val, by omega⟩ p d
        (fun k => xb_at m hO c t p k) (fun k f => w1a_at m hO c t hlo k f) (fun k f => w3a_at m hO c t hlo k f) (fun f => w2a_at m hO c t hlo f d)))
      (congrArg₂ (· * ·) (gb_at m hO c t p) (expert_block (XS m c) (W1 m c) (W3 m c) (W2 m c) (xb m hO c t) _ _ _ ⟨hiOf m hO t, hhi⟩ ⟨t.val * 256 + p.val, by omega⟩ p d
        (fun k => xb_at m hO c t p k) (fun k f => w1b_at m hO c t hhi k f) (fun k f => w3b_at m hO c t hhi k f) (fun f => w2b_at m hO c t hhi f d)))
  · rw [if_neg (by rw [hdiv]; exact fun h => hu ((inUse_iff m hO c t).2 h))]
    exact (congrFun (stored_spare m hO c t hu) _).trans (spare_at _)

/-- The result array after the run. -/
theorem final (hP : Planned (lowWords m) (highWords m)) (c : Dev nD) :
    (dats m hO 0 c).arrAt 7 (cfgM m hO).N
      = val_main_v47 (F := Ideal) (XS m c) (lowWords m) (highWords m) (usedWords m) (W1 m c) (W3 m c) (W2 m c) := by
  refine (dats m hO 0 c).arrAt_eq_of_emb 7 _ (fun t hf y => ?_) (covers m hO)
  have h : ∀ y : S256x2048.Idx, outsAt0 m hO c t y
      = val_main_v47 (F := Ideal) (XS m c) (lowWords m) (highWords m) (usedWords m) (W1 m c) (W3 m c) (W2 m c) ((((cfgM m hO).win 7).blk t).view.emb y) := by
    intro y
    idx_vars y
    exact (point m hO hP c t _ _).trans (congrArg (val_main_v47 (F := Ideal) (XS m c) (lowWords m) (highWords m) (usedWords m) (W1 m c) (W3 m c) (W2 m c)) (place m hO t _ _)).symm
  refine Eq.trans ?_ (h y)
  rw [after0_7]
  rfl

end Cert.FfnIdeal.Final
end
-- ==== Proof.FfnClaim.lean ====
module

public import proofs.«01_k».proof.Defs
public import proofs.«01_k».proof.Proof.FfnFrame
public import proofs.«01_k».proof.Proof.FfnOk
public import proofs.«01_k».proof.Proof.FfnPoint
public import proofs.«01_k».proof.Proof.Gen.FfnReferenceIdeal.Run
public import Idealize.ShloMosaic.Lib.Claim

@[expose] public section

set_option maxRecDepth 16384
noncomputable section
open Idealize.ShloMosaic Idealize.ShloMosaic.TcCoe Idealize.SL.Sem
namespace Cert.FfnClaim

theorem frame_kernel : Cert.quiescent_Ffn := fun m g h => Cert.Ffn.Kit.frame m g (Cert.Ffn.Kit.ok_of m (Cert.Ffn.Kit.planned_of_pre m h))

theorem frame_ideal : Cert.quiescent_FfnIdeal := fun m g h => Cert.FfnIdeal.Kit.frame m g (Cert.FfnIdeal.Kit.ok_of m (Cert.FfnIdeal.Kit.planned_of_pre m h))

theorem frame_reference : Cert.quiescent_FfnReferenceIdeal := by
  intro m g _
  exact (θ_run Cert.FfnReferenceIdeal.defs _ _).mono (fun r h => ⟨fun c => (h c).2, sem_eq_zero_of_no_sems (by decide) r.2⟩)
    (Cert.FfnReferenceIdeal.Value.run m g)

theorem frame_reference_pre : Cert.quiescent_FfnReferenceIdeal_pre_planned := fun m g _ => frame_reference m g trivial

theorem preserves : Cert.preserves_Ffn_FfnIdeal := trivial

open Cert.FfnIdeal Cert.FfnIdeal.Gen Cert.FfnIdeal.Kit in
/-- The kernel's run with its result named: the reference's value of the launched arrays, which end unchanged. -/
theorem run_value (m : (ℓ : Loc nD τ sig) → Buf (Elt Ideal) ℓ) (ρ : Dev nD → PrngReg) (hP : Planned (lowWords m) (highWords m)) :
    θ_run (defs (F := Ideal)) (onTc (τ := τ) (main (F := Ideal))) ⟨m, fun _ => 0, ρ⟩ fun r => ∀ c : Dev nD,
      r.2.mem ((c.tc : Thread nD τ).loc main_v0)
        = Cert.FfnReferenceIdeal.Read.val_main_v47 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hO := ok_of m hP
  refine (θ_run defs _ _).mono (fun r h c => ⟨?_,
      ((h c).1 0).trans (((dats m hO 0 c).arrAt_in 0 rfl _).trans rfl),
      (h c).2 main_arg1 (by decide : main_arg1 ∈ Pipeline.restRefs sig spec0),
      (h c).2 main_arg2 (by decide : main_arg2 ∈ Pipeline.restRefs sig spec0),
      (h c).2 main_arg3 (by decide : main_arg3 ∈ Pipeline.restRefs sig spec0),
      ((h c).1 4).trans (((dats m hO 0 c).arrAt_in 4 rfl _).trans rfl),
      ((h c).1 5).trans (((dats m hO 0 c).arrAt_in 5 rfl _).trans rfl),
      ((h c).1 6).trans (((dats m hO 0 c).arrAt_in 6 rfl _).trans rfl)⟩) (run_main m ρ hO)
  obtain rfl : c = 0 := Subsingleton.elim _ _
  exact ((h 0).1 7).trans (Cert.FfnIdeal.Final.final m hO hP 0)

theorem algebraic : Cert.algebraic_FfnIdeal_FfnReferenceIdeal := by
  intro m g m' g' hpre hagree
  refine ⟨_, run_value m g (Cert.FfnIdeal.Kit.planned_of_pre m hpre), ?_⟩
  refine (θ_run Cert.FfnReferenceIdeal.defs _ _).mono (fun r h c => ⟨(h c).1.trans ?_, (h c).2⟩) (Cert.FfnReferenceIdeal.Value.run m' g')
  obtain ⟨a0, a1, a2, a3, a4, a5, a6⟩ := hagree c
  rw [Cert.FfnReferenceIdeal.Read.val_main_v47_eq, a0, a1, a2, a3, a4, a5, a6]

end Cert.FfnClaim

end
-- ==== Proof.InClaim.lean ====
module

public import proofs.«01_k».proof.Defs
public import proofs.«01_k».proof.Proof.Gen.InProj.Frame
public import proofs.«01_k».proof.Proof.Gen.InProjIdeal.Value
public import proofs.«01_k».proof.Proof.Gen.InProjReferenceIdeal.Run
public import proofs.«01_k».proof.Proof.Gen.InProjReferenceIdeal.Read
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.InProjReferenceIdeal.Read

/-- The reference's product at a row and a column. -/
theorem result_at (x0 : FVec Ideal S16384x2048 .bf16) (x1 : FVec Ideal S2048x12352 .f32) (r : Fin 16384) (d : Fin 12288) :
    val_main_v3 (F := Ideal) x0 x1 (ix2 r d) = ∑ k : Fin 2048, x0 (ix2 r k) * x1 (ix2 k ⟨d.val, by omega⟩) := by
  pointwise [val_main_v3, val_main_v2, val_main_v1, val_main_v0]

end Cert.InProjReferenceIdeal.Read

namespace Cert.InProjIdeal.Final
open Cert.InProjIdeal Cert.InProjIdeal.Gen
open Cert.InProjReferenceIdeal.Read (val_main_v3 result_at)
variable (m : (ℓ : Loc nD τ sig) → Buf (Elt Ideal) ℓ)

/-- The body's product at a row and a column of its block. -/
theorem body_at (w : FVec Ideal S2048x512 .bf16) (x : FVec Ideal S1024x2048 .bf16) (p : Fin 1024) (q : Fin 512) :
    k0_pay1 (F := Ideal) w x (ix2 p q) = ∑ k : Fin 2048, x (ix2 p k) * w (ix2 k q) := by
  pointwise [k0_pay1]

theorem idx : ∀ t : Fin cfg0.N, win0_0.index t = ![t.val / 24, 0] ∧ win0_1.index t = ![0, t.val % 24] ∧ win0_2.index t = ![t.val / 24, t.val % 24] ∧ t.val / 24 < 16 :=
  (by decide +kernel : ∀ t : Fin grid0.N, _)

abbrev X (c : Dev nD) : FVec Ideal S16384x2048 .bf16 := m ((c : Thread nD τ).loc main_arg0)
abbrev W (c : Dev nD) : FVec Ideal S2048x12352 .f32 := m ((c : Thread nD τ).loc main_arg1)
abbrev xb (c : Dev nD) (t : Fin cfg0.N) : FVec Ideal S1024x2048 .bf16 := iblk m c 0 t
abbrev wb (c : Dev nD) (t : Fin cfg0.N) : FVec Ideal S2048x512 .bf16 := X0_1 m c t

theorem rows_in (c : Dev nD) : V m c main_arg0 = X m c := V_main_arg0 m c
theorem weights_in (c : Dev nD) : V m c main_v0 = W m c := by unfold V; after_results; try rfl

theorem xb_at (c : Dev nD) (t : Fin cfg0.N) (p : Fin 1024) (k : Fin 2048) :
    xb m c t (ix2 p k) = X m c (ix2 ⟨t.val / 24 * 1024 + p.val, by have := (idx t).2.2.2; omega⟩ k) := by
  rw [← rows_in]
  generalize hv : V m c main_arg0 = v
  unfold xb
  blk_point [iblk, idx t, hv]
theorem wb_at (c : Dev nD) (t : Fin cfg0.N) (k : Fin 2048) (q : Fin 512) :
    wb m c t (ix2 k q) = W m c (ix2 k ⟨t.val % 24 * 512 + q.val, by omega⟩) := by
  rw [← weights_in]
  generalize hv : V m c main_v0 = v
  unfold wb X0_1 Pipeline.Window.fill
  rw [dif_pos (moved0_1 t (ix2 k q))]
  blk_point [iblk, idx t, hv]

theorem point (c : Dev nD) (t : Fin cfg0.N) (y : S1024x512.Idx) :
    outsAt0 (F := Ideal) m c t y = val_main_v3 (F := Ideal) (X m c) (W m c) (((cfg0.win 2).blk t).view.emb y) := by
  idx_vars y
  have := (idx t).2.2.2
  have place : (show S16384x12288.Idx from ((cfg0.win 2).blk t).view.emb (ix2 y0 y1)) = ix2 ⟨t.val / 24 * 1024 + y0.val, by omega⟩ ⟨t.val % 24 * 512 + y1.val, by omega⟩ := by
    blk_ext! [idx t]
  refine Eq.trans ?_ (congrArg (val_main_v3 (F := Ideal) (X m c) (W m c)) place).symm
  have hbody : outsAt0 (F := Ideal) m c t = k0_pay1 (F := Ideal) (wb m c t) (xb m c t) := by
    show out0_A_2 (F := Ideal) c (grid0.coords t) (ms0_0 t) (hs0_0 t) (ms0_1 t) (hs0_1 t) (ms0_2 t) (hs0_2 t) (xb m c t) (wb m c t) = _
    generalize xb m c t = a
    generalize wb m c t = b
    funext y; frame_out
  rw [hbody, body_at, result_at]
  exact Finset.sum_congr rfl fun k _ => congrArg₂ (· * ·) (xb_at m c t _ k) (wb_at m c t k _)

theorem final (c : Dev nD) : (dats m 0 c).arrAt 2 (cfgs 0).N = val_main_v3 (F := Ideal) (X m c) (W m c) := by
  refine (dats m 0 c).arrAt_eq_of_covers 2 _ (by decide +kernel) (fun t hf y => ?_)
  blk_simp
  rw [after0_2]
  exact point m c t y

end Cert.InProjIdeal.Final

namespace Cert.InProjClaim

theorem frame_kernel : Cert.quiescent_InProj := fun m g _ => Cert.InProj.Gen.frame m g
theorem frame_ideal : Cert.quiescent_InProjIdeal := fun m g _ => Cert.InProjIdeal.Gen.frame m g
theorem frame_reference : Cert.quiescent_InProjReferenceIdeal := by
  intro m g _
  exact (θ_run Cert.InProjReferenceIdeal.defs _ _).mono (fun r h => ⟨fun c => (h c).2, sem_eq_zero_of_no_sems (by decide) r.2⟩)
    (Cert.InProjReferenceIdeal.Value.run m g)
theorem preserves : Cert.preserves_InProj_InProjIdeal := trivial

theorem algebraic : Cert.algebraic_InProjIdeal_InProjReferenceIdeal := by
  pair_intro
  · run_from Cert.InProjIdeal.Value.run_blocks m g
  · run_from Cert.InProjReferenceIdeal.Value.run m' g'
    obtain ⟨a0, a1⟩ := hagree c
    rw [Cert.InProjReferenceIdeal.Read.val_main_v3_eq]
    try rw [a0, a1]
    exact (Cert.InProjIdeal.Final.final m c).symm

end Cert.InProjClaim

end
-- ==== Proof.KvClaim.lean ====
module

public import proofs.«01_k».proof.Defs
public import proofs.«01_k».proof.Proof.Gen.KvProj.Frame
public import proofs.«01_k».proof.Proof.Gen.KvProjIdeal.Frame
public import proofs.«01_k».proof.Proof.Gen.KvProjReferenceIdeal.Run
public import proofs.«01_k».proof.Proof.Gen.KvProjReferenceIdeal.Read
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.KvProjReferenceIdeal.Read

/-- The reference's keys and values side by side, in a key column. -/
theorem keys_at (x0 : FVec Ideal S16384x2048 .bf16) (x1 x2 : FVec Ideal S2048x512 .f32) (r : Fin 16384) (d : Fin 512) :
    val_main_v11 (F := Ideal) x0 x1 x2 (ix2 r ⟨d.val, by omega⟩) = ∑ k : Fin 2048, x0 (ix2 r k) * x1 (ix2 k d) := by
  pointwise [val_main_v11, val_main_v10, val_main_v9, val_main_v0]

/-- The same in a value column. -/
theorem values_at (x0 : FVec Ideal S16384x2048 .bf16) (x1 x2 : FVec Ideal S2048x512 .f32) (r : Fin 16384) (d : Fin 512) :
    val_main_v11 (F := Ideal) x0 x1 x2 (ix2 r ⟨512 + d.val, by omega⟩) = ∑ k : Fin 2048, x0 (ix2 r k) * x2 (ix2 k d) := by
  pointwise [val_main_v11, val_main_v10, val_main_v9, val_main_v0]

/-- A new cached key of the context. -/
theorem new_key_at (x0 : FVec Ideal S16384x2048 .bf16) (x1 : FVec Ideal S2048x512 .f32) (b : Fin 32) (z : Fin 1) (s : Fin 256) (h : Fin 8) (e : Fin 64) :
    val_main_v7 (F := Ideal) x0 x1 (ix5 b z s h e) = ∑ k : Fin 2048, x0 (ix2 ⟨b.val * 256 + s.val, by omega⟩ k) * x1 (ix2 k ⟨h.val * 64 + e.val, by omega⟩) := by
  pointwise [val_main_v7, val_main_v4, val_main_v3, val_main_v2, val_main_v1, val_main_v0]

/-- A new cached value of the context. -/
theorem new_value_at (x0 : FVec Ideal S16384x2048 .bf16) (x2 : FVec Ideal S2048x512 .f32) (b : Fin 32) (z : Fin 1) (s : Fin 256) (h : Fin 8) (e : Fin 64) :
    val_main_v8 (F := Ideal) x0 x2 (ix5 b z s h e) = ∑ k : Fin 2048, x0 (ix2 ⟨b.val * 256 + s.val, by omega⟩ k) * x2 (ix2 k ⟨h.val * 64 + e.val, by omega⟩) := by
  pointwise [val_main_v8, val_main_v6, val_main_v5, val_main_v2, val_main_v1, val_main_v0]

end Cert.KvProjReferenceIdeal.Read

namespace Cert.KvProjIdeal.Final
open Cert.KvProjIdeal Cert.KvProjIdeal.Gen
open Cert.KvProjReferenceIdeal.Read (val_main_v7 val_main_v8 val_main_v11 keys_at values_at new_key_at new_value_at)
variable (m : (ℓ : Loc nD τ sig) → Buf (Elt Ideal) ℓ)

/-- The body's product at a row and a column of its block. -/
theorem body_at (w : FVec Ideal S2048x512 .bf16) (x : FVec Ideal S1024x2048 .bf16) (p : Fin 1024) (q : Fin 512) :
    k0_pay1 (F := Ideal) w x (ix2 p q) = ∑ k : Fin 2048, x (ix2 p k) * w (ix2 k q) := by
  pointwise [k0_pay1]

theorem idx : ∀ t : Fin cfg0.N, win0_0.index t = ![t.val / 2, 0] ∧ win0_1.index t = ![0, t.val % 2] ∧ win0_2.index t = ![t.val / 2, t.val % 2] ∧ t.val / 2 < 16 :=
  (by decide +kernel : ∀ t : Fin grid0.N, _)

abbrev X (c : Dev nD) : FVec Ideal S16384x2048 .bf16 := m ((c : Thread nD τ).loc main_arg0)
abbrev WK (c : Dev nD) : FVec Ideal S2048x512 .f32 := m ((c : Thread nD τ).loc main_arg1)
abbrev WV (c : Dev nD) : FVec Ideal S2048x512 .f32 := m ((c : Thread nD τ).loc main_arg2)
abbrev xb (c : Dev nD) (t : Fin cfg0.N) : FVec Ideal S1024x2048 .bf16 := iblk m c 0 t
abbrev wb (c : Dev nD) (t : Fin cfg0.N) : FVec Ideal S2048x512 .bf16 := iblk m c 1 t

/-- The two weights side by side. -/
def joined (a b : FVec Ideal S2048x512 .f32) : FVec Ideal S2048x1024 .bf16 :=
  truncf (F := Ideal) .bf16 (concatenate S2048x1024 1 [⟨S2048x512, a⟩, ⟨S2048x512, b⟩] concatenates_S2048x512_S2048x512_S2048x1024_d1) bitsLt_bf16_f32

theorem joined_left (a b : FVec Ideal S2048x512 .f32) (k : Fin 2048) (d : Fin 512) : joined a b (ix2 k ⟨d.val, by omega⟩) = a (ix2 k d) := by
  pointwise [joined]
theorem joined_right (a b : FVec Ideal S2048x512 .f32) (k : Fin 2048) (d : Fin 512) : joined a b (ix2 k ⟨512 + d.val, by omega⟩) = b (ix2 k d) := by
  pointwise [joined]

/-- The reference's keys and values are one product with the weights side by side. -/
theorem both_at (x : FVec Ideal S16384x2048 .bf16) (a b : FVec Ideal S2048x512 .f32) (r : Fin 16384) (d : Fin 1024) :
    val_main_v11 (F := Ideal) x a b (ix2 r d) = ∑ k : Fin 2048, x (ix2 r k) * joined a b (ix2 k d) := by
  by_cases h : d.val < 512
  · refine (keys_at x a b r ⟨d.val, h⟩).trans (Finset.sum_congr rfl fun k _ => ?_)
    exact congrArg (x (ix2 r k) * ·) (joined_left a b k ⟨d.val, h⟩).symm
  · have e : d = ⟨512 + (d.val - 512), by omega⟩ := Fin.ext (by show d.val = 512 + (d.val - 512); omega)
    rw [e]
    refine (values_at x a b r ⟨d.val - 512, by omega⟩).trans (Finset.sum_congr rfl fun k _ => ?_)
    exact congrArg (x (ix2 r k) * ·) (joined_right a b k ⟨d.val - 512, by omega⟩).symm

theorem weights_in (c : Dev nD) : V m c main_v1 = joined (WK m c) (WV m c) := by
  unfold V V0
  simp only [List.flatten_cons, List.flatten_nil, List.append_nil]
  after_results
  try rfl

theorem xb_at (c : Dev nD) (t : Fin cfg0.N) (p : Fin 1024) (k : Fin 2048) :
    xb m c t (ix2 p k) = X m c (ix2 ⟨t.val / 2 * 1024 + p.val, by have := (idx t).2.2.2; omega⟩ k) := by
  rw [show X m c = V m c main_arg0 from (V_main_arg0 m c).symm]
  generalize hv : V m c main_arg0 = v
  unfold xb
  blk_point [iblk, idx t, hv]
theorem wb_at (c : Dev nD) (t : Fin cfg0.N) (k : Fin 2048) (q : Fin 512) :
    wb m c t (ix2 k q) = joined (WK m c) (WV m c) (ix2 k ⟨t.val % 2 * 512 + q.val, by omega⟩) := by
  rw [← weights_in]
  generalize hv : V m c main_v1 = v
  unfold wb
  blk_point [iblk, idx t, hv]

theorem point (c : Dev nD) (t : Fin cfg0.N) (y : S1024x512.Idx) :
    out0_2 (F := Ideal) (xb m c t) (wb m c t) y = val_main_v11 (F := Ideal) (X m c) (WK m c) (WV m c) (((cfg0.win 2).blk t).view.emb y) := by
  idx_vars y
  have := (idx t).2.2.2
  have place : (show S16384x1024.Idx from ((cfg0.win 2).blk t).view.emb (ix2 y0 y1)) = ix2 ⟨t.val / 2 * 1024 + y0.val, by omega⟩ ⟨t.val % 2 * 512 + y1.val, by omega⟩ := by
    blk_ext! [idx t]
  refine Eq.trans ?_ (congrArg (val_main_v11 (F := Ideal) (X m c) (WK m c) (WV m c)) place).symm
  have hbody : out0_2 (F := Ideal) (xb m c t) (wb m c t) = k0_pay1 (F := Ideal) (wb m c t) (xb m c t) := by
    unfold out0_2
    generalize xb m c t = a
    generalize wb m c t = b
    funext y; frame_out
  rw [hbody, body_at, both_at]
  exact Finset.sum_congr rfl fun k _ => congrArg₂ (· * ·) (xb_at m c t _ k) (wb_at m c t k _)

theorem final (c : Dev nD) : (dats m 0 c).arrAt 2 (cfgs 0).N = val_main_v11 (F := Ideal) (X m c) (WK m c) (WV m c) := by
  refine (dats m 0 c).arrAt_eq_of_covers 2 _ (by decide +kernel) (fun t hf y => ?_)
  blk_simp
  rw [after0_2]
  exact point m c t y

/-- The new cache's keys, cut out of the keys and values side by side. -/
def cutKeys (u : FVec Ideal S16384x1024 .f32) : FVec Ideal S32x1x256x8x64 .f32 :=
  broadcastInDim S32x1x256x8x64 ![0, 2, 3, 4] bcast_S32x256x8x64_S32x1x256x8x64_0_2_3_4
    (shapeCast _ (extractStridedSlice S8192x512 ![0, 0] u slices_S16384x1024_S8192x512_0_0) shapeCasts_S8192x512_S32x256x8x64)

/-- The new cache's values, cut out likewise. -/
def cutValues (u : FVec Ideal S16384x1024 .f32) : FVec Ideal S32x1x256x8x64 .f32 :=
  broadcastInDim S32x1x256x8x64 ![0, 2, 3, 4] bcast_S32x256x8x64_S32x1x256x8x64_0_2_3_4
    (shapeCast _ (extractStridedSlice S8192x512 ![0, 512] u slices_S16384x1024_S8192x512_0_512) shapeCasts_S8192x512_S32x256x8x64)

theorem cutKeys_at (u : FVec Ideal S16384x1024 .f32) (b : Fin 32) (z : Fin 1) (s : Fin 256) (h : Fin 8) (e : Fin 64) :
    cutKeys u (ix5 b z s h e) = u (ix2 ⟨b.val * 256 + s.val, by omega⟩ ⟨h.val * 64 + e.val, by omega⟩) := by
  pointwise [cutKeys]
theorem cutValues_at (u : FVec Ideal S16384x1024 .f32) (b : Fin 32) (z : Fin 1) (s : Fin 256) (h : Fin 8) (e : Fin 64) :
    cutValues u (ix5 b z s h e) = u (ix2 ⟨b.val * 256 + s.val, by omega⟩ ⟨512 + (h.val * 64 + e.val), by omega⟩) := by
  pointwise [cutValues]

theorem new_keys (x : FVec Ideal S16384x2048 .bf16) (a b : FVec Ideal S2048x512 .f32) :
    cutKeys (val_main_v11 (F := Ideal) x a b) = val_main_v7 (F := Ideal) x a := by
  funext y
  idx_vars y
  exact (cutKeys_at _ y0 y1 y2 y3 y4).trans ((keys_at x a b _ ⟨y3.val * 64 + y4.val, by omega⟩).trans (new_key_at x a y0 y1 y2 y3 y4).symm)
theorem new_values (x : FVec Ideal S16384x2048 .bf16) (a b : FVec Ideal S2048x512 .f32) :
    cutValues (val_main_v11 (F := Ideal) x a b) = val_main_v8 (F := Ideal) x b := by
  funext y
  idx_vars y
  exact (cutValues_at _ y0 y1 y2 y3 y4).trans ((values_at x a b _ ⟨y3.val * 64 + y4.val, by omega⟩).trans (new_value_at x b y0 y1 y2 y3 y4).symm)

/-- The last host lines, over any contents. -/
theorem tail_keys (U : Valuation τ sig (Elt Ideal)) : StableHlo.after hostOps1 U (Proc.devRef .tc main_v7) = cutKeys (U (Proc.devRef .tc main_v2)) := by
  after_results
  try rfl
theorem tail_values (U : Valuation τ sig (Elt Ideal)) : StableHlo.after hostOps1 U (Proc.devRef .tc main_v8) = cutValues (U (Proc.devRef .tc main_v2)) := by
  after_results
  try rfl

theorem region_end (c : Dev nD) : Pipeline.withArrays (cfgs 0).spec c (V0 m c) (fun w => (dats (F := Ideal) m 0 c).arrAt w (cfgs 0).N) (Proc.devRef .tc main_v2)
    = val_main_v11 (F := Ideal) (X m c) (WK m c) (WV m c) :=
  (Pipeline.withArrays_arr (cfgs 0).spec (by decide) c (V0 m c) (fun w => (dats (F := Ideal) m 0 c).arrAt w (cfgs 0).N) 2).trans (final m c)

theorem end_keys (c : Dev nD) : Pipeline.afterTail₀ cfgs (dats m) 0 (V0 m) [hostOps1] c main_v7 = val_main_v7 (F := Ideal) (X m c) (WK m c) := by
  unfold Pipeline.afterTail₀
  simp only [List.flatten_cons, List.flatten_nil, List.append_nil]
  exact (tail_keys _).trans ((congrArg cutKeys (region_end m c)).trans (new_keys _ _ _))
theorem end_values (c : Dev nD) : Pipeline.afterTail₀ cfgs (dats m) 0 (V0 m) [hostOps1] c main_v8 = val_main_v8 (F := Ideal) (X m c) (WV m c) := by
  unfold Pipeline.afterTail₀
  simp only [List.flatten_cons, List.flatten_nil, List.append_nil]
  exact (tail_values _).trans ((congrArg cutValues (region_end m c)).trans (new_values _ _ _))

/-- The run: the new cache's keys and values and the keys and values side by side, the arguments as launched. -/
theorem run_value (ρ : Dev nD → PrngReg) : θ_run defs (onTc (τ := τ) (main (F := Ideal))) ⟨m, fun _ => 0, ρ⟩ fun r => ∀ c : Dev nD,
      r.2.mem ((c : Thread nD τ).loc main_v7) = val_main_v7 (F := Ideal) (X m c) (WK m c)
      ∧ r.2.mem ((c : Thread nD τ).loc main_v8) = val_main_v8 (F := Ideal) (X m c) (WV m c)
      ∧ r.2.mem ((c : Thread nD τ).loc main_v2) = val_main_v11 (F := Ideal) (X m c) (WK m c) (WV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v7 (Pipeline.mem_restRefs_of main_v7 (by decide) (by decide))).trans (end_keys m c),
      ((h c).2 main_v8 (Pipeline.mem_restRefs_of main_v8 (by decide) (by decide))).trans (end_values m c),
      ((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KvProjIdeal.Final

namespace Cert.KvProjClaim

theorem frame_kernel : Cert.quiescent_KvProj := fun m g _ => Cert.KvProj.Gen.frame m g
theorem frame_ideal : Cert.quiescent_KvProjIdeal := fun m g _ => Cert.KvProjIdeal.Gen.frame m g
theorem frame_reference : Cert.quiescent_KvProjReferenceIdeal := by
  intro m g _
  exact (θ_run Cert.KvProjReferenceIdeal.defs _ _).mono (fun r h => ⟨fun c => (h c).2.2.2, sem_eq_zero_of_no_sems (by decide) r.2⟩)
    (Cert.KvProjReferenceIdeal.Value.run m g)
theorem preserves : Cert.preserves_KvProj_KvProjIdeal := trivial

theorem algebraic : Cert.algebraic_KvProjIdeal_KvProjReferenceIdeal := by
  intro m g m' g' hpre hagree
  refine ⟨_, _, _, Cert.KvProjIdeal.Final.run_value m g, ?_⟩
  refine (θ_run Cert.KvProjReferenceIdeal.defs _ _).mono (fun r h c => ⟨(h c).1.trans ?_, (h c).2.1.trans ?_, (h c).2.2.1.trans ?_, (h c).2.2.2⟩)
    (Cert.KvProjReferenceIdeal.Value.run m' g')
  all_goals obtain ⟨a0, a1, a2⟩ := hagree c
  · rw [Cert.KvProjReferenceIdeal.Read.val_main_v7_eq, a0, a1]
  · rw [Cert.KvProjReferenceIdeal.Read.val_main_v8_eq, a0, a2]
  · rw [Cert.KvProjReferenceIdeal.Read.val_main_v11_eq, a0, a1, a2]

end Cert.KvProjClaim

end
-- ==== Proof.QClaim.lean ====
module

public import proofs.«01_k».proof.Defs
public import proofs.«01_k».proof.Proof.Gen.QProj.Frame
public import proofs.«01_k».proof.Proof.Gen.QProjIdeal.Value
public import proofs.«01_k».proof.Proof.Gen.QProjReferenceIdeal.Run
public import proofs.«01_k».proof.Proof.Gen.QProjReferenceIdeal.Read
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.QProjReferenceIdeal.Read

/-- The reference's product at a row and a column. -/
theorem result_at (x0 : FVec Ideal S16384x2048 .bf16) (x1 : FVec Ideal S2048x2048 .f32) (r : Fin 16384) (d : Fin 2048) :
    val_main_v2 (F := Ideal) x0 x1 (ix2 r d) = ∑ k : Fin 2048, x0 (ix2 r k) * x1 (ix2 k d) := by
  pointwise [val_main_v2, val_main_v1, val_main_v0]

end Cert.QProjReferenceIdeal.Read

namespace Cert.QProjIdeal.Final
open Cert.QProjIdeal Cert.QProjIdeal.Gen
open Cert.QProjReferenceIdeal.Read (val_main_v2 result_at)
variable (m : (ℓ : Loc nD τ sig) → Buf (Elt Ideal) ℓ)

/-- The body's product at a row and a column of its block. -/
theorem body_at (w : FVec Ideal S2048x512 .bf16) (x : FVec Ideal S1024x2048 .bf16) (p : Fin 1024) (q : Fin 512) :
    k0_pay1 (F := Ideal) w x (ix2 p q) = ∑ k : Fin 2048, x (ix2 p k) * w (ix2 k q) := by
  pointwise [k0_pay1]

theorem idx : ∀ t : Fin cfg0.N, win0_0.index t = ![t.val / 4, 0] ∧ win0_1.index t = ![0, t.val % 4] ∧ win0_2.index t = ![t.val / 4, t.val % 4] ∧ t.val / 4 < 16 :=
  (by decide +kernel : ∀ t : Fin grid0.N, _)

abbrev X (c : Dev nD) : FVec Ideal S16384x2048 .bf16 := m ((c : Thread nD τ).loc main_arg0)
abbrev W (c : Dev nD) : FVec Ideal S2048x2048 .f32 := m ((c : Thread nD τ).loc main_arg1)
abbrev xb (c : Dev nD) (t : Fin cfg0.N) : FVec Ideal S1024x2048 .bf16 := iblk m c 0 t
abbrev wb (c : Dev nD) (t : Fin cfg0.N) : FVec Ideal S2048x512 .bf16 := iblk m c 1 t

theorem rows_in (c : Dev nD) : V m c main_arg0 = X m c := V_main_arg0 m c
theorem weights_in (c : Dev nD) : V m c main_v0 = W m c := by unfold V; after_results; try rfl

theorem xb_at (c : Dev nD) (t : Fin cfg0.N) (p : Fin 1024) (k : Fin 2048) :
    xb m c t (ix2 p k) = X m c (ix2 ⟨t.val / 4 * 1024 + p.val, by have := (idx t).2.2.2; omega⟩ k) := by
  rw [← rows_in]
  generalize hv : V m c main_arg0 = v
  unfold xb
  blk_point [iblk, idx t, hv]
theorem wb_at (c : Dev nD) (t : Fin cfg0.N) (k : Fin 2048) (q : Fin 512) :
    wb m c t (ix2 k q) = W m c (ix2 k ⟨t.val % 4 * 512 + q.val, by omega⟩) := by
  rw [← weights_in]
  generalize hv : V m c main_v0 = v
  unfold wb
  blk_point [iblk, idx t, hv]

theorem point (c : Dev nD) (t : Fin cfg0.N) (y : S1024x512.Idx) :
    out0_2 (xb m c t) (wb m c t) y = val_main_v2 (F := Ideal) (X m c) (W m c) (((cfg0.win 2).blk t).view.emb y) := by
  idx_vars y
  have := (idx t).2.2.2
  have place : (show S16384x2048.Idx from ((cfg0.win 2).blk t).view.emb (ix2 y0 y1)) = ix2 ⟨t.val / 4 * 1024 + y0.val, by omega⟩ ⟨t.val % 4 * 512 + y1.val, by omega⟩ := by
    blk_ext! [idx t]
  refine Eq.trans ?_ (congrArg (val_main_v2 (F := Ideal) (X m c) (W m c)) place).symm
  have hbody : out0_2 (F := Ideal) (xb m c t) (wb m c t) = k0_pay1 (F := Ideal) (wb m c t) (xb m c t) := by
    unfold out0_2
    generalize xb m c t = a
    generalize wb m c t = b
    funext y; frame_out
  rw [hbody, body_at, result_at]
  exact Finset.sum_congr rfl fun k _ => congrArg₂ (· * ·) (xb_at m c t _ k) (wb_at m c t k _)

theorem final (c : Dev nD) : (dats m 0 c).arrAt 2 (cfgs 0).N = val_main_v2 (F := Ideal) (X m c) (W m c) := by
  refine (dats m 0 c).arrAt_eq_of_covers 2 _ (by decide +kernel) (fun t hf y => ?_)
  blk_simp
  rw [after0_2]
  exact point m c t y

end Cert.QProjIdeal.Final

namespace Cert.QProjClaim

theorem frame_kernel : Cert.quiescent_QProj := fun m g _ => Cert.QProj.Gen.frame m g
theorem frame_ideal : Cert.quiescent_QProjIdeal := fun m g _ => Cert.QProjIdeal.Gen.frame m g
theorem frame_reference : Cert.quiescent_QProjReferenceIdeal := by
  intro m g _
  exact (θ_run Cert.QProjReferenceIdeal.defs _ _).mono (fun r h => ⟨fun c => (h c).2, sem_eq_zero_of_no_sems (by decide) r.2⟩)
    (Cert.QProjReferenceIdeal.Value.run m g)
theorem preserves : Cert.preserves_QProj_QProjIdeal := trivial

theorem algebraic : Cert.algebraic_QProjIdeal_QProjReferenceIdeal := by
  pair_intro
  · run_from Cert.QProjIdeal.Value.run_blocks m g
  · run_from Cert.QProjReferenceIdeal.Value.run m' g'
    obtain ⟨a0, a1⟩ := hagree c
    rw [Cert.QProjReferenceIdeal.Read.val_main_v2_eq]
    try rw [a0, a1]
    exact (Cert.QProjIdeal.Final.final m c).symm

end Cert.QProjClaim

end
-- ==== Proof.NormRun.lean ====
module

public import proofs.«01_k».proof.Proof.Gen.NormIdeal.Frame

@[expose] public section

set_option maxRecDepth 16384
noncomputable section

namespace Cert.NormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame's run again, keeping what every buffer holds at the end: each unscoped buffer ends at the last boundary's
    contents. -/
theorem run_all : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c => h c)

end Cert.NormIdeal.Gen

end
-- ==== Proof.NormClaim.lean ====
module

public import proofs.«01_k».proof.Defs
public import proofs.«01_k».proof.Proof.Gen.Norm.Frame
public import proofs.«01_k».proof.Proof.Gen.NormIdeal.Frame
public import proofs.«01_k».proof.Proof.Gen.NormReferenceIdeal.Run
public import proofs.«01_k».proof.Proof.Gen.NormReferenceIdeal.Read
public import proofs.«01_k».proof.Proof.NormRun
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.NormReferenceIdeal.Read

/-- One entry of a row divided by the root of the row's mean square, times its gain. -/
def scaled (f : Fin 2048 → EReal) (g : EReal) (d : Fin 2048) : EReal :=
  f d * Ideal.rsqrt (Ideal.div (∑ k : Fin 2048, f k * f k) (Ideal.ofBits FTy.f32 1157627904#32) + Ideal.ofBits FTy.f32 897988541#32) * g

/-- The reference at a row of the context. -/
theorem prompt_at (x : FVec Ideal S16384x2048 .f32) (g : FVec Ideal S2048 .f32) (b : Fin 32) (s : Fin 256) (d : Fin 2048) :
    val_main_v14 (F := Ideal) x g (ix3 b s d) = scaled (fun k => x (ix2 ⟨b.val * 256 + s.val, by omega⟩ k)) (g (ix1 d)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference at a row of a canvas. -/
theorem sample_at (x : FVec Ideal S16384x2048 .f32) (g : FVec Ideal S2048 .f32) (b : Fin 2) (s : Fin 4096) (d : Fin 2048) :
    val_main_v29 (F := Ideal) x g (ix3 b s d) = scaled (fun k => x (ix2 ⟨8192 + (b.val * 4096 + s.val), by omega⟩ k)) (g (ix1 d)) d := by
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

end Cert.NormReferenceIdeal.Read

namespace Cert.NormIdeal.Final
open Cert.NormIdeal Cert.NormIdeal.Gen
open Cert.NormReferenceIdeal.Read (val_main_v14 val_main_v29 scaled prompt_at sample_at)
variable (m : (ℓ : Loc nD τ sig) → Buf (Elt Ideal) ℓ) (ρ : Dev nD → PrngReg)

abbrev X (c : Dev nD) : FVec Ideal S16384x2048 .f32 := m ((c : Thread nD τ).loc main_arg0)
abbrev G (c : Dev nD) : FVec Ideal S2048 .f32 := m ((c : Thread nD τ).loc main_arg1)

/-- The 8192 normalized rows that begin at row `off`. -/
def rows (off : ℕ) (h : off + 8192 ≤ 16384) (x : FVec Ideal S16384x2048 .f32) (g : FVec Ideal S2048 .f32) : FVec Ideal S8192x2048 .f32 :=
  fun y => scaled (fun k => x (ix2 ⟨off + (y 0).val, lt_of_lt_of_le (Nat.add_lt_add_left (y 0).isLt off) h⟩ k)) (g (ix1 (y 1))) (y 1)

theorem rows_at (off : ℕ) (h : off + 8192 ≤ 16384) (x : FVec Ideal S16384x2048 .f32) (g : FVec Ideal S2048 .f32) (r : Fin 8192) (d : Fin 2048) :
    rows off h x g (ix2 r d) = scaled (fun k => x (ix2 ⟨off + r.val, by omega⟩ k)) (g (ix1 d)) d := rfl

/-- The gain as a row. -/
def asRow (g : FVec Ideal S2048 .f32) : FVec Ideal S1x2048 .f32 := shapeCast S1x2048 g shapeCasts_S2048_S1x2048
theorem asRow_at (g : FVec Ideal S2048 .f32) (d : Fin 2048) : asRow g (ix2 0 d) = g (ix1 d) := by pointwise [asRow]

theorem x_in0 (c : Dev nD) : V1 m ρ c main_arg0 = X m c := W1_args m ρ c main_arg0 (by decide)
theorem x_in1 (c : Dev nD) : V3 m ρ c main_arg0 = X m c := W3_args m ρ c main_arg0 (by decide)

theorem first_lines (U : Valuation τ sig (Elt Ideal)) : StableHlo.after hostOps0 U (Proc.devRef .tc main_v0) = asRow (U (Proc.devRef .tc main_arg1)) := by
  after_results
  try rfl
theorem middle_gain (U : Valuation τ sig (Elt Ideal)) : StableHlo.after hostOps1 U (Proc.devRef .tc main_v3) = asRow (U (Proc.devRef .tc main_arg1)) := by
  after_results
  try rfl
/-- The context's rows by request. -/
def asPrompt (u : FVec Ideal S8192x2048 .f32) : FVec Ideal S32x256x2048 .f32 := shapeCast S32x256x2048 u shapeCasts_S8192x2048_S32x256x2048
/-- The canvases' rows by canvas. -/
def asSample (u : FVec Ideal S8192x2048 .f32) : FVec Ideal S2x4096x2048 .f32 := shapeCast S2x4096x2048 u shapeCasts_S8192x2048_S2x4096x2048
theorem middle_prompt (U : Valuation τ sig (Elt Ideal)) : StableHlo.after hostOps1 U (Proc.devRef .tc main_v2) = asPrompt (U (Proc.devRef .tc main_v1)) := by
  after_results
  try rfl
theorem last_sample (U : Valuation τ sig (Elt Ideal)) : StableHlo.after hostOps2 U (Proc.devRef .tc main_v5) = asSample (U (Proc.devRef .tc main_v4)) := by
  after_results
  try rfl

theorem g_in0 (c : Dev nD) : V1 m ρ c main_v0 = asRow (G m c) := (first_lines _).trans (congrArg asRow (W0_args m ρ c main_arg1 (by decide)))
theorem g_in1 (c : Dev nD) : V3 m ρ c main_v3 = asRow (G m c) := (middle_gain _).trans (congrArg asRow (W2_args m ρ c main_arg1 (by decide)))

/-! ## Region 0 -/

theorem body0_at (x : FVec Ideal S256x2048 .f32) (g : FVec Ideal S1x2048 .f32) (p : Fin 256) (d : Fin 2048) :
    k0_pay1 (F := Ideal) x g (ix2 p d) = scaled (fun k => x (ix2 p k)) (g (ix2 0 d)) d := by
  pointwise [k0_pay1]
  rfl

theorem idx0 : ∀ t : Fin cfg0.N, win0_0.index t = ![t.val, 0] ∧ win0_1.index t = ![0, 0] ∧ win0_2.index t = ![t.val, 0] ∧ t.val < 32 :=
  (by decide +kernel : ∀ t : Fin grid0.N, _)

abbrev xb0 (c : Dev nD) (t : Fin cfg0.N) : FVec Ideal S256x2048 .f32 := iblk0 (V1 m ρ) c 0 t
abbrev gb0 (c : Dev nD) (t : Fin cfg0.N) : FVec Ideal S1x2048 .f32 := iblk0 (V1 m ρ) c 1 t

theorem xb0_at (c : Dev nD) (t : Fin cfg0.N) (p : Fin 256) (k : Fin 2048) :
    xb0 m ρ c t (ix2 p k) = X m c (ix2 ⟨0 + (t.val * 256 + p.val), by have := (idx0 t).2.2.2; omega⟩ k) := by
  rw [show X m c = V1 m ρ c main_arg0 from (x_in0 m ρ c).symm]
  generalize hv : V1 m ρ c main_arg0 = v
  unfold xb0
  blk_point [iblk0, idx0 t, hv]
theorem gb0_at (c : Dev nD) (t : Fin cfg0.N) (d : Fin 2048) :
    gb0 m ρ c t (ix2 0 d) = G m c (ix1 d) := by
  refine Eq.trans ?_ (asRow_at (G m c) d)
  rw [← g_in0 m ρ c]
  generalize hv : V1 m ρ c main_v0 = v
  unfold gb0
  blk_point [iblk0, idx0 t, hv]

theorem point0 (c : Dev nD) (t : Fin cfg0.N) (y : S256x2048.Idx) :
    out0_2 (F := Ideal) (xb0 m ρ c t) (gb0 m ρ c t) y = rows 0 (by omega) (X m c) (G m c) (((cfg0.win 2).blk t).view.emb y) := by
  idx_vars y
  have h32 := (idx0 t).2.2.2
  have place : (show S8192x2048.Idx from ((cfg0.win 2).blk t).view.emb (ix2 y0 y1)) = ix2 ⟨t.val * 256 + y0.val, by omega⟩ y1 := by
    blk_ext! [idx0 t]
  refine Eq.trans ?_ (congrArg (rows 0 (by omega) (X m c) (G m c)) place).symm
  have hbody : out0_2 (F := Ideal) (xb0 m ρ c t) (gb0 m ρ c t) = k0_pay1 (F := Ideal) (xb0 m ρ c t) (gb0 m ρ c t) := by
    unfold out0_2
    generalize xb0 m ρ c t = a
    generalize gb0 m ρ c t = b
    funext y; frame_out
  rw [hbody, body0_at]
  exact congrArg₂ (fun f g => scaled f g y1) (funext fun k => xb0_at m ρ c t y0 k) (gb0_at m ρ c t y1)

theorem final0 (c : Dev nD) : (dat0 (V1 m ρ) c).arrAt 2 cfg0.N = rows 0 (by omega) (X m c) (G m c) := by
  refine (dat0 (V1 m ρ) c).arrAt_eq_of_covers 2 _ (by decide +kernel) (fun t hf y => ?_)
  blk_simp
  rw [after0_2]
  exact point0 m ρ c t y

/-! ## Region 1 -/

theorem body1_at (x : FVec Ideal S256x2048 .f32) (g : FVec Ideal S1x2048 .f32) (p : Fin 256) (d : Fin 2048) :
    k1_pay1 (F := Ideal) x g (ix2 p d) = scaled (fun k => x (ix2 p k)) (g (ix2 0 d)) d := by
  pointwise [k1_pay1]
  rfl

theorem idx1 : ∀ t : Fin cfg1.N, win1_0.index t = ![32 + t.val, 0] ∧ win1_1.index t = ![0, 0] ∧ win1_2.index t = ![t.val, 0] ∧ t.val < 32 :=
  (by decide +kernel : ∀ t : Fin grid1.N, _)

abbrev xb1 (c : Dev nD) (t : Fin cfg1.N) : FVec Ideal S256x2048 .f32 := iblk1 (V3 m ρ) c 0 t
abbrev gb1 (c : Dev nD) (t : Fin cfg1.N) : FVec Ideal S1x2048 .f32 := iblk1 (V3 m ρ) c 1 t

theorem xb1_at (c : Dev nD) (t : Fin cfg1.N) (p : Fin 256) (k : Fin 2048) :
    xb1 m ρ c t (ix2 p k) = X m c (ix2 ⟨8192 + (t.val * 256 + p.val), by have := (idx1 t).2.2.2; omega⟩ k) := by
  rw [show X m c = V3 m ρ c main_arg0 from (x_in1 m ρ c).symm]
  generalize hv : V3 m ρ c main_arg0 = v
  unfold xb1
  blk_point [iblk1, idx1 t, hv]
theorem gb1_at (c : Dev nD) (t : Fin cfg1.N) (d : Fin 2048) :
    gb1 m ρ c t (ix2 0 d) = G m c (ix1 d) := by
  refine Eq.trans ?_ (asRow_at (G m c) d)
  rw [← g_in1 m ρ c]
  generalize hv : V3 m ρ c main_v3 = v
  unfold gb1
  blk_point [iblk1, idx1 t, hv]

theorem point1 (c : Dev nD) (t : Fin cfg1.N) (y : S256x2048.Idx) :
    out1_2 (F := Ideal) (xb1 m ρ c t) (gb1 m ρ c t) y = rows 8192 (by omega) (X m c) (G m c) (((cfg1.win 2).blk t).view.emb y) := by
  idx_vars y
  have h32 := (idx1 t).2.2.2
  have place : (show S8192x2048.Idx from ((cfg1.win 2).blk t).view.emb (ix2 y0 y1)) = ix2 ⟨t.val * 256 + y0.val, by omega⟩ y1 := by
    blk_ext! [idx1 t]
  refine Eq.trans ?_ (congrArg (rows 8192 (by omega) (X m c) (G m c)) place).symm
  have hbody : out1_2 (F := Ideal) (xb1 m ρ c t) (gb1 m ρ c t) = k1_pay1 (F := Ideal) (xb1 m ρ c t) (gb1 m ρ c t) := by
    unfold out1_2
    generalize xb1 m ρ c t = a
    generalize gb1 m ρ c t = b
    funext y; frame_out
  rw [hbody, body1_at]
  exact congrArg₂ (fun f g => scaled f g y1) (funext fun k => xb1_at m ρ c t y0 k) (gb1_at m ρ c t y1)

theorem final1 (c : Dev nD) : (dat1 (V3 m ρ) c).arrAt 2 cfg1.N = rows 8192 (by omega) (X m c) (G m c) := by
  refine (dat1 (V3 m ρ) c).arrAt_eq_of_covers 2 _ (by decide +kernel) (fun t hf y => ?_)
  blk_simp
  rw [after1_2]
  exact point1 m ρ c t y

/-! ## The whole run -/

theorem prompt (x : FVec Ideal S16384x2048 .f32) (g : FVec Ideal S2048 .f32) : asPrompt (rows 0 (by omega) x g) = val_main_v14 (F := Ideal) x g := by
  funext y
  idx_vars y
  have e : asPrompt (rows 0 (by omega) x g) (ix3 y0 y1 y2) = rows 0 (by omega) x g (ix2 ⟨y0.val * 256 + y1.val, by omega⟩ y2) := by
    generalize rows 0 (by omega) x g = u
    pointwise [asPrompt]
  rw [e, rows_at, prompt_at]
  simp only [Nat.zero_add]

theorem sample (x : FVec Ideal S16384x2048 .f32) (g : FVec Ideal S2048 .f32) : asSample (rows 8192 (by omega) x g) = val_main_v29 (F := Ideal) x g := by
  funext y
  idx_vars y
  have e : asSample (rows 8192 (by omega) x g) (ix3 y0 y1 y2) = rows 8192 (by omega) x g (ix2 ⟨y0.val * 4096 + y1.val, by omega⟩ y2) := by
    generalize rows 8192 (by omega) x g = u
    pointwise [asSample]
  rw [e, rows_at, sample_at]

theorem end_prompt (c : Dev nD) : W5 m ρ c (Proc.devRef .tc main_v2) = val_main_v14 (F := Ideal) (X m c) (G m c) :=
  (W5_of m ρ c main_v2 (by decide)).trans ((W4_of_ne m ρ c main_v2 (by decide)).trans ((middle_prompt _).trans
    ((congrArg asPrompt ((W2_arr m ρ c 2).trans (final0 m ρ c))).trans (prompt _ _))))
theorem end_sample (c : Dev nD) : W5 m ρ c (Proc.devRef .tc main_v5) = val_main_v29 (F := Ideal) (X m c) (G m c) :=
  (last_sample _).trans ((congrArg asSample ((W4_arr m ρ c 2).trans (final1 m ρ c))).trans (sample _ _))

/-- The run: both normalized parts, the arguments as launched. -/
theorem run_value : θ_run defs (onTc (τ := τ) (main (F := Ideal))) ⟨m, fun _ => 0, ρ⟩ fun r => ∀ c : Dev nD,
      r.2.mem ((c : Thread nD τ).loc main_v2) = val_main_v14 (F := Ideal) (X m c) (G m c)
      ∧ r.2.mem ((c : Thread nD τ).loc main_v5) = val_main_v29 (F := Ideal) (X m c) (G m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      (h c _ (mem_uc main_v2 (by decide))).trans (end_prompt m ρ c),
      (h c _ (mem_uc main_v5 (by decide))).trans (end_sample m ρ c),
      (h c _ (mem_uc main_arg0 (by decide))).trans (W5_main_arg0 m ρ c),
      (h c _ (mem_uc main_arg1 (by decide))).trans (W5_main_arg1 m ρ c)⟩)
    (run_all m ρ)

end Cert.NormIdeal.Final

namespace Cert.NormClaim

theorem frame_kernel : Cert.quiescent_Norm := fun m g _ => Cert.Norm.Gen.frame m g
theorem frame_ideal : Cert.quiescent_NormIdeal := fun m g _ => Cert.NormIdeal.Gen.frame m g
theorem frame_reference : Cert.quiescent_NormReferenceIdeal := by
  intro m g _
  exact (θ_run Cert.NormReferenceIdeal.defs _ _).mono (fun r h => ⟨fun c => (h c).2.2, sem_eq_zero_of_no_sems (by decide) r.2⟩)
    (Cert.NormReferenceIdeal.Value.run m g)
theorem preserves : Cert.preserves_Norm_NormIdeal := trivial

theorem algebraic : Cert.algebraic_NormIdeal_NormReferenceIdeal := by
  intro m g m' g' hpre hagree
  refine ⟨_, _, Cert.NormIdeal.Final.run_value m g, ?_⟩
  refine (θ_run Cert.NormReferenceIdeal.defs _ _).mono (fun r h c => ⟨(h c).1.trans ?_, (h c).2.1.trans ?_, (h c).2.2⟩)
    (Cert.NormReferenceIdeal.Value.run m' g')
  all_goals obtain ⟨a0, a1⟩ := hagree c
  · rw [Cert.NormReferenceIdeal.Read.val_main_v14_eq, a0, a1]
  · rw [Cert.NormReferenceIdeal.Read.val_main_v29_eq, a0, a1]

end Cert.NormClaim

end
-- ==== Proof.AoClaim.lean ====
module

public import proofs.«01_k».proof.Defs
public import proofs.«01_k».proof.Proof.Gen.AttnOut.Frame
public import proofs.«01_k».proof.Proof.Gen.AttnOutIdeal.Value
public import proofs.«01_k».proof.Proof.Gen.AttnOutReferenceIdeal.Run
public import proofs.«01_k».proof.Proof.Gen.AttnOutReferenceIdeal.Read
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.AttnOutReferenceIdeal.Read

/-- The segment of a row: the context rows are segment 0, each canvas of 4096 rows one more. -/
def seg (r : ℕ) : ℕ := if r < 8192 then 0 else 1 + (r - 8192) / 4096

theorem seg_lt (r : Fin 16384) : seg r.val * 6 + 2 < 18 := by
  unfold seg
  split <;> omega

/-- The reference at a context row. -/
theorem context_at (x0 : FVec Ideal S16384x2048 .bf16) (x1 : FVec Ideal S2048x2048 .f32) (x2 : FVec Ideal S16384x2048 .f32) (x3 : FVec Ideal S18x1x2048 .f32)
    (r : Fin 8192) (d : Fin 2048) :
    val_main_v24 (F := Ideal) x0 x1 x2 x3 (ix2 ⟨r.val, by omega⟩ d) =
      x2 (ix2 ⟨r.val, by omega⟩ d) + x3 (ix3 2 0 d) * ∑ k : Fin 2048, x0 (ix2 ⟨r.val, by omega⟩ k) * x1 (ix2 k d) := by
  pointwise [val_main_v24, val_main_v12, val_main_v11, val_main_v10, val_main_v9, val_main_v8, val_main_v7, val_main_v6, val_main_v5, val_main_v4, val_main_v3, val_main_v2, val_main_v1, val_main_v0]

/-- The reference at a row of a canvas. -/
theorem canvas_at (x0 : FVec Ideal S16384x2048 .bf16) (x1 : FVec Ideal S2048x2048 .f32) (x2 : FVec Ideal S16384x2048 .f32) (x3 : FVec Ideal S18x1x2048 .f32)
    (b : Fin 2) (s : Fin 4096) (d : Fin 2048) :
    val_main_v24 (F := Ideal) x0 x1 x2 x3 (ix2 ⟨8192 + b.val * 4096 + s.val, by omega⟩ d) =
      x2 (ix2 ⟨8192 + b.val * 4096 + s.val, by omega⟩ d) + x3 (ix3 ⟨(1 + b.val) * 6 + 2, by omega⟩ 0 d) *
        ∑ k : Fin 2048, x0 (ix2 ⟨8192 + b.val * 4096 + s.val, by omega⟩ k) * x1 (ix2 k d) := by
  pointwise [val_main_v24, val_main_v23, val_main_v22, val_main_v21, val_main_v20, val_main_v19, val_main_v18, val_main_v17, val_main_v16, val_main_v15, val_main_v14, val_main_v13, val_main_v3, val_main_v2, val_main_v1, val_main_v0]
  have e : 8192 + b.val * 4096 + s.val - 8192 = b.val * 4096 + s.val := by omega
  have eb : (b.val * 4096 + s.val) / 4096 = b.val := by omega
  have es : (b.val * 4096 + s.val) % 4096 = s.val := by omega
  rw [dif_neg (by omega)]
  simp only [e, eb, es, ← Nat.add_assoc]

/-- The reference at any row. -/
theorem result_at (x0 : FVec Ideal S16384x2048 .bf16) (x1 : FVec Ideal S2048x2048 .f32) (x2 : FVec Ideal S16384x2048 .f32) (x3 : FVec Ideal S18x1x2048 .f32)
    (r : Fin 16384) (d : Fin 2048) :
    val_main_v24 (F := Ideal) x0 x1 x2 x3 (ix2 r d) =
      x2 (ix2 r d) + x3 (ix3 ⟨seg r.val * 6 + 2, seg_lt r⟩ 0 d) * ∑ k : Fin 2048, x0 (ix2 r k) * x1 (ix2 k d) := by
  by_cases h : r.val < 8192
  · have e : (⟨seg r.val * 6 + 2, seg_lt r⟩ : Fin 18) = 2 := Fin.ext (by show seg r.val * 6 + 2 = 2; rw [seg, if_pos h])
    rw [e]
    exact context_at x0 x1 x2 x3 ⟨r.val, h⟩ d
  · have hb : (r.val - 8192) / 4096 < 2 := by omega
    have e : (⟨seg r.val * 6 + 2, seg_lt r⟩ : Fin 18) = ⟨(1 + (r.val - 8192) / 4096) * 6 + 2, by omega⟩ :=
      Fin.ext (by show seg r.val * 6 + 2 = _; rw [seg, if_neg h])
    have er : r = ⟨8192 + (r.val - 8192) / 4096 * 4096 + (r.val - 8192) % 4096, by omega⟩ := Fin.ext (by show r.val = 8192 + (r.val - 8192) / 4096 * 4096 + (r.val - 8192) % 4096; omega)
    rw [e]
    have := canvas_at x0 x1 x2 x3 ⟨(r.val - 8192) / 4096, hb⟩ ⟨(r.val - 8192) % 4096, by omega⟩ d
    rw [← er] at this
    exact this

end Cert.AttnOutReferenceIdeal.Read

namespace Cert.AttnOutIdeal.Final
open Cert.AttnOutIdeal Cert.AttnOutIdeal.Gen
open Cert.AttnOutReferenceIdeal.Read (val_main_v24 result_at seg seg_lt)
variable (m : (ℓ : Loc nD τ sig) → Buf (Elt Ideal) ℓ)

/-- The body's gated product over its residual, at a row and a column of its block. -/
theorem body_at (w : FVec Ideal S2048x512 .bf16) (x : FVec Ideal S1024x2048 .bf16) (r : FVec Ideal S1024x512 .f32) (g : FVec Ideal S1x1x512 .f32) (p : Fin 1024) (q : Fin 512) :
    k0_pay1 (F := Ideal) w x r g (ix2 p q) = r (ix2 p q) + g (ix3 0 0 q) * ∑ k : Fin 2048, x (ix2 p k) * w (ix2 k q) := by
  pointwise [k0_pay1]

theorem idx : ∀ t : Fin cfg0.N, win0_0.index t = ![t.val / 4, 0] ∧ win0_1.index t = ![0, t.val % 4] ∧ win0_2.index t = ![t.val / 4, t.val % 4] ∧
    win0_3.index t = ![seg (t.val / 4 * 1024) * 6 + 2, 0, t.val % 4] ∧ win0_4.index t = ![t.val / 4, t.val % 4] ∧ t.val / 4 < 16 :=
  (by decide +kernel : ∀ t : Fin grid0.N, _)

theorem seg_block (a p : ℕ) (h : p < 1024) : seg (a * 1024 + p) = seg (a * 1024) := by
  unfold seg
  split <;> split <;> omega

abbrev X (c : Dev nD) : FVec Ideal S16384x2048 .bf16 := m ((c : Thread nD τ).loc main_arg0)
abbrev W (c : Dev nD) : FVec Ideal S2048x2048 .f32 := m ((c : Thread nD τ).loc main_arg1)
abbrev R (c : Dev nD) : FVec Ideal S16384x2048 .f32 := m ((c : Thread nD τ).loc main_arg2)
abbrev G (c : Dev nD) : FVec Ideal S18x1x2048 .f32 := m ((c : Thread nD τ).loc main_arg3)
abbrev xb (c : Dev nD) (t : Fin cfg0.N) : FVec Ideal S1024x2048 .bf16 := iblk m c 0 t
abbrev wb (c : Dev nD) (t : Fin cfg0.N) : FVec Ideal S2048x512 .bf16 := iblk m c 1 t
abbrev rb (c : Dev nD) (t : Fin cfg0.N) : FVec Ideal S1024x512 .f32 := iblk m c 2 t
abbrev gb (c : Dev nD) (t : Fin cfg0.N) : FVec Ideal S1x1x512 .f32 := iblk m c 3 t

theorem weights_in (c : Dev nD) : V m c main_v0 = W m c := by unfold V; after_results; try rfl

theorem xb_at (c : Dev nD) (t : Fin cfg0.N) (p : Fin 1024) (k : Fin 2048) :
    xb m c t (ix2 p k) = X m c (ix2 ⟨t.val / 4 * 1024 + p.val, by have := (idx t).2.2.2.2.2; omega⟩ k) := by
  rw [show X m c = V m c main_arg0 from (V_main_arg0 m c).symm]
  generalize hv : V m c main_arg0 = v
  unfold xb
  blk_point [iblk, idx t, hv]
theorem wb_at (c : Dev nD) (t : Fin cfg0.N) (k : Fin 2048) (q : Fin 512) :
    wb m c t (ix2 k q) = W m c (ix2 k ⟨t.val % 4 * 512 + q.val, by omega⟩) := by
  rw [← weights_in]
  generalize hv : V m c main_v0 = v
  unfold wb
  blk_point [iblk, idx t, hv]
theorem rb_at (c : Dev nD) (t : Fin cfg0.N) (p : Fin 1024) (q : Fin 512) :
    rb m c t (ix2 p q) = R m c (ix2 ⟨t.val / 4 * 1024 + p.val, by have := (idx t).2.2.2.2.2; omega⟩ ⟨t.val % 4 * 512 + q.val, by omega⟩) := by
  rw [show R m c = V m c main_arg2 from (V_main_arg2 m c).symm]
  generalize hv : V m c main_arg2 = v
  unfold rb
  blk_point [iblk, idx t, hv]
theorem gate_lt (t : Fin cfg0.N) : seg (t.val / 4 * 1024) * 6 + 2 < 18 :=
  seg_lt ⟨t.val / 4 * 1024, by have := (idx t).2.2.2.2.2; omega⟩
theorem gb_at (c : Dev nD) (t : Fin cfg0.N) (q : Fin 512) :
    gb m c t (ix3 0 0 q) = G m c (ix3 ⟨seg (t.val / 4 * 1024) * 6 + 2, gate_lt t⟩ 0 ⟨t.val % 4 * 512 + q.val, by omega⟩) := by
  rw [show G m c = V m c main_arg3 from (V_main_arg3 m c).symm]
  generalize hv : V m c main_arg3 = v
  unfold gb
  blk_point [iblk, idx t, hv]

theorem point (c : Dev nD) (t : Fin cfg0.N) (y : S1024x512.Idx) :
    out0_4 (F := Ideal) (xb m c t) (wb m c t) (rb m c t) (gb m c t) y =
      val_main_v24 (F := Ideal) (X m c) (W m c) (R m c) (G m c) (((cfg0.win 4).blk t).view.emb y) := by
  idx_vars y
  have h16 := (idx t).2.2.2.2.2
  have place : (show S16384x2048.Idx from ((cfg0.win 4).blk t).view.emb (ix2 y0 y1)) = ix2 ⟨t.val / 4 * 1024 + y0.val, by omega⟩ ⟨t.val % 4 * 512 + y1.val, by omega⟩ := by
    blk_ext! [idx t]
  refine Eq.trans ?_ (congrArg (val_main_v24 (F := Ideal) (X m c) (W m c) (R m c) (G m c)) place).symm
  have hbody : out0_4 (F := Ideal) (xb m c t) (wb m c t) (rb m c t) (gb m c t) = k0_pay1 (F := Ideal) (wb m c t) (xb m c t) (rb m c t) (gb m c t) := by
    unfold out0_4
    generalize xb m c t = a
    generalize wb m c t = b
    generalize rb m c t = d
    generalize gb m c t = e
    funext y; frame_out
  rw [hbody, body_at, result_at]
  have eg : (⟨seg (t.val / 4 * 1024 + y0.val) * 6 + 2, seg_lt ⟨t.val / 4 * 1024 + y0.val, by omega⟩⟩ : Fin 18) = ⟨seg (t.val / 4 * 1024) * 6 + 2, gate_lt t⟩ :=
    Fin.ext (by show seg (t.val / 4 * 1024 + y0.val) * 6 + 2 = _; rw [seg_block _ _ y0.isLt])
  refine congrArg₂ (· + ·) (rb_at m c t y0 y1) (congrArg₂ (· * ·) ?_ (Finset.sum_congr rfl fun k _ => congrArg₂ (· * ·) (xb_at m c t _ k) (wb_at m c t k _)))
  exact (gb_at m c t y1).trans (congrArg (fun i => G m c (ix3 i 0 ⟨t.val % 4 * 512 + y1.val, by omega⟩)) eg.symm)

theorem final (c : Dev nD) : (dats m 0 c).arrAt 4 (cfgs 0).N = val_main_v24 (F := Ideal) (X m c) (W m c) (R m c) (G m c) := by
  refine (dats m 0 c).arrAt_eq_of_covers 4 _ (by decide +kernel) (fun t hf y => ?_)
  blk_simp
  rw [after0_4]
  exact point m c t y

end Cert.AttnOutIdeal.Final

namespace Cert.AttnOutClaim

theorem frame_kernel : Cert.quiescent_AttnOut := fun m g _ => Cert.AttnOut.Gen.frame m g
theorem frame_ideal : Cert.quiescent_AttnOutIdeal := fun m g _ => Cert.AttnOutIdeal.Gen.frame m g
theorem frame_reference : Cert.quiescent_AttnOutReferenceIdeal := by
  intro m g _
  exact (θ_run Cert.AttnOutReferenceIdeal.defs _ _).mono (fun r h => ⟨fun c => (h c).2, sem_eq_zero_of_no_sems (by decide) r.2⟩)
    (Cert.AttnOutReferenceIdeal.Value.run m g)
theorem preserves : Cert.preserves_AttnOut_AttnOutIdeal := trivial

theorem algebraic : Cert.algebraic_AttnOutIdeal_AttnOutReferenceIdeal := by
  pair_intro
  · run_from Cert.AttnOutIdeal.Value.run_blocks m g
  · run_from Cert.AttnOutReferenceIdeal.Value.run m' g'
    obtain ⟨a0, a1, a2, a3⟩ := hagree c
    rw [Cert.AttnOutReferenceIdeal.Read.val_main_v24_eq]
    try rw [a0]
    try rw [a1]
    try rw [a2]
    try rw [a3]
    exact (Cert.AttnOutIdeal.Final.final m c).symm

end Cert.AttnOutClaim

end
-- ==== Proof.OutClaim.lean ====
module

public import proofs.«01_k».proof.Defs
public import proofs.«01_k».proof.Proof.Gen.OutProj.Frame
public import proofs.«01_k».proof.Proof.Gen.OutProjIdeal.Frame
public import proofs.«01_k».proof.Proof.Gen.OutProjReferenceIdeal.Run
public import proofs.«01_k».proof.Proof.Gen.OutProjReferenceIdeal.Read
public import Idealize.ShloMosaic.Lib.Claim
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.OutProjReferenceIdeal.Read

/-- The segment of a row: the context rows are segment 0, each canvas of 4096 rows one more. -/
def seg (r : ℕ) : ℕ := if r < 8192 then 0 else 1 + (r - 8192) / 4096

theorem seg_lt (r : Fin 16384) : seg r.val * 6 + 2 < 18 := by
  unfold seg
  split <;> omega

/-- The reference at a context row. -/
theorem context_at (x0 : FVec Ideal S16384x4096 .bf16) (x1 : FVec Ideal S4096x2048 .f32) (x2 : FVec Ideal S16384x2048 .f32) (x3 : FVec Ideal S18x1x2048 .f32)
    (r : Fin 8192) (d : Fin 2048) :
    val_main_v24 (F := Ideal) x0 x1 x2 x3 (ix2 ⟨r.val, by omega⟩ d) =
      x2 (ix2 ⟨r.val, by omega⟩ d) + x3 (ix3 2 0 d) * ∑ k : Fin 4096, x0 (ix2 ⟨r.val, by omega⟩ k) * x1 (ix2 k d) := by
  pointwise [val_main_v24, val_main_v12, val_main_v11, val_main_v10, val_main_v9, val_main_v8, val_main_v7, val_main_v6, val_main_v5, val_main_v4, val_main_v3, val_main_v2, val_main_v1, val_main_v0]

/-- The reference at a row of a canvas. -/
theorem canvas_at (x0 : FVec Ideal S16384x4096 .bf16) (x1 : FVec Ideal S4096x2048 .f32) (x2 : FVec Ideal S16384x2048 .f32) (x3 : FVec Ideal S18x1x2048 .f32)
    (b : Fin 2) (s : Fin 4096) (d : Fin 2048) :
    val_main_v24 (F := Ideal) x0 x1 x2 x3 (ix2 ⟨8192 + b.val * 4096 + s.val, by omega⟩ d) =
      x2 (ix2 ⟨8192 + b.val * 4096 + s.val, by omega⟩ d) + x3 (ix3 ⟨(1 + b.val) * 6 + 2, by omega⟩ 0 d) *
        ∑ k : Fin 4096, x0 (ix2 ⟨8192 + b.val * 4096 + s.val, by omega⟩ k) * x1 (ix2 k d) := by
  pointwise [val_main_v24, val_main_v23, val_main_v22, val_main_v21, val_main_v20, val_main_v19, val_main_v18, val_main_v17, val_main_v16, val_main_v15, val_main_v14, val_main_v13, val_main_v3, val_main_v2, val_main_v1, val_main_v0]
  have e : 8192 + b.val * 4096 + s.val - 8192 = b.val * 4096 + s.val := by omega
  have eb : (b.val * 4096 + s.val) / 4096 = b.val := by omega
  have es : (b.val * 4096 + s.val) % 4096 = s.val := by omega
  rw [dif_neg (by omega)]
  simp only [e, eb, es, ← Nat.add_assoc]

/-- The reference at any row. -/
theorem result_at (x0 : FVec Ideal S16384x4096 .bf16) (x1 : FVec Ideal S4096x2048 .f32) (x2 : FVec Ideal S16384x2048 .f32) (x3 : FVec Ideal S18x1x2048 .f32)
    (r : Fin 16384) (d : Fin 2048) :
    val_main_v24 (F := Ideal) x0 x1 x2 x3 (ix2 r d) =
      x2 (ix2 r d) + x3 (ix3 ⟨seg r.val * 6 + 2, seg_lt r⟩ 0 d) * ∑ k : Fin 4096, x0 (ix2 r k) * x1 (ix2 k d) := by
  by_cases h : r.val < 8192
  · have e : (⟨seg r.val * 6 + 2, seg_lt r⟩ : Fin 18) = 2 := Fin.ext (by show seg r.val * 6 + 2 = 2; rw [seg, if_pos h])
    rw [e]
    exact context_at x0 x1 x2 x3 ⟨r.val, h⟩ d
  · have hb : (r.val - 8192) / 4096 < 2 := by omega
    have e : (⟨seg r.val * 6 + 2, seg_lt r⟩ : Fin 18) = ⟨(1 + (r.val - 8192) / 4096) * 6 + 2, by omega⟩ :=
      Fin.ext (by show seg r.val * 6 + 2 = _; rw [seg, if_neg h])
    have er : r = ⟨8192 + (r.val - 8192) / 4096 * 4096 + (r.val - 8192) % 4096, by omega⟩ := Fin.ext (by show r.val = 8192 + (r.val - 8192) / 4096 * 4096 + (r.val - 8192) % 4096; omega)
    rw [e]
    have := canvas_at x0 x1 x2 x3 ⟨(r.val - 8192) / 4096, hb⟩ ⟨(r.val - 8192) % 4096, by omega⟩ d
    rw [← er] at this
    exact this

end Cert.OutProjReferenceIdeal.Read

namespace Cert.OutProjIdeal.Final
open Cert.OutProjIdeal Cert.OutProjIdeal.Gen
open Cert.OutProjReferenceIdeal.Read (val_main_v24 result_at seg seg_lt)
variable (m : (ℓ : Loc nD τ sig) → Buf (Elt Ideal) ℓ)

/-- The product of one half of the contraction, at a row and a column of its block. -/
theorem first_at (w : FVec Ideal S2048x512 .bf16) (x : FVec Ideal S1024x2048 .bf16) (p : Fin 1024) (q : Fin 512) :
    k0_pay2 (F := Ideal) w x (ix2 p q) = ∑ k : Fin 2048, x (ix2 p k) * w (ix2 k q) := by
  pointwise [k0_pay2, k0_pay1]

/-- The second half is added to what the first half left. -/
theorem second_at (w : FVec Ideal S2048x512 .bf16) (x : FVec Ideal S1024x2048 .bf16) (a : FVec Ideal S1024x512 .f32) (p : Fin 1024) (q : Fin 512) :
    k0_pay3 (F := Ideal) w x a (ix2 p q) = a (ix2 p q) + ∑ k : Fin 2048, x (ix2 p k) * w (ix2 k q) := by
  pointwise [k0_pay3, k0_pay1]

/-- The gated sum over the residual, at a row and a column of its block. -/
theorem gated_at (a r : FVec Ideal S1024x512 .f32) (g : FVec Ideal S1x1x512 .f32) (p : Fin 1024) (q : Fin 512) :
    k0_pay4 (F := Ideal) a r g (ix2 p q) = r (ix2 p q) + g (ix3 0 0 q) * a (ix2 p q) := by
  pointwise [k0_pay4]

theorem idx : ∀ t : Fin cfg0.N, win0_0.index t = ![t.val / 8, t.val % 2] ∧ win0_1.index t = ![t.val % 2, t.val / 2 % 4] ∧ win0_2.index t = ![t.val / 8, t.val / 2 % 4] ∧
    win0_3.index t = ![seg (t.val / 8 * 1024) * 6 + 2, 0, t.val / 2 % 4] ∧ win0_4.index t = ![t.val / 8, t.val / 2 % 4] ∧ t.val / 8 < 16 :=
  (by decide +kernel : ∀ t : Fin grid0.N, _)

theorem seg_block (a p : ℕ) (h : p < 1024) : seg (a * 1024 + p) = seg (a * 1024) := by
  unfold seg
  split <;> split <;> omega

abbrev X (c : Dev nD) : FVec Ideal S16384x4096 .bf16 := m ((c : Thread nD τ).loc main_arg0)
abbrev W (c : Dev nD) : FVec Ideal S4096x2048 .f32 := m ((c : Thread nD τ).loc main_arg1)
abbrev R (c : Dev nD) : FVec Ideal S16384x2048 .f32 := m ((c : Thread nD τ).loc main_arg2)
abbrev G (c : Dev nD) : FVec Ideal S18x1x2048 .f32 := m ((c : Thread nD τ).loc main_arg3)
abbrev xb (c : Dev nD) (t : Fin cfg0.N) : FVec Ideal S1024x2048 .bf16 := iblk m c 0 t
abbrev wb (c : Dev nD) (t : Fin cfg0.N) : FVec Ideal S2048x512 .bf16 := iblk m c 1 t
abbrev rb (c : Dev nD) (t : Fin cfg0.N) : FVec Ideal S1024x512 .f32 := iblk m c 2 t
abbrev gb (c : Dev nD) (t : Fin cfg0.N) : FVec Ideal S1x1x512 .f32 := iblk m c 3 t

theorem weights_in (c : Dev nD) : V m c main_v0 = W m c := by unfold V; after_results; try rfl

theorem xb_at (c : Dev nD) (t : Fin cfg0.N) (p : Fin 1024) (k : Fin 2048) :
    xb m c t (ix2 p k) = X m c (ix2 ⟨t.val / 8 * 1024 + p.val, by have := (idx t).2.2.2.2.2; omega⟩ ⟨t.val % 2 * 2048 + k.val, by omega⟩) := by
  rw [show X m c = V m c main_arg0 from (V_main_arg0 m c).symm]
  generalize hv : V m c main_arg0 = v
  unfold xb
  blk_point [iblk, idx t, hv]
theorem wb_at (c : Dev nD) (t : Fin cfg0.N) (k : Fin 2048) (q : Fin 512) :
    wb m c t (ix2 k q) = W m c (ix2 ⟨t.val % 2 * 2048 + k.val, by omega⟩ ⟨t.val / 2 % 4 * 512 + q.val, by omega⟩) := by
  rw [← weights_in]
  generalize hv : V m c main_v0 = v
  unfold wb
  blk_point [iblk, idx t, hv]
theorem rb_at (c : Dev nD) (t : Fin cfg0.N) (p : Fin 1024) (q : Fin 512) :
    rb m c t (ix2 p q) = R m c (ix2 ⟨t.val / 8 * 1024 + p.val, by have := (idx t).2.2.2.2.2; omega⟩ ⟨t.val / 2 % 4 * 512 + q.val, by omega⟩) := by
  rw [show R m c = V m c main_arg2 from (V_main_arg2 m c).symm]
  generalize hv : V m c main_arg2 = v
  unfold rb
  blk_point [iblk, idx t, hv]
theorem gate_lt (t : Fin cfg0.N) : seg (t.val / 8 * 1024) * 6 + 2 < 18 :=
  seg_lt ⟨t.val / 8 * 1024, by have := (idx t).2.2.2.2.2; omega⟩
theorem gb_at (c : Dev nD) (t : Fin cfg0.N) (q : Fin 512) :
    gb m c t (ix3 0 0 q) = G m c (ix3 ⟨seg (t.val / 8 * 1024) * 6 + 2, gate_lt t⟩ 0 ⟨t.val / 2 % 4 * 512 + q.val, by omega⟩) := by
  rw [show G m c = V m c main_arg3 from (V_main_arg3 m c).symm]
  generalize hv : V m c main_arg3 = v
  unfold gb
  blk_point [iblk, idx t, hv]

/-- What a first-half point leaves in the scratch, over any blocks. -/
theorem first_out (c : Dev nD) (i : grid0.Coords) (arg4 : Memref sig .tc .vmem S1024x2048 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i) (hc2 : ¬cond0_2 i)
    (x0 : Vec Ideal S1024x2048 .bf16) (x1 : Vec Ideal S2048x512 .bf16) (x2 : Vec Ideal S1024x512 .f32) (x3 : Vec Ideal S1x1x512 .f32) :
    sout0_A_0 (F := Ideal) c i arg4 harg4 arg5 harg5 arg6 harg6 arg7 harg7 arg8 harg8 arg9 harg9 hc0 hc1 hc2 x0 x1 x2 x3 = k0_pay2 (F := Ideal) x1 x0 := by
  funext y
  unfold sout0_A_0
  frame_out

/-- What a second-half point leaves in the output block, over any blocks. -/
theorem second_out (c : Dev nD) (i : grid0.Coords) (arg4 : Memref sig .tc .vmem S1024x2048 .bf16) (harg4 : arg4.IsWhole) (arg5 : Memref sig .tc .vmem S2048x512 .bf16) (harg5 : arg5.IsWhole) (arg6 : Memref sig .tc .vmem S1024x512 .f32) (harg6 : arg6.IsWhole) (arg7 : Memref sig .tc .vmem S1x1x512 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i) (hc2 : cond0_2 i)
    (x0 : Vec Ideal S1024x2048 .bf16) (x1 : Vec Ideal S2048x512 .bf16) (x2 : Vec Ideal S1024x512 .f32) (x3 : Vec Ideal S1x1x512 .f32) (xs0 : Vec Ideal S1024x512 .f32) :
    out0_B_4 (F := Ideal) c i arg4 harg4 arg5 harg5 arg6 harg6 arg7 harg7 arg8 harg8 arg9 harg9 hc0 hc1 hc2 x0 x1 x2 x3 xs0 = k0_pay4 (F := Ideal) (k0_pay3 (F := Ideal) x1 x0 xs0) x2 x3 := by
  funext y
  unfold out0_B_4
  frame_out

/-- After the first half the scratch holds its product. -/
theorem first_half (c : Dev nD) (t : Fin cfg0.N) (h : t.val % 2 = 0) :
    (outsAt0 (F := Ideal) m c t.val t.isLt).2 = k0_pay2 (F := Ideal) (wb m c t) (xb m c t) := by
  rw [outsAt0_A m c t h (by omega) (by omega)]
  dsimp only
  exact first_out c _ _ _ _ _ _ _ _ _ _ _ _ _ _ _ _ _ _ _ _

/-- After the second half the output block holds the gated sum of both halves over the residual. -/
theorem second_half (c : Dev nD) (t : Fin cfg0.N) (h : t.val % 2 = 1) :
    (outsAt0 (F := Ideal) m c t.val t.isLt).1 = k0_pay4 (F := Ideal) (k0_pay3 (F := Ideal) (wb m c t) (xb m c t)
      (outsAt0 (F := Ideal) m c (t.val - 1) (lt_of_le_of_lt (Nat.sub_le _ _) t.isLt)).2) (rb m c t) (gb m c t) := by
  rw [outsAt0_B m c t (by omega) h h]
  dsimp only
  exact second_out c _ _ _ _ _ _ _ _ _ _ _ _ _ _ _ _ _ _ _ _ _

theorem sum_halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem point (c : Dev nD) (t : Fin cfg0.N) (h : t.val % 2 = 1) (y : S1024x512.Idx) :
    (outsAt0 (F := Ideal) m c t.val t.isLt).1 y =
      val_main_v24 (F := Ideal) (X m c) (W m c) (R m c) (G m c) (((cfg0.win 4).blk t).view.emb y) := by
  idx_vars y
  have h16 := (idx t).2.2.2.2.2
  have place : (show S16384x2048.Idx from ((cfg0.win 4).blk t).view.emb (ix2 y0 y1)) = ix2 ⟨t.val / 8 * 1024 + y0.val, by omega⟩ ⟨t.val / 2 % 4 * 512 + y1.val, by omega⟩ := by
    blk_ext! [idx t]
  refine Eq.trans ?_ (congrArg (val_main_v24 (F := Ideal) (X m c) (W m c) (R m c) (G m c)) place).symm
  rw [second_half m c t h, first_half m c ⟨t.val - 1, lt_of_le_of_lt (Nat.sub_le _ _) t.isLt⟩ (by show (t.val - 1) % 2 = 0; omega),
    gated_at, second_at, first_at, result_at, sum_halves]
  have eg : (⟨seg (t.val / 8 * 1024 + y0.val) * 6 + 2, seg_lt ⟨t.val / 8 * 1024 + y0.val, by omega⟩⟩ : Fin 18) = ⟨seg (t.val / 8 * 1024) * 6 + 2, gate_lt t⟩ :=
    Fin.ext (by show seg (t.val / 8 * 1024 + y0.val) * 6 + 2 = _; rw [seg_block _ _ y0.isLt])
  have p8 : (t.val - 1) / 8 = t.val / 8 := by omega
  have p4 : (t.val - 1) / 2 % 4 = t.val / 2 % 4 := by omega
  have p2 : (t.val - 1) % 2 = 0 := by omega
  refine congrArg₂ (· + ·) (rb_at m c t y0 y1) (congrArg₂ (· * ·) ?_ (congrArg₂ (· + ·)
    (Finset.sum_congr rfl fun k _ => congrArg₂ (· * ·) ((xb_at m c _ _ k).trans ?_) ((wb_at m c _ k _).trans ?_))
    (Finset.sum_congr rfl fun k _ => congrArg₂ (· * ·) ((xb_at m c t _ k).trans ?_) ((wb_at m c t k _).trans ?_))))
  · exact (gb_at m c t y1).trans (congrArg (fun i => G m c (ix3 i 0 ⟨t.val / 2 % 4 * 512 + y1.val, by omega⟩)) eg.symm)
  · simp only [p8, p2, Nat.zero_mul, Nat.zero_add]
  · simp only [p4, p2, Nat.zero_mul, Nat.zero_add]
  · simp only [h, Nat.one_mul]
  · simp only [h, Nat.one_mul]

theorem final (c : Dev nD) : (dats m 0 c).arrAt 4 (cfgs 0).N = val_main_v24 (F := Ideal) (X m c) (W m c) (R m c) (G m c) := by
  refine (dats m 0 c).arrAt_eq_of_covers 4 _ (by decide +kernel) (fun t hf y => ?_)
  blk_simp
  rw [after0_4]
  exact point m c t ((flush0_4 t).mp hf) y

/-- The run, its result array named and its arguments as launched. -/
theorem run_blocks (ρ : Dev nD → PrngReg) : θ_run defs (onTc (τ := τ) (main (F := Ideal))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.OutProjIdeal.Final

namespace Cert.OutProjClaim

theorem frame_kernel : Cert.quiescent_OutProj := fun m g _ => Cert.OutProj.Gen.frame m g
theorem frame_ideal : Cert.quiescent_OutProjIdeal := fun m g _ => Cert.OutProjIdeal.Gen.frame m g
theorem frame_reference : Cert.quiescent_OutProjReferenceIdeal := by
  intro m g _
  exact (θ_run Cert.OutProjReferenceIdeal.defs _ _).mono (fun r h => ⟨fun c => (h c).2, sem_eq_zero_of_no_sems (by decide) r.2⟩)
    (Cert.OutProjReferenceIdeal.Value.run m g)
theorem preserves : Cert.preserves_OutProj_OutProjIdeal := trivial

theorem algebraic : Cert.algebraic_OutProjIdeal_OutProjReferenceIdeal := by
  pair_intro
  · run_from Cert.OutProjIdeal.Final.run_blocks m g
  · run_from Cert.OutProjReferenceIdeal.Value.run m' g'
    obtain ⟨a0, a1, a2, a3⟩ := hagree c
    rw [Cert.OutProjReferenceIdeal.Read.val_main_v24_eq]
    try rw [a0]
    try rw [a1]
    try rw [a2]
    try rw [a3]
    exact (Cert.OutProjIdeal.Final.final m c).symm

end Cert.OutProjClaim

end
-- ==== Proof.LatSpec.lean ====
module

public import proofs.«01_k».proof.Proof.Softmax
public import Idealize.ShloMosaic.Lib.Pipeline.ValueKit

@[expose] public section

set_option maxRecDepth 16384
noncomputable section
open Idealize.ShloMosaic Idealize.ShloMosaic.TcCoe Idealize.SL.Sem
namespace Cert.LatSpec

/-! The mathematics of axial-rope local attention over cached keys, on extended reals, apart from any program. -/

/-- An extended real that is an ordinary real. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.add {x y : EReal} (hx : Real' x) (hy : Real' y) : Real' (x + y) := by
  obtain ⟨a, rfl⟩ := hx; obtain ⟨b, rfl⟩ := hy
  exact ⟨a + b, (EReal.coe_add a b).symm⟩

theorem Real'.neg {x : EReal} (hx : Real' x) : Real' (-x) := by
  obtain ⟨a, rfl⟩ := hx
  exact ⟨-a, (EReal.coe_neg a).symm⟩

theorem Real'.sub {x y : EReal} (hx : Real' x) (hy : Real' y) : Real' (x - y) := by
  rw [sub_eq_add_neg]; exact hx.add hy.neg

theorem Real'.ne_top {x : EReal} (hx : Real' x) : x ≠ ⊤ := by
  obtain ⟨a, rfl⟩ := hx; exact EReal.coe_ne_top a

theorem eighth : Ideal.ofBits .f32 0x3E000000#32 = ((1 / 8 : ℝ) : EReal) := by
  simp [Ideal.ofBits, Ideal.ieee, -EReal.coe_mul]; norm_num

theorem one_bits : Ideal.ofBits .f32 0x3F800000#32 = 1 := by
  simp [Ideal.ofBits, Ideal.ieee, -EReal.coe_mul]; norm_num

theorem neg_inf : Ideal.ofBits .f32 0xFF800000#32 = ⊥ := by simp [Ideal.ofBits, Ideal.ieee]

theorem real_bits (r : ℝ) (b : BitVec 32) (h : Ideal.ofBits .f32 b = (r : EReal)) : Real' (Ideal.ofBits .f32 b) := ⟨r, h⟩

/-! ## The rotation -/

/-- A position as a float. -/
def num (n : Nat) : EReal := (((BitVec.ofNat 32 n).toInt : ℝ) : EReal)

/-- The `d`-th frequency, `10000 ^ (-d / 16)`. -/
def freq (d : Nat) : EReal :=
  Ideal.pow (Ideal.ofBits .f32 0x461C4000#32) (Ideal.div (-(num d)) (Ideal.ofBits .f32 0x41800000#32))

/-- The angle of channel `e` at position `p` of a 64 × 64 grid: by the row for the first 32 channels, by the column after. -/
def ang (p e : Nat) : EReal := num (if e < 32 then p / 64 else p % 64) * freq (e % 16)

def cosAt (p e : Nat) : EReal := Ideal.cos (ang p e)
def sinAt (p e : Nat) : EReal := Ideal.sin (ang p e)

/-- The rotated vector `x` at position `p`, channel `e`: the two halves of each 32 channels are the rotated pairs. -/
def rope (x : Nat → EReal) (p e : Nat) : EReal :=
  if e % 32 < 16 then x e * cosAt p e - x (e + 16) * sinAt p e else x e * cosAt p e + x (e - 16) * sinAt p e

/-- The signed sine: the sign of the pair's half folded into the table. -/
def signedSin (p e : Nat) : EReal := sinAt p e * if e % 32 < 16 then -(Ideal.ofBits .f32 0x3F800000#32) else Ideal.ofBits .f32 0x3F800000#32

/-- Swapping the halves and multiplying by the signed sine is the rotation. -/
theorem rope_swap (x : Nat → EReal) (p e : Nat) :
    x e * cosAt p e + (if e % 32 < 16 then x (e + 16) else x (e - 16)) * signedSin p e = rope x p e := by
  unfold rope signedSin
  rw [one_bits]
  split_ifs
  · rw [mul_neg, mul_one, mul_neg, ← sub_eq_add_neg]
  · rw [mul_one]

theorem num_real (n : Nat) : Real' (num n) := ⟨_, rfl⟩

theorem base_real : ∃ r : ℝ, Ideal.ofBits .f32 0x461C4000#32 = (r : EReal) := by
  refine ⟨10000, ?_⟩
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem freq_real (d : Nat) : Real' (freq d) := by
  obtain ⟨b, hb⟩ := base_real
  obtain ⟨y, hy⟩ := (num_real d).neg
  unfold freq
  rw [hb, sixteen, hy, Cert.Softmax.div_real _ (by norm_num), ← EReal.coe_mul]
  exact ⟨_, rfl⟩

theorem ang_real (p e : Nat) : Real' (ang p e) := by
  unfold ang
  exact (num_real _).mul (freq_real _)

theorem cos_real (p e : Nat) : Real' (cosAt p e) := by
  obtain ⟨a, ha⟩ := ang_real p e
  exact ⟨Real.cos a, by unfold cosAt; rw [ha]; rfl⟩

theorem sin_real (p e : Nat) : Real' (sinAt p e) := by
  obtain ⟨a, ha⟩ := ang_real p e
  exact ⟨Real.sin a, by unfold sinAt; rw [ha]; rfl⟩

theorem rope_real (x : Nat → EReal) (hx : ∀ e, Real' (x e)) (p e : Nat) : Real' (rope x p e) := by
  unfold rope
  split_ifs
  · exact ((hx _).mul (cos_real p e)).sub ((hx _).mul (sin_real p e))
  · exact ((hx _).mul (cos_real p e)).add ((hx _).mul (sin_real p e))

/-! ## The scores -/

/-- A scaled score: the key row against the query row, over 64 channels. -/
def score (q k : Nat → EReal) : EReal := (∑ e : Fin 64, k e.val * q e.val) * Ideal.ofBits .f32 0x3E000000#32

theorem score_real (q k : Nat → EReal) (hq : ∀ e, Real' (q e)) (hk : ∀ e, Real' (k e)) : Real' (score q k) := by
  unfold score
  exact Real'.mul (Cert.Softmax.sum_real' _ _ fun e => (hk _).mul (hq _)) ⟨_, eighth⟩

/-- Scaling the query first is scaling the product. -/
theorem score_scaled (q k : Nat → EReal) :
    (∑ e : Fin 64, q e.val * Ideal.ofBits .f32 0x3E000000#32 * k e.val) = score q k := by
  unfold score
  rw [eighth, Cert.Softmax.sum_mul_real _ _ _ (by norm_num)]
  refine Finset.sum_congr rfl fun e _ => ?_
  rw [mul_comm (k _), mul_right_comm]

/-- Query `p` sees key `j` when they are at most 128 apart. -/
def near (p j : Nat) : Prop := p ≤ j + 128 ∧ j ≤ p + 128

instance (p j : Nat) : Decidable (near p j) := by unfold near; infer_instance

/-- The first of the 384 keys a query block looks at. -/
def start (i : Nat) : Nat := min 3712 (128 * i - 128)

/-- A local score, `-∞` where masked. -/
def masked (s : Nat → EReal) (p j : Nat) : EReal := if near p j then s j else ⊥

theorem abs_small : ∀ d : Fin 4096,
    IntOp.cmpi .sle (IntOp.absi (BitVec.ofNat 32 d.val)) 128#32 = (if d.val ≤ 128 then 1#1 else 0#1)
    ∧ IntOp.cmpi .sle (IntOp.absi (-(BitVec.ofNat 32 d.val))) 128#32 = (if d.val ≤ 128 then 1#1 else 0#1) := by decide +kernel

/-- The comparison of machine integers that computes the mask. -/
theorem near_word (p j : Nat) (hp : p < 4096) (hj : j < 4096) :
    IntOp.cmpi .sle (IntOp.absi (IntOp.subi (BitVec.ofNat 32 p) (BitVec.ofNat 32 j))) 128#32 = if near p j then 1#1 else 0#1 := by
  by_cases h : j ≤ p
  · obtain ⟨d, rfl⟩ := Nat.exists_eq_add_of_le h
    have e : IntOp.subi (BitVec.ofNat 32 (j + d)) (BitVec.ofNat 32 j) = BitVec.ofNat 32 d := by unfold IntOp.subi; bv_omega
    rw [e, (abs_small ⟨d, by omega⟩).1]
    refine if_congr ?_ rfl rfl
    unfold near
    dsimp only; omega
  · obtain ⟨d, rfl⟩ := Nat.exists_eq_add_of_le (Nat.le_of_lt (Nat.lt_of_not_le h))
    have e : IntOp.subi (BitVec.ofNat 32 p) (BitVec.ofNat 32 (p + d)) = -(BitVec.ofNat 32 d) := by unfold IntOp.subi; bv_omega
    rw [e, (abs_small ⟨d, by omega⟩).2]
    refine if_congr ?_ rfl rfl
    unfold near
    dsimp only; omega

theorem masked_far (s : Nat → EReal) (i r j : Nat) (hi : i < 32) (hr : r < 128) (hj : j < 4096) (h : j < start i ∨ start i + 384 ≤ j) :
    masked s (128 * i + r) j = ⊥ := by
  unfold masked
  rw [if_neg]
  unfold near start at *
  omega

/-- A sum of terms that vanish off a window is the sum over the window. -/
theorem sum_window {M : Type*} [AddCommMonoid M] (f : Nat → M) (a : Nat) (ha : a + 384 ≤ 4096)
    (h : ∀ j, j < 4096 → (j < a ∨ a + 384 ≤ j) → f j = 0) :
    ∑ j : Fin 4096, f j.val = ∑ l : Fin 384, f (a + l.val) := by
  rw [Fin.sum_univ_eq_sum_range f 4096, Fin.sum_univ_eq_sum_range (fun l => f (a + l)) 384]
  rw [← Finset.sum_subset (s₁ := Finset.Ico a (a + 384))]
  · rw [Finset.sum_Ico_eq_sum_range]
    simp
  · intro j hj
    simp at hj ⊢
    omega
  · intro j hj hn
    simp at hj hn
    exact h j hj (by omega)

theorem sup_window (f : Nat → EReal) (a : Nat) (ha : a + 384 ≤ 4096)
    (h : ∀ j, j < 4096 → (j < a ∨ a + 384 ≤ j) → f j = ⊥) :
    (Finset.univ.sup fun j : Fin 4096 => f j.val) = Finset.univ.sup fun l : Fin 384 => f (a + l.val) := by
  apply le_antisymm
  · refine Finset.sup_le fun j _ => ?_
    by_cases hj : j.val < a ∨ a + 384 ≤ j.val
    · rw [h _ j.isLt hj]; exact bot_le
    · have := Finset.le_sup (f := fun l : Fin 384 => f (a + l.val)) (Finset.mem_univ (⟨j.val - a, by omega⟩ : Fin 384))
      refine le_trans (le_of_eq (congrArg f ?_)) this
      show j.val = a + (j.val - a)
      omega
  · refine Finset.sup_le fun l _ => ?_
    exact Finset.le_sup (f := fun j : Fin 4096 => f j.val) (Finset.mem_univ (⟨a + l.val, by omega⟩ : Fin 4096))

/-! ## The attention of one query -/

section
variable (z : EReal) (s c : Nat → EReal) (p : Nat) (v w : Nat → EReal)

/-- The largest of a query's local scores, cached scores and sink. -/
def top : EReal := max (max z (Finset.univ.sup fun j : Fin 4096 => masked s p j.val)) (Finset.univ.sup fun j : Fin 512 => c j.val)

def denom : EReal := ∑ j : Fin 4096, Ideal.exp (masked s p j.val - top z s c p) + ∑ j : Fin 512, Ideal.exp (c j.val - top z s c p)
  + Ideal.exp (z - top z s c p)

/-- The attention: values by normalised weights. -/
def out : EReal := ∑ j : Fin 4096, v j.val * Ideal.div (Ideal.exp (masked s p j.val - top z s c p)) (denom z s c p)
  + ∑ j : Fin 512, w j.val * Ideal.div (Ideal.exp (c j.val - top z s c p)) (denom z s c p)

/-- The row of all scores: the local ones, the cached ones, the sink. -/
def logit (t : Nat) : EReal := if t < 4096 then masked s p t else if t < 4608 then c (t - 4096) else z

theorem sum_three (F : Nat → EReal) (a b : Nat) :
    ∑ t : Fin (a + b + 1), F t.val = ∑ j : Fin a, F j.val + ∑ j : Fin b, F (a + j.val) + F (a + b) := by
  rw [Fin.sum_univ_castSucc, Fin.sum_univ_add]
  rfl

theorem sum_logit (f : EReal → EReal) :
    ∑ t : Fin 4609, f (logit z s c p t.val) = ∑ j : Fin 4096, f (masked s p j.val) + ∑ j : Fin 512, f (c j.val) + f z := by
  refine (sum_three (fun t => f (logit z s c p t)) 4096 512).trans ?_
  refine congrArg₂ _ (congrArg₂ _ (Finset.sum_congr rfl fun j _ => ?_) (Finset.sum_congr rfl fun j _ => ?_)) ?_
  · unfold logit
    rw [if_pos j.isLt]
  · unfold logit
    rw [if_neg (by omega), if_pos (by omega), Nat.add_sub_cancel_left]
  · unfold logit
    rw [if_neg (by omega), if_neg (by omega)]

theorem below_512 {t : Nat} (h1 : ¬t < 4096) (h2 : t < 4608) : t - 4096 < 512 := by omega

theorem sup_logit : (Finset.univ.sup fun t : Fin 4609 => logit z s c p t.val) = top z s c p := by
  unfold top
  apply le_antisymm
  · refine Finset.sup_le fun t _ => ?_
    unfold logit
    split_ifs with h1 h2
    · exact le_max_of_le_left (le_max_of_le_right (Finset.le_sup (f := fun j : Fin 4096 => masked s p j.val) (Finset.mem_univ ⟨t.val, h1⟩)))
    · refine le_max_of_le_right ?_
      have h3 := below_512 h1 h2
      generalize t.val - 4096 = n at h3 ⊢
      exact Finset.le_sup (f := fun j : Fin 512 => c j.val) (Finset.mem_univ (⟨n, h3⟩ : Fin 512))
    · exact le_max_of_le_left (le_max_left _ _)
  · refine max_le (max_le ?_ (Finset.sup_le fun j _ => ?_)) (Finset.sup_le fun j _ => ?_)
    · refine le_trans (le_of_eq ?_) (Finset.le_sup (f := fun t : Fin 4609 => logit z s c p t.val) (Finset.mem_univ ⟨4608, by omega⟩))
      unfold logit
      rw [if_neg (by simp), if_neg (by simp)]
    · refine le_trans (le_of_eq ?_) (Finset.le_sup (f := fun t : Fin 4609 => logit z s c p t.val) (Finset.mem_univ ⟨j.val, by omega⟩))
      unfold logit
      rw [if_pos j.isLt]
    · refine le_trans (le_of_eq ?_) (Finset.le_sup (f := fun t : Fin 4609 => logit z s c p t.val) (Finset.mem_univ ⟨4096 + j.val, by omega⟩))
      unfold logit
      rw [if_neg (by dsimp only; omega), if_pos (by dsimp only; omega)]
      exact congrArg c (by dsimp only; omega)

variable (hz : Real' z) (hs : ∀ j, Real' (s j)) (hc : ∀ j, Real' (c j))

include hz hs hc in
theorem top_real : ∃ M : ℝ, top z s c p = (M : EReal) := by
  obtain ⟨r, rfl⟩ := hz
  have hm : ∀ j : Fin 4096, masked s p j.val ≠ ⊤ := fun j => by
    unfold masked; split_ifs
    · exact (hs _).ne_top
    · exact bot_ne_top
  obtain ⟨a, ha⟩ := Cert.Softmax.max_real Finset.univ (fun j : Fin 4096 => masked s p j.val) hm r
  unfold top
  rw [ha]
  exact Cert.Softmax.max_real Finset.univ (fun j : Fin 512 => c j.val) (fun j => (hc _).ne_top) a

/-- The largest of the scores the kernel looks at: the window's, the cached ones, the sink. -/
def peak (a : Nat) : EReal := max (max z (Finset.univ.sup fun l : Fin 384 => masked s p (a + l.val))) (Finset.univ.sup fun j : Fin 512 => c j.val)

include hz hs hc in
/-- The attention over the window of 384 keys, normalised once at the end, is the attention over all 4096. -/
theorem out_window (i r : Nat) (hi : i < 32) (hr : r < 128) (hp : p = 128 * i + r) :
    (∑ l : Fin 384, Ideal.exp (masked s p (start i + l.val) - peak z s c p (start i)) * v (start i + l.val)
        + ∑ j : Fin 512, Ideal.exp (c j.val - peak z s c p (start i)) * w j.val)
        * Ideal.div 1 (Ideal.exp (z - peak z s c p (start i))
            + ∑ l : Fin 384, Ideal.exp (masked s p (start i + l.val) - peak z s c p (start i))
            + ∑ j : Fin 512, Ideal.exp (c j.val - peak z s c p (start i)))
      = out z s c p v w := by
  have ha : start i + 384 ≤ 4096 := by unfold start; omega
  have hfar : ∀ j, j < 4096 → (j < start i ∨ start i + 384 ≤ j) → masked s p j = ⊥ := fun j hj h => by
    rw [hp]; exact masked_far s i r j hi hr hj h
  have hpk : peak z s c p (start i) = top z s c p := by
    unfold peak top
    rw [sup_window (masked s p) (start i) ha hfar]
  rw [hpk]
  obtain ⟨M, hM⟩ := top_real z s c p hz hs hc
  have hmt : ∀ j, masked s p j ≠ ⊤ := fun j => by
    unfold masked; split_ifs
    · exact (hs _).ne_top
    · exact bot_ne_top
  have hex : ∀ j, j < 4096 → (j < start i ∨ start i + 384 ≤ j) → Ideal.exp (masked s p j - top z s c p) = 0 := fun j hj h => by
    rw [hfar j hj h, hM]; simp
  have hW : ∑ j : Fin 4096, Ideal.exp (masked s p j.val - top z s c p) = ∑ l : Fin 384, Ideal.exp (masked s p (start i + l.val) - top z s c p) :=
    sum_window (fun j => Ideal.exp (masked s p j - top z s c p)) (start i) ha hex
  obtain ⟨zr, hzr⟩ := hz
  obtain ⟨e0, he0, hee0⟩ := Cert.Softmax.exp_pos_real (zr - M)
  obtain ⟨u, hu, hue⟩ := Cert.Softmax.sum_real Finset.univ (fun l : Fin 384 => Ideal.exp (masked s p (start i + l.val) - (M : EReal)))
    fun j => Cert.Softmax.exp_real (Cert.Softmax.sub_real_ne_top (hmt _) M)
  obtain ⟨t, ht, hte⟩ := Cert.Softmax.sum_real Finset.univ (fun j : Fin 512 => Ideal.exp (c j.val - (M : EReal)))
    fun j => Cert.Softmax.exp_real (Cert.Softmax.sub_real_ne_top (hc _).ne_top M)
  have hz' : Ideal.exp (z - top z s c p) = (e0 : EReal) := by rw [hM, hzr, ← EReal.coe_sub, hee0]
  have hd : Ideal.exp (z - top z s c p) + ∑ l : Fin 384, Ideal.exp (masked s p (start i + l.val) - top z s c p)
      + ∑ j : Fin 512, Ideal.exp (c j.val - top z s c p) = ((e0 + u + t : ℝ) : EReal) := by
    rw [hz', hM, hue, hte, ← EReal.coe_add, ← EReal.coe_add]
  have hd' : denom z s c p = ((e0 + u + t : ℝ) : EReal) := by
    unfold denom
    rw [hW, ← hd, add_comm (Ideal.exp (z - top z s c p)), add_right_comm]
  have hpos : 0 < e0 + u + t := by linarith
  unfold out
  rw [hd, hd']
  have hv : ∑ j : Fin 4096, v j.val * Ideal.div (Ideal.exp (masked s p j.val - top z s c p)) ((e0 + u + t : ℝ) : EReal)
      = ∑ l : Fin 384, v (start i + l.val) * Ideal.div (Ideal.exp (masked s p (start i + l.val) - top z s c p)) ((e0 + u + t : ℝ) : EReal) :=
    sum_window (fun j => v j * Ideal.div (Ideal.exp (masked s p j - top z s c p)) ((e0 + u + t : ℝ) : EReal)) (start i) ha fun j hj h => by
      show v j * Ideal.div (Ideal.exp (masked s p j - top z s c p)) _ = 0
      rw [hex j hj h, Cert.Softmax.div_real _ hpos]; simp
  rw [hv, ← Cert.Softmax.sum_mul_div _ _ _ hpos, ← Cert.Softmax.sum_mul_div _ _ _ hpos, Cert.Softmax.div_real 1 hpos, one_mul]
  exact EReal.right_distrib_of_nonneg_of_ne_top (by exact_mod_cast (inv_pos.2 hpos).le) (EReal.coe_ne_top _) _ _
end

end Cert.LatSpec

end
-- ==== Proof.LatBody.lean ====
module

public import proofs.«01_k».proof.Proof.Gen.LatentIdeal.Skeleton
public import proofs.«01_k».proof.Proof.LatSpec
public import Idealize.ShloMosaic.Lib.Pipeline.ValueKit

@[expose] public section

set_option maxRecDepth 16384
noncomputable section
open Idealize.ShloMosaic Idealize.ShloMosaic.TcCoe Idealize.SL.Sem
namespace Cert.LatentIdeal.Body
open Cert.LatentIdeal Cert.LatentIdeal.Gen Cert.LatSpec

theorem at2 {α : Type} {A B : Nat} (f : (⟨2, ![A, B]⟩ : Shape).Idx → α) {a a' b b' : Nat} {ha : a < A} {ha' : a' < A} {hb : b < B} {hb' : b' < B}
    (h : a = a') (h' : b = b') : f (ix2 ⟨a, ha⟩ ⟨b, hb⟩) = f (ix2 ⟨a', ha'⟩ ⟨b', hb'⟩) := by
  subst h; subst h'; rfl

theorem pick (q : Prop) [Decidable q] (a b : Elt Ideal .f32) : Scalar.select (if q then 1#1 else 0#1) a b = if q then a else b := by
  split <;> rfl

/-! ## One block of queries against its keys -/

/-- The largest of each row's scores and its sink, as a column. -/
def peaks (s : FVec Ideal S512x384 .f32) (t : FVec Ideal S512x512 .f32) (z : FVec Ideal S512x1 .f32) : FVec Ideal S512x1 .f32 :=
  maximumf (maximumf z (shapeCast S512x1 (multiReduction .maximumf [1] S512 s 0xFF800000#32 reduces_S512x384_S512 (.inl rfl) rfl) shapeCasts_S512_S512x1))
    (shapeCast S512x1 (multiReduction .maximumf [1] S512 t 0xFF800000#32 reduces_S512x512_S512 (.inl rfl) rfl) shapeCasts_S512_S512x1)

/-- One key group's attention as the kernel computes it, from its scores in the window, its cached scores, the sinks of its rows, and the values. -/
def attend (s : FVec Ideal S512x384 .f32) (t : FVec Ideal S512x512 .f32) (z : FVec Ideal S512x1 .f32) (v : FVec Ideal S384x64 .bf16) (w : FVec Ideal S512x64 .bf16) :
    FVec Ideal S512x64 .f32 :=
  have mx : FVec Ideal S512x1 .f32 := peaks s t z
  have e : FVec Ideal S512x384 .f32 := exp (subf s (broadcastTo S512x384 mx broadcasts_S512x1_S512x384))
  have f : FVec Ideal S512x512 .f32 := exp (subf t (broadcastTo S512x512 mx broadcasts_S512x1_S512x512))
  have d : FVec Ideal S512x1 .f32 := addf (addf (exp (subf z mx)) (shapeCast S512x1 (multiReduction .add [1] S512 e 0x00000000#32 reduces_S512x384_S512 (.inl rfl) rfl) shapeCasts_S512_S512x1))
    (shapeCast S512x1 (multiReduction .add [1] S512 f 0x00000000#32 reduces_S512x512_S512 (.inl rfl) rfl) shapeCasts_S512_S512x1)
  mulf (addf (matmul dot_S512x384_S384x64_S512x64_1_0_0_1_n_n none (truncf .bf16 e bitsLt_bf16_f32) v (constant S512x64 .f32 0x00000000#32))
      (matmul dot_S512x512_S512x64_S512x64_1_0_0_1_n_n none (truncf .bf16 f bitsLt_bf16_f32) w (constant S512x64 .f32 0x00000000#32)))
    (broadcastTo S512x64 (divf (broadcast S512x1 (Scalar.ofBits .f32 0x3F800000#32)) d) broadcasts_S512x1_S512x64)

theorem first_group (s : FVec Ideal S512x384 .f32) (t : FVec Ideal S512x512 .f32) (z : FVec Ideal S512x1 .f32) (v : FVec Ideal S384x64 .bf16) (w : FVec Ideal S512x64 .bf16) :
    k0_pay22 s t z v w = attend s t z v w := rfl

/-- The largest of a row's scores and its sink. -/
def peak (s : FVec Ideal S512x384 .f32) (t : FVec Ideal S512x512 .f32) (z : FVec Ideal S512x1 .f32) (n : Fin 512) : EReal :=
  max (max (z (ix2 n 0)) (Finset.univ.sup fun l : Fin 384 => s (ix2 n l))) (Finset.univ.sup fun j : Fin 512 => t (ix2 n j))

theorem peak_at (s : FVec Ideal S512x384 .f32) (t : FVec Ideal S512x512 .f32) (z : FVec Ideal S512x1 .f32) (n : Fin 512) : peaks s t z (ix2 n 0) = peak s t z n := by
  unfold peaks
  pointwise
  unfold peak
  rw [neg_inf]; rfl

theorem total_at (e : FVec Ideal S512x384 .f32) (n : Fin 512) :
    shapeCast S512x1 (multiReduction .add [1] S512 e 0x00000000#32 reduces_S512x384_S512 (.inl rfl) rfl) shapeCasts_S512_S512x1 (ix2 n 0) = ∑ l : Fin 384, e (ix2 n l) := by
  pointwise

theorem total_cached_at (e : FVec Ideal S512x512 .f32) (n : Fin 512) :
    shapeCast S512x1 (multiReduction .add [1] S512 e 0x00000000#32 reduces_S512x512_S512 (.inl rfl) rfl) shapeCasts_S512_S512x1 (ix2 n 0) = ∑ j : Fin 512, e (ix2 n j) := by
  pointwise

theorem mix_at (e : FVec Ideal S512x384 .f32) (f : FVec Ideal S512x512 .f32) (v : FVec Ideal S384x64 .bf16) (w : FVec Ideal S512x64 .bf16) (y : FVec Ideal S512x1 .f32) (n : Fin 512) (d : Fin 64) :
    mulf (addf (matmul dot_S512x384_S384x64_S512x64_1_0_0_1_n_n none (truncf .bf16 e bitsLt_bf16_f32) v (constant S512x64 .f32 0x00000000#32))
      (matmul dot_S512x512_S512x64_S512x64_1_0_0_1_n_n none (truncf .bf16 f bitsLt_bf16_f32) w (constant S512x64 .f32 0x00000000#32)))
      (broadcastTo S512x64 y broadcasts_S512x1_S512x64) (ix2 n d)
      = (∑ l : Fin 384, e (ix2 n l) * v (ix2 l d) + ∑ j : Fin 512, f (ix2 n j) * w (ix2 j d)) * y (ix2 n 0) := by
  pointwise

theorem weight_at (s : FVec Ideal S512x384 .f32) (mx : FVec Ideal S512x1 .f32) (n : Fin 512) (l : Fin 384) :
    exp (subf s (broadcastTo S512x384 mx broadcasts_S512x1_S512x384)) (ix2 n l) = Ideal.exp (s (ix2 n l) - mx (ix2 n 0)) := by
  pointwise

theorem weight_cached_at (t : FVec Ideal S512x512 .f32) (mx : FVec Ideal S512x1 .f32) (n : Fin 512) (j : Fin 512) :
    exp (subf t (broadcastTo S512x512 mx broadcasts_S512x1_S512x512)) (ix2 n j) = Ideal.exp (t (ix2 n j) - mx (ix2 n 0)) := by
  pointwise

theorem inverse_at (z mx a b : FVec Ideal S512x1 .f32) (n : Fin 512) :
    divf (broadcast S512x1 (Scalar.ofBits .f32 0x3F800000#32)) (addf (addf (exp (subf z mx)) a) b) (ix2 n 0)
      = Ideal.div 1 (Ideal.exp (z (ix2 n 0) - mx (ix2 n 0)) + a (ix2 n 0) + b (ix2 n 0)) := by
  pointwise

theorem attend_at (s : FVec Ideal S512x384 .f32) (t : FVec Ideal S512x512 .f32) (z : FVec Ideal S512x1 .f32) (v : FVec Ideal S384x64 .bf16) (w : FVec Ideal S512x64 .bf16) (n : Fin 512) (d : Fin 64) :
    attend s t z v w (ix2 n d)
      = (∑ l : Fin 384, Ideal.exp (s (ix2 n l) - peak s t z n) * v (ix2 l d) + ∑ j : Fin 512, Ideal.exp (t (ix2 n j) - peak s t z n) * w (ix2 j d))
          * Ideal.div 1 (Ideal.exp (z (ix2 n 0) - peak s t z n) + ∑ l : Fin 384, Ideal.exp (s (ix2 n l) - peak s t z n) + ∑ j : Fin 512, Ideal.exp (t (ix2 n j) - peak s t z n)) := by
  unfold attend
  rw [mix_at, inverse_at, total_at, total_cached_at]
  simp only [weight_at, weight_cached_at, peak_at]

/-- One stacked row is the attention of its query over all keys, when its scores, its sink and its values are that query's. -/
theorem head (s : FVec Ideal S512x384 .f32) (t : FVec Ideal S512x512 .f32) (z : FVec Ideal S512x1 .f32) (v : FVec Ideal S384x64 .bf16) (w : FVec Ideal S512x64 .bf16)
    (n : Fin 512) (d : Fin 64) (i r p : Nat) (hi : i < 32) (hr : r < 128) (hp : p = 128 * i + r) (Z : EReal) (S C V W : Nat → EReal)
    (hZ : Real' Z) (hS : ∀ j, Real' (S j)) (hC : ∀ j, Real' (C j))
    (h1 : ∀ l : Fin 384, s (ix2 n l) = masked S p (start i + l.val)) (h2 : ∀ j : Fin 512, t (ix2 n j) = C j.val) (h3 : z (ix2 n 0) = Z)
    (h4 : ∀ l : Fin 384, v (ix2 l d) = V (start i + l.val)) (h5 : ∀ j : Fin 512, w (ix2 j d) = W j.val) :
    attend s t z v w (ix2 n d) = out Z S C p V W := by
  rw [attend_at, ← out_window Z S C p V W hZ hS hC i r hi hr hp]
  unfold peak LatSpec.peak
  simp only [h1, h2, h3, h4, h5]

/-! ## The sinks of the stacked rows -/

theorem below : ∀ n : Fin 512,
    (IntOp.cmpi .slt (BitVec.ofNat 32 n.val) 384#32 = if n.val < 384 then 1#1 else 0#1)
    ∧ (IntOp.cmpi .slt (BitVec.ofNat 32 n.val) 256#32 = if n.val < 256 then 1#1 else 0#1)
    ∧ (IntOp.cmpi .slt (BitVec.ofNat 32 n.val) 128#32 = if n.val < 128 then 1#1 else 0#1) := by decide +kernel

theorem sinks_at (a b c d : Elt Ideal .f32) (n : Fin 512) :
    k0_pay20 (F := Ideal) d c b a (ix2 n 0) = if n.val < 128 then a else if n.val < 256 then b else if n.val < 384 then c else d := by
  pointwise [k0_pay20]
  rw [(below n).1, (below n).2.1, (below n).2.2, pick, pick, pick]

theorem sinks_again (a b c d : Elt Ideal .f32) : k0_pay30 (F := Ideal) d c b a = k0_pay20 d c b a := rfl

/-! ## The rotation -/

/-- The comparison that tells the first half of each 32 lanes, on machine integers. -/
def laneWord (n : BitVec 32) : BitVec 1 :=
  let w := Scalar.select (Scalar.cmpi .eq 32#32 0#32) 1#32 32#32
  let m := IntOp.remsi .vector n w
  IntOp.cmpi .slt (Scalar.select (IntOp.andi (IntOp.xori (IntOp.cmpi .slt m 0#32) (Scalar.cmpi .slt w 0#32)) (IntOp.cmpi .ne m 0#32)) (IntOp.addi m w) m) 16#32

theorem lane : ∀ l : Fin 128, laneWord (BitVec.ofNat 32 l.val) = if l.val % 32 < 16 then 1#1 else 0#1 := by decide +kernel

theorem lane_at (r l : Fin 128) : k0_pay10 (ix2 r l) = if l.val % 32 < 16 then 1#1 else 0#1 := by
  refine Eq.trans ?_ (lane l)
  pointwise [k0_pay10]
  rfl

theorem keys_at (x c s : FVec Ideal S4096x128 .f32) (j : Fin 4096) (l : Fin 128) :
    k0_pay2 (F := Ideal) x c s (ix2 j l)
      = x (ix2 j l) * c (ix2 j l) + (if l.val % 32 < 16 then x (ix2 j ⟨(l.val + 16) % 128, by omega⟩) else x (ix2 j ⟨(l.val + 112) % 128, by omega⟩)) * s (ix2 j l) := by
  refine Eq.trans ?_ (congrArg (fun y => x (ix2 j l) * c (ix2 j l) + y * s (ix2 j l)) ((congrArg (fun m => Scalar.select m _ _) (lane l)).trans (pick _ _ _)))
  pointwise [k0_pay2]
  rfl

end Cert.LatentIdeal.Body

end
-- ==== Proof.LatRows.lean ====
module

public import proofs.«01_k».proof.Proof.LatBody

@[expose] public section

set_option maxRecDepth 16384
noncomputable section
open Idealize.ShloMosaic Idealize.ShloMosaic.TcCoe Idealize.SL.Sem
namespace Cert.LatentIdeal.Body
open Cert.LatentIdeal Cert.LatentIdeal.Gen Cert.LatSpec

/-! ## The rotated queries -/

/-- Two heads of queries, rotated. -/
def turned (x c s : FVec Ideal S128x128 .f32) : FVec Ideal S128x128 .f32 :=
  addf (mulf x c) (mulf (select k0_pay10 (dynamicRotate 1 112#32 none x rotates_S128x128_d1) (dynamicRotate 1 16#32 none x rotates_S128x128_d1)) s)

theorem turned_at (x c s : FVec Ideal S128x128 .f32) (r l : Fin 128) :
    turned x c s (ix2 r l)
      = x (ix2 r l) * c (ix2 r l) + (if l.val % 32 < 16 then x (ix2 r ⟨(l.val + 16) % 128, by omega⟩) else x (ix2 r ⟨(l.val + 112) % 128, by omega⟩)) * s (ix2 r l) := by
  refine Eq.trans ?_ (congrArg (fun y => x (ix2 r l) * c (ix2 r l) + y * s (ix2 r l)) ((congrArg (fun m => Scalar.select m _ _) (lane_at r l)).trans (pick _ _ _)))
  unfold turned
  generalize k0_pay10 = m
  pointwise
  have e1 : (l.val + 128 - 112) % 128 = (l.val + 16) % 128 := by omega
  have e2 : (l.val + 128 - 16) % 128 = (l.val + 112) % 128 := by omega
  simp only [e1, e2]

abbrev cut0 (x : FVec Ideal S128x512 .f32) : FVec Ideal S128x128 .f32 := extractStridedSlice S128x128 ![0, 0] x slices_S128x512_o0_0_S128x128
abbrev cut1 (x : FVec Ideal S128x512 .f32) : FVec Ideal S128x128 .f32 := extractStridedSlice S128x128 ![0, 128] x slices_S128x512_o0_128_S128x128
abbrev cut2 (x : FVec Ideal S128x512 .f32) : FVec Ideal S128x128 .f32 := extractStridedSlice S128x128 ![0, 256] x slices_S128x512_o0_256_S128x128
abbrev cut3 (x : FVec Ideal S128x512 .f32) : FVec Ideal S128x128 .f32 := extractStridedSlice S128x128 ![0, 384] x slices_S128x512_o0_384_S128x128

theorem cut_at (x : FVec Ideal S128x512 .f32) (r l : Fin 128) :
    cut0 x (ix2 r l) = x (ix2 r ⟨l.val, by omega⟩) ∧ cut1 x (ix2 r l) = x (ix2 r ⟨128 + l.val, by omega⟩)
    ∧ cut2 x (ix2 r l) = x (ix2 r ⟨256 + l.val, by omega⟩) ∧ cut3 x (ix2 r l) = x (ix2 r ⟨384 + l.val, by omega⟩) := by
  refine ⟨?_, ?_, ?_, ?_⟩ <;> pointwise

/-- Four pairs of heads beside one another, scaled. -/
def scaled (a b c d : FVec Ideal S128x128 .f32) : FVec Ideal S128x512 .f32 :=
  mulf (concatenate S128x512 1 [⟨S128x128, a⟩, ⟨S128x128, b⟩, ⟨S128x128, c⟩, ⟨S128x128, d⟩] concatenates_S128x128_S128x128_S128x128_S128x128_S128x512_d1)
    (broadcast S128x512 (Scalar.ofBits .f32 0x3E000000#32))

theorem scaled_at (a b c d : FVec Ideal S128x128 .f32) (r : Fin 128) (k : Fin 512) :
    scaled a b c d (ix2 r k) = (if k.val < 128 then a (ix2 r ⟨k.val % 128, by omega⟩) else if k.val < 256 then b (ix2 r ⟨k.val % 128, by omega⟩)
      else if k.val < 384 then c (ix2 r ⟨k.val % 128, by omega⟩) else d (ix2 r ⟨k.val % 128, by omega⟩)) * Ideal.ofBits .f32 0x3E000000#32 := by
  have hk := k.isLt
  unfold scaled
  pointwise
  congr 1
  repeat' split
  all_goals first | (exfalso; omega) | exact at2 a rfl (by omega) | exact at2 b rfl (by omega) | exact at2 c rfl (by omega) | exact at2 d rfl (by omega)

/-- All eight heads of one block of queries, rotated and scaled. -/
def queries (x : FVec Ideal S128x512 .f32) (c s : FVec Ideal S128x128 .f32) : FVec Ideal S128x512 .f32 :=
  scaled (turned (cut0 x) c s) (turned (cut1 x) c s) (turned (cut2 x) c s) (turned (cut3 x) c s)

theorem queries_eq (q : FVec Ideal S128x512 .bf16) (c s : FVec Ideal S128x128 .f32) :
    k0_pay13 (k0_pay7 (F := Ideal) q) (k0_pay8 c) (k0_pay9 s) k0_pay10 (k0_pay11 q) (k0_pay12 q) 16#32 = queries (extf .f32 q bitsLt_bf16_f32) c s := by
  have h8 : k0_pay8 (F := Ideal) c = c := shapeCast_self ..
  have h9 : k0_pay9 (F := Ideal) s = s := shapeCast_self ..
  have h7 : k0_pay7 (F := Ideal) q = extf .f32 q bitsLt_bf16_f32 := by unfold k0_pay7; simp only [shapeCast_self]
  have h11 : k0_pay11 (F := Ideal) q = cut0 (extf .f32 q bitsLt_bf16_f32) := by unfold k0_pay11; rw [h7]
  have h12 : k0_pay12 (F := Ideal) q = dynamicRotate 1 112#32 none (cut0 (extf .f32 q bitsLt_bf16_f32)) rotates_S128x128_d1 := by unfold k0_pay12; rw [h11]
  rw [h8, h9, h7, h11, h12]
  rfl

/-- The lane of a head's partner entry, within its own block of 512. -/
theorem queries_at (x : FVec Ideal S128x512 .f32) (c s : FVec Ideal S128x128 .f32) (r : Fin 128) (k : Fin 512) :
    queries x c s (ix2 r k)
      = (x (ix2 r k) * c (ix2 r ⟨k.val % 128, by omega⟩)
          + (if k.val % 32 < 16 then x (ix2 r ⟨k.val / 128 * 128 + (k.val + 16) % 128, by omega⟩) else x (ix2 r ⟨k.val / 128 * 128 + (k.val + 112) % 128, by omega⟩)) * s (ix2 r ⟨k.val % 128, by omega⟩))
        * Ideal.ofBits .f32 0x3E000000#32 := by
  have hk := k.isLt
  unfold queries
  rw [scaled_at]
  congr 1
  simp only [turned_at, (cut_at _ _ _).1, (cut_at _ _ _).2.1, (cut_at _ _ _).2.2.1, (cut_at _ _ _).2.2.2]
  split_ifs <;> first | (exfalso; omega) |
    exact congrArg₂ (· + ·) (congrArg (· * _) (at2 _ rfl (by omega))) (congrArg (· * _) (at2 _ rfl (by omega)))

/-! ## The scores -/

abbrev sl0 (x : FVec Ideal S128x512 .f32) : FVec Ideal S128x64 .f32 := extractStridedSlice S128x64 ![0, 0] x slices_S128x512_o0_0_S128x64
abbrev sl1 (x : FVec Ideal S128x512 .f32) : FVec Ideal S128x64 .f32 := extractStridedSlice S128x64 ![0, 64] x slices_S128x512_o0_64_S128x64

theorem stack0_at (x : FVec Ideal S128x512 .f32) (n : Fin 512) (e : Fin 64) :
    k0_pay17 (F := Ideal) x (sl0 x) (sl1 x) (ix2 n e) = x (ix2 ⟨n.val % 128, by omega⟩ ⟨n.val / 128 * 64 + e.val, by omega⟩) := by
  have hn := n.isLt
  pointwise [k0_pay17]
  split_ifs <;> first | (exfalso; omega) | exact at2 x (by omega) (by omega)

theorem stack1_at (x : FVec Ideal S128x512 .f32) (n : Fin 512) (e : Fin 64) :
    k0_pay27 (F := Ideal) x (ix2 n e) = x (ix2 ⟨n.val % 128, by omega⟩ ⟨256 + (n.val / 128 * 64 + e.val), by omega⟩) := by
  have hn := n.isLt
  pointwise [k0_pay27]
  split_ifs <;> first | (exfalso; omega) | exact at2 x (by omega) (by omega)

theorem scores0_at (x : FVec Ideal S128x512 .f32) (k : FVec Ideal S384x128 .bf16) (b : IVec S512x384 1) (n : Fin 512) (l : Fin 384) :
    k0_pay18 (F := Ideal) x k b (sl0 x) (sl1 x) (ix2 n l)
      = Scalar.select (b (ix2 n l)) (∑ e : Fin 64, x (ix2 ⟨n.val % 128, by omega⟩ ⟨n.val / 128 * 64 + e.val, by omega⟩) * k (ix2 l ⟨e.val, by omega⟩)) (Ideal.ofBits .f32 0xFF800000#32) := by
  simp only [← stack0_at]
  unfold k0_pay18
  generalize k0_pay17 (F := Ideal) x (sl0 x) (sl1 x) = y
  pointwise

theorem scores1_at (x : FVec Ideal S128x512 .f32) (k : FVec Ideal S384x128 .bf16) (b : IVec S512x384 1) (n : Fin 512) (l : Fin 384) :
    k0_pay28 (F := Ideal) x k b (ix2 n l)
      = Scalar.select (b (ix2 n l)) (∑ e : Fin 64, x (ix2 ⟨n.val % 128, by omega⟩ ⟨256 + (n.val / 128 * 64 + e.val), by omega⟩) * k (ix2 l ⟨64 + e.val, by omega⟩)) (Ideal.ofBits .f32 0xFF800000#32) := by
  simp only [← stack1_at]
  unfold k0_pay28
  generalize k0_pay27 (F := Ideal) x = y
  pointwise

theorem cached0_at (x : FVec Ideal S128x512 .f32) (k : FVec Ideal S512x64 .bf16) (n j : Fin 512) :
    k0_pay19 (F := Ideal) x (sl0 x) (sl1 x) k (ix2 n j) = ∑ e : Fin 64, x (ix2 ⟨n.val % 128, by omega⟩ ⟨n.val / 128 * 64 + e.val, by omega⟩) * k (ix2 j e) := by
  simp only [← stack0_at]
  unfold k0_pay19
  generalize k0_pay17 (F := Ideal) x (sl0 x) (sl1 x) = y
  pointwise

theorem cached1_at (x : FVec Ideal S128x512 .f32) (k : FVec Ideal S512x64 .bf16) (n j : Fin 512) :
    k0_pay29 (F := Ideal) x k (ix2 n j) = ∑ e : Fin 64, x (ix2 ⟨n.val % 128, by omega⟩ ⟨256 + (n.val / 128 * 64 + e.val), by omega⟩) * k (ix2 j e) := by
  simp only [← stack1_at]
  unfold k0_pay29
  generalize k0_pay27 (F := Ideal) x = y
  pointwise

/-! ## Which keys of the window a row may see -/

/-- Where the window starts, as the kernel computes it on machine integers. -/
abbrev startWord (i : BitVec 32) : BitVec 32 := Scalar.minsi 3712#32 (Scalar.maxsi 0#32 (Scalar.muli (Scalar.subi i 1#32) 128#32))

theorem start_word : ∀ i : Fin 32, startWord (BitVec.ofNat 32 i.val) = BitVec.ofNat 32 (start i.val) ∧ Scalar.muli (BitVec.ofNat 32 i.val) 128#32 = BitVec.ofNat 32 (128 * i.val) := by decide +kernel
theorem low_word : ∀ n : Fin 512, IntOp.andi (BitVec.ofNat 32 n.val) 127#32 = BitVec.ofNat 32 (n.val % 128) := by decide +kernel

theorem seen_at (i : Fin 32) (n : Fin 512) (l : Fin 384) :
    k0_pay14 (BitVec.ofNat 32 i.val) (startWord (BitVec.ofNat 32 i.val)) (ix2 n l)
      = if near (128 * i.val + n.val % 128) (start i.val + l.val) then 1#1 else 0#1 := by
  have hi := i.isLt
  have hl := l.isLt
  rw [(start_word i).1]
  refine Eq.trans ?_ (near_word _ _ (by omega) (by unfold start; omega))
  have h := low_word n
  have h' := (start_word i).2
  have h3 : IntOp.addi (BitVec.ofNat 32 (start i.val)) (BitVec.ofNat 32 l.val) = BitVec.ofNat 32 (start i.val + l.val) := (BitVec.ofNat_add _ _).symm
  have h4 : IntOp.addi (BitVec.ofNat 32 (128 * i.val)) (BitVec.ofNat 32 (n.val % 128)) = BitVec.ofNat 32 (128 * i.val + n.val % 128) := (BitVec.ofNat_add _ _).symm
  generalize BitVec.ofNat 32 (start i.val) = u at *
  pointwise [k0_pay14]
  rw [h', h, h3, h4]

/-! ## The stored block -/

/-- The two key groups' four heads each, beside one another. -/
def beside (x y : FVec Ideal S512x64 .f32) : FVec Ideal S128x512 .bf16 :=
  truncf .bf16 (concatenate S128x512 1 [⟨S128x64, extractStridedSlice S128x64 ![0, 0] x slices_S512x64_o0_0_S128x64⟩, ⟨S128x64, extractStridedSlice S128x64 ![128, 0] x slices_S512x64_o128_0_S128x64⟩, ⟨S128x64, extractStridedSlice S128x64 ![256, 0] x slices_S512x64_o256_0_S128x64⟩, ⟨S128x64, extractStridedSlice S128x64 ![384, 0] x slices_S512x64_o384_0_S128x64⟩, ⟨S128x64, extractStridedSlice S128x64 ![0, 0] y slices_S512x64_o0_0_S128x64⟩, ⟨S128x64, extractStridedSlice S128x64 ![128, 0] y slices_S512x64_o128_0_S128x64⟩, ⟨S128x64, extractStridedSlice S128x64 ![256, 0] y slices_S512x64_o256_0_S128x64⟩, ⟨S128x64, extractStridedSlice S128x64 ![384, 0] y slices_S512x64_o384_0_S128x64⟩]
    concatenates_S128x64_S128x64_S128x64_S128x64_S128x64_S128x64_S128x64_S128x64_S128x512_d1 : FVec Ideal S128x512 .f32) bitsLt_bf16_f32

theorem beside_at (x y : FVec Ideal S512x64 .f32) (r : Fin 128) (j : Fin 512) :
    beside x y (ix2 r j)
      = if j.val < 256 then x (ix2 ⟨j.val / 64 % 4 * 128 + r.val, by omega⟩ ⟨j.val % 64, by omega⟩)
        else y (ix2 ⟨j.val / 64 % 4 * 128 + r.val, by omega⟩ ⟨j.val % 64, by omega⟩) := by
  pointwise [beside]
  by_cases hj : j.val < 256
  · rw [if_pos hj]
    split_ifs
    all_goals first
      | omega
      | exact at2 x (by omega) (by omega)
  · rw [if_neg hj]
    split_ifs
    all_goals first
      | omega
      | exact at2 y (by omega) (by omega)

end Cert.LatentIdeal.Body

end
-- ==== Proof.LatIdealKit.lean ====
module

public import proofs.«01_k».proof.Proof.Gen.LatentIdeal.Frame
public import proofs.«01_k».proof.Proof.Gen.LatentIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.LatentIdeal.Lat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 , on the grid coordinates. -/
abbrev cond0_0 (i : grid0.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 256 := Nat.lt_of_lt_of_eq t.isLt N_0
    have e0 : (grid0.coords t 0).val = t.val / 128 % 2 := Pipeline.Grid.coords_val t 0 (by decide) rfl
    have e1 : (grid0.coords t 1).val = t.val / 32 % 4 := Pipeline.Grid.coords_val t 1 (by decide) rfl
    have e2 : (grid0.coords t 2).val = t.val / 1 % 32 := Pipeline.Grid.coords_val t 2 (by decide) rfl
    simp only [cond0_0, e0, e1, e2]
    word_cmp
   : ∀ t : Fin grid0.N, cond0_0 (grid0.coords t) ↔ t.val % 32 = 0)

/-! ## The buffers the body is handed -/

/-- One staging buffer of output window 10, through which its contents are stated. -/
abbrev VO0_10 : View sig .tc .vmem S128x512 .bf16 := (Memref.whole cc0_stg10_0 : Memref sig .tc .vmem S128x512 .bf16).view
/-- Each window's current staging memref at point `t`, and that it is a whole buffer. -/
abbrev ms0_0 (t : Fin cfg0.N) : Memref sig .tc .smem S32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x512 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S4096x128 .bf16 := Memref.whole cc0_scratch0
abbrev scM0_1 : Memref sig .tc .vmem S4096x128 .bf16 := Memref.whole cc0_scratch1
abbrev scM0_2 : Memref sig .tc .vmem S512x128 .bf16 := Memref.whole cc0_scratch2
abbrev scM0_3 : Memref sig .tc .vmem S512x128 .bf16 := Memref.whole cc0_scratch3
/-- The scratch `arg15` the kernel carries between points, as a view: what it holds is stated through it. -/
abbrev VS0_0 : View sig .tc .vmem S4096x128 .bf16 := scM0_0.view
/-- The scratch `arg16` the kernel carries between points, as a view: what it holds is stated through it. -/
abbrev VS0_1 : View sig .tc .vmem S4096x128 .bf16 := scM0_1.view
/-- The scratch `arg17` the kernel carries between points, as a view: what it holds is stated through it. -/
abbrev VS0_2 : View sig .tc .vmem S512x128 .bf16 := scM0_2.view
/-- The scratch `arg18` the kernel carries between points, as a view: what it holds is stated through it. -/
abbrev VS0_3 : View sig .tc .vmem S512x128 .bf16 := scM0_3.view

/-- What the launch hands the region: the four scratch buffers at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Where the body reads its 384 keys: one block before the query block, clipped to the sequence. -/
theorem off1_eq : ∀ i : grid0.Coords, k0_off1 i = ![min 3712 (128 * (i 2).val - 128), 0] := by decide +kernel

instance closedOff_off1 (i : grid0.Coords) : ClosedOff (k0_off1 i) := ⟨![min 3712 (128 * (i 2).val - 128), 0], off1_eq i⟩

set_option maxHeartbeats 1000000 in
/-- The body at the first query block of a (batch, head pair): it ropes and rounds the keys and values into
    scratch, then attends.  The pieces each buffer ends with, and the body's triple. -/
noncomputable def kernelRun0_A (c : Dev nD) (i : grid0.Coords) (arg3 : Memref sig .tc .smem S32 .f32) (harg3 : arg3.IsWhole) (arg4 : Memref sig .tc .vmem S128x512 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S4096x128 .f32) (harg11 : arg11.IsWhole) (arg12 : Memref sig .tc .vmem S4096x128 .f32) (harg12 : arg12.IsWhole) (arg14 : Memref sig .tc .vmem S128x512 .bf16) (harg14 : arg14.IsWhole) (arg15 : Memref sig .tc .vmem S4096x128 .bf16) (harg15 : arg15.IsWhole) (arg16 : Memref sig .tc .vmem S4096x128 .bf16) (harg16 : arg16.IsWhole) (arg17 : Memref sig .tc .vmem S512x128 .bf16) (harg17 : arg17.IsWhole) (arg18 : Memref sig .tc .vmem S512x128 .bf16) (harg18 : arg18.IsWhole) (hc0 : cond0_0 i)
    (x0 : Vec F S32 .f32) (x1 : Vec F S128x512 .bf16) (x2 : Vec F S4096x128 .f32) (x3 : Vec F S4096x128 .f32) (x4 : Vec F S1x512x128 .f32) (x5 : Vec F S1x512x128 .f32) (x6 : Vec F S128x128 .f32) (x7 : Vec F S128x128 .f32) (x8 : Vec F S4096x128 .f32) (x9 : Vec F S4096x128 .f32) :
    Σ' (L10 : List (View.Piece (Elt F) S128x512 .bf16)), Σ' (LS0 : List (View.Piece (Elt F) S4096x128 .bf16)), Σ' (LS1 : List (View.Piece (Elt F) S4096x128 .bf16)), Σ' (LS2 : List (View.Piece (Elt F) S512x128 .bf16)), { LS3 : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg14.view.loc (c : Thread nD τ) ↦[arg14.view.set]{fullShare} arg14.view.writes (Elt F) f L10) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3)) -∗ K ⟨⟩))
          ⊢ wp frame (wpE (defs₀ (F := F)) Variants.none c none) E (cc0_latent_attention i arg3 harg3 arg4 harg4 arg5 harg5 arg6 harg6 arg7 harg7 arg8 harg8 arg9 harg9 arg10 harg10 arg11 harg11 arg12 harg12 (Memref.whole main_arg5) (Memref.isWhole_whole _) arg14 harg14 arg15 harg15 arg16 harg16 arg17 harg17 arg18 harg18) K } := by
  refine ⟨?_, ?_, ?_, ?_, ?_, fun E K => ?run⟩
  case run =>
    simp only [cc0_latent_attention_eq_skeleton]; unfold cc0_latent_attention_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]; · iexists _; iexact HS0
    isplitl [HS1]; · iexists _; iexact HS1
    isplitl [HS2]; · iexists _; iexact HS2
    iexists _; iexact HS3

set_option maxHeartbeats 1600000 in
/-- The body at a later query block: it attends over the scratch an earlier point filled, and leaves it alone. -/
noncomputable def kernelRun0_B (c : Dev nD) (i : grid0.Coords) (arg3 : Memref sig .tc .smem S32 .f32) (harg3 : arg3.IsWhole) (arg4 : Memref sig .tc .vmem S128x512 .bf16) (harg4 : arg4.IsWhole) (arg5 : Memref sig .tc .vmem S4096x128 .f32) (harg5 : arg5.IsWhole) (arg6 : Memref sig .tc .vmem S4096x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S4096x128 .f32) (harg11 : arg11.IsWhole) (arg12 : Memref sig .tc .vmem S4096x128 .f32) (harg12 : arg12.IsWhole) (arg14 : Memref sig .tc .vmem S128x512 .bf16) (harg14 : arg14.IsWhole) (arg15 : Memref sig .tc .vmem S4096x128 .bf16) (harg15 : arg15.IsWhole) (arg16 : Memref sig .tc .vmem S4096x128 .bf16) (harg16 : arg16.IsWhole) (arg17 : Memref sig .tc .vmem S512x128 .bf16) (harg17 : arg17.IsWhole) (arg18 : Memref sig .tc .vmem S512x128 .bf16) (harg18 : arg18.IsWhole) (hc0 : ¬cond0_0 i)
    (x0 : Vec F S32 .f32) (x1 : Vec F S128x512 .bf16) (x2 : Vec F S4096x128 .f32) (x3 : Vec F S4096x128 .f32) (x4 : Vec F S1x512x128 .f32) (x5 : Vec F S1x512x128 .f32) (x6 : Vec F S128x128 .f32) (x7 : Vec F S128x128 .f32) (x8 : Vec F S4096x128 .f32) (x9 : Vec F S4096x128 .f32) (xs0 : Vec F S4096x128 .bf16) (xs1 : Vec F S4096x128 .bf16) (xs2 : Vec F S512x128 .bf16) (xs3 : Vec F S512x128 .bf16) :
    Σ' (L10 : List (View.Piece (Elt F) S128x512 .bf16)), Σ' (LS0 : List (View.Piece (Elt F) S4096x128 .bf16)), Σ' (LS1 : List (View.Piece (Elt F) S4096x128 .bf16)), Σ' (LS2 : List (View.Piece (Elt F) S512x128 .bf16)), { LS3 : List (View.Piece (Elt F) S512x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg14.view.loc (c : Thread nD τ) ↦[arg14.view.set]{fullShare} arg14.view.writes (Elt F) f L10) ∗ owns (c : Thread nD τ) arg15 fullShare xs0 ∗ owns (c : Thread nD τ) arg16 fullShare xs1 ∗ owns (c : Thread nD τ) arg17 fullShare xs2 ∗ owns (c : Thread nD τ) arg18 fullShare xs3) -∗ K ⟨⟩))
          ⊢ wp frame (wpE (defs₀ (F := F)) Variants.none c none) E (cc0_latent_attention i arg3 harg3 arg4 harg4 arg5 harg5 arg6 harg6 arg7 harg7 arg8 harg8 arg9 harg9 arg10 harg10 arg11 harg11 arg12 harg12 (Memref.whole main_arg5) (Memref.isWhole_whole _) arg14 harg14 arg15 harg15 arg16 harg16 arg17 harg17 arg18 harg18) K } := by
  refine ⟨?_, [], [], [], [], fun E K => ?run⟩
  case run =>
    simp only [cc0_latent_attention_eq_skeleton]; unfold cc0_latent_attention_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hfs0; obtain rfl := harg16.eq_unread hfs1; obtain rfl := harg17.eq_unread hfs2; obtain rfl := harg18.eq_unread hfs3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]; · iexists _; iexact H10
    isplitl [HS0]
    · iexists _; isplitr; · ipureintro; exact harg15.read_unread _
      iexact HS0
    isplitl [HS1]
    · iexists _; isplitr; · ipureintro; exact harg16.read_unread _
      iexact HS1
    isplitl [HS2]
    · iexists _; isplitr; · ipureintro; exact harg17.read_unread _
      iexact HS2
    iexists _; isplitr; · ipureintro; exact harg18.read_unread _
    iexact HS3

/-- The four scratch buffers' contents: roped keys, values, cached keys, cached values. -/
abbrev Scr (F : FTy → Type) : Type := Vec F S4096x128 .bf16 × Vec F S4096x128 .bf16 × Vec F S512x128 .bf16 × Vec F S512x128 .bf16

/-- The run at a point that fills the scratch. -/
def runA (c : Dev nD) (t : Fin cfg0.N) (h0 : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

/-- The run at a later point, over the scratch `s`. -/
def runB (c : Dev nD) (t : Fin cfg0.N) (h0 : ¬t.val % 32 = 0) (s : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)
    (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) s.1 s.2.1 s.2.2.1 s.2.2.2

end Cert.LatentIdeal.Lat

end
-- ==== Proof.LatIdealFrame.lean ====
module

public import proofs.«01_k».proof.Proof.LatIdealKit
public import Idealize.ShloMosaic.Lib.Claim

@[expose] public section

set_option maxRecDepth 16384

noncomputable section

namespace Cert.LatentIdeal.Lat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LatentIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The pieces a run stores into the output block cover it. -/
theorem coverA (c : Dev nD) (t : Fin cfg0.N) (h0 : t.val % 32 = 0) (y : S128x512.Idx) :
    ∃ pc ∈ (runA m c t h0).1, y ∈ pc.1.set :=
  View.cover_of_tiledL (runA m c t h0).1 S128x512.size (by sl_kernel_rfl) y

@[inherit_doc coverA]
theorem coverB (c : Dev nD) (t : Fin cfg0.N) (h0 : ¬t.val % 32 = 0) (s : Scr F) (y : S128x512.Idx) :
    ∃ pc ∈ (runB m c t h0 s).1, y ∈ pc.1.set :=
  View.cover_of_tiledL (runB m c t h0 s).1 S128x512.size (by sl_kernel_rfl) y

/-- The pieces stored into scratch 0 cover it. -/
theorem scover0 (c : Dev nD) (t : Fin cfg0.N) (h0 : t.val % 32 = 0) (y : S4096x128.Idx) :
    ∃ pc ∈ (runA m c t h0).2.1, y ∈ pc.1.set :=
  View.cover_of_tiledL (runA m c t h0).2.1 S4096x128.size (by sl_kernel_rfl) y

/-- The pieces stored into scratch 1 cover it. -/
theorem scover1 (c : Dev nD) (t : Fin cfg0.N) (h0 : t.val % 32 = 0) (y : S4096x128.Idx) :
    ∃ pc ∈ (runA m c t h0).2.2.1, y ∈ pc.1.set :=
  View.cover_of_tiledL (runA m c t h0).2.2.1 S4096x128.size (by sl_kernel_rfl) y

/-- The pieces stored into scratch 2 cover it. -/
theorem scover2 (c : Dev nD) (t : Fin cfg0.N) (h0 : t.val % 32 = 0) (y : S512x128.Idx) :
    ∃ pc ∈ (runA m c t h0).2.2.2.1, y ∈ pc.1.set :=
  View.cover_of_tiledL (runA m c t h0).2.2.2.1 S512x128.size (by sl_kernel_rfl) y

/-- The pieces stored into scratch 3 cover it. -/
theorem scover3 (c : Dev nD) (t : Fin cfg0.N) (h0 : t.val % 32 = 0) (y : S512x128.Idx) :
    ∃ pc ∈ (runA m c t h0).2.2.2.2.1, y ∈ pc.1.set :=
  View.cover_of_tiledL (runA m c t h0).2.2.2.2.1 S512x128.size (by sl_kernel_rfl) y

/-- What a scratch-filling point leaves: the output block, then the scratch. -/
def leftA (c : Dev nD) (t : Fin cfg0.N) (h0 : t.val % 32 = 0) : Vec F S128x512 .bf16 × Scr F :=
  (VO0_10.read (Elt F) (VO0_10.writes (Elt F) VO0_10.junk (runA m c t h0).1),
   VS0_0.read (Elt F) (VS0_0.writes (Elt F) VS0_0.junk (runA m c t h0).2.1), VS0_1.read (Elt F) (VS0_1.writes (Elt F) VS0_1.junk (runA m c t h0).2.2.1), VS0_2.read (Elt F) (VS0_2.writes (Elt F) VS0_2.junk (runA m c t h0).2.2.2.1), VS0_3.read (Elt F) (VS0_3.writes (Elt F) VS0_3.junk (runA m c t h0).2.2.2.2.1))

/-- What a later point leaves: its output block, and the scratch as it found it. -/
def leftB (c : Dev nD) (t : Fin cfg0.N) (h0 : ¬t.val % 32 = 0) (s : Scr F) : Vec F S128x512 .bf16 × Scr F :=
  (VO0_10.read (Elt F) (VO0_10.writes (Elt F) VO0_10.junk (runB m c t h0 s).1), s)

/-- What the output block and the scratch hold after the body at position `n`. -/
def outsAt0 (c : Dev nD) : (n : ℕ) → n < cfg0.N → Vec F S128x512 .bf16 × Scr F
  | 0, hn => leftA m c ⟨0, hn⟩ (Nat.zero_mod 32)
  | n + 1, hn =>
    if h0 : (n + 1) % 32 = 0 then leftA m c ⟨n + 1, hn⟩ h0
    else leftB m c ⟨n + 1, hn⟩ h0 (outsAt0 c n (Nat.lt_of_succ_lt hn)).2

theorem outsAt0_A (c : Dev nD) (t : Fin cfg0.N) (h0 : t.val % 32 = 0) :
    outsAt0 m c t.val t.isLt = leftA m c t h0 := by
  obtain ⟨n, hn⟩ := t
  cases n with
  | zero => rfl
  | succ n => exact (dif_pos h0).trans rfl

theorem outsAt0_B (c : Dev nD) (t : Fin cfg0.N) (h0 : ¬t.val % 32 = 0) :
    outsAt0 m c t.val t.isLt = leftB m c t h0 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The invariant before position `n`: at the start the scratch at anything, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := Pipeline.shareOf spec0 w
  owed _ := 0

/-- The arrays are the contents the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: a scratch-filling point takes the scratch at anything, a later one at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 256 := lt_of_lt_of_eq t.isLt (show cfg0.N = 256 from N_0)
  by_cases h0 : t.val % 32 = 0
  · by_cases hz : t.val = 0
    · rw [PhiS_castSucc m c t, PhiS_zero m c _ _ hz, PhiA0_eq]
      rw [outsAt0_A m c t h0]
      unfold leftA; dsimp only
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0 m c t h0)
          isplitl [HS1]
          · unfold owns; iexists _; isplitr
            swap; · iexact HS1
            ipureintro; exact View.read_writes_of_cover _ _ _ _ _ (scover1 m c t h0)
          isplitl [HS2]
          · unfold owns; iexists _; isplitr
            swap; · iexact HS2
            ipureintro; exact View.read_writes_of_cover _ _ _ _ _ (scover2 m c t h0)
          unfold owns; iexists _; isplitr
          swap; · iexact HS3
          ipureintro; exact View.read_writes_of_cover _ _ _ _ _ (scover3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA m c t h0)
    · rw [PhiS_castSucc m c t, PhiS_pos m c _ _ hz]
      rw [outsAt0_A m c t h0]
      unfold leftA; dsimp only
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, ⟨%e10, H10⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0 m c t h0)
          isplitl [HS1]
          · unfold owns; iexists _; isplitr
            swap; · iexact HS1
            ipureintro; exact View.read_writes_of_cover _ _ _ _ _ (scover1 m c t h0)
          isplitl [HS2]
          · unfold owns; iexists _; isplitr
            swap; · iexact HS2
            ipureintro; exact View.read_writes_of_cover _ _ _ _ _ (scover2 m c t h0)
          unfold owns; iexists _; isplitr
          swap; · iexact HS3
          ipureintro; exact View.read_writes_of_cover _ _ _ _ _ (scover3 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverA m c t h0)
  · by_cases hz : t.val = 0
    · exfalso; have hN : t.val < 256 := lt_of_lt_of_eq t.isLt (show cfg0.N = 256 from N_0); omega
    · rw [PhiS_castSucc m c t, PhiS_pos m c _ _ hz]
      rw [outsAt0_B m c t h0]
      unfold leftB; dsimp only
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB m c t h0 (outsAt0 m c (t.val - 1) (Nat.lt_of_le_of_lt (Nat.sub_le _ _) t.isLt)).2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, ⟨%e10, H10⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (coverB m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every fair execution ends with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.LatentIdeal.Lat

end
-- ==== Proof.LatTable.lean ====
module

public import proofs.«01_k».proof.Proof.LatBody
public import proofs.«01_k».proof.Proof.LatIdealFrame

@[expose] public section

set_option maxRecDepth 16384
noncomputable section
open Idealize.ShloMosaic Idealize.ShloMosaic.TcCoe Idealize.SL.Sem
namespace Cert.LatentIdeal.Table
open Cert.LatentIdeal Cert.LatentIdeal.Gen Cert.LatSpec

/-! ## The tables the kernel is given: each a short chain of array operations, read at a point -/

/-- The negated and scaled lane numbers, raised from the base: the sixteen frequencies. -/
def freqs : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Each position's row, and each position's column, in a square of 64. -/
def rows : FVec Ideal S4096 .f32 := shapeCast S4096 (broadcastInDim S64x64 ![0] bcast_S64_S64x64_0 (sitofp .f32 (iotaInDim S64 32 0) : FVec Ideal S64 .f32)) shapeCasts_S64x64_S4096
def cols : FVec Ideal S4096 .f32 := shapeCast S4096 (broadcastInDim S64x64 ![0, 1] bcast_S1x64_S64x64_0_1 (shapeCast S1x64 (sitofp .f32 (iotaInDim S64 32 0) : FVec Ideal S64 .f32) shapeCasts_S64_S1x64)) shapeCasts_S64x64_S4096

/-- Positions times frequencies. -/
def angles (x : FVec Ideal S4096 .f32) (f : FVec Ideal S16 .f32) : FVec Ideal S4096x16 .f32 :=
  mulf (broadcastInDim S4096x16 ![0, 1] bcast_S4096x1_S4096x16_0_1 (broadcastInDim S4096x1 ![0] bcast_S4096_S4096x1_0 x))
    (broadcastInDim S4096x16 ![0, 1] bcast_S1x16_S4096x16_0_1 (broadcastInDim S1x16 ![1] bcast_S16_S1x16_1 f))

def fourAngles (a b : FVec Ideal S4096x16 .f32) : FVec Ideal S4096x64 .f32 :=
  concatenate S4096x64 1 [⟨S4096x16, a⟩, ⟨S4096x16, a⟩, ⟨S4096x16, b⟩, ⟨S4096x16, b⟩] concatenates_S4096x16_S4096x16_S4096x16_S4096x16_S4096x64_d1

/-- Minus one on the first half of each 32 lanes, one on the second. -/
def signs : FVec Ideal S64 .f32 :=
  have one : FVec Ideal S16 .f32 := broadcastInDim S16 ![] bcast_S_S16 (constant S_ .f32 0x3F800000#32)
  shapeCast S64 (broadcastInDim S2x32 ![0, 1] bcast_S1x32_S2x32_0_1
    (shapeCast S1x32 (concatenate S32 0 [⟨S16, Host.negf one⟩, ⟨S16, one⟩] concatenates_S16_S16_S32_d0) shapeCasts_S32_S1x32)) shapeCasts_S2x32_S64

/-- A table of 64 lanes laid out twice, for two heads. -/
def twice (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128

def cosTable : FVec Ideal S4096x128 .f32 := twice (Host.cos (fourAngles (angles rows freqs) (angles cols freqs)))
def sinTable : FVec Ideal S4096x128 .f32 :=
  twice (mulf (Host.sin (fourAngles (angles rows freqs) (angles cols freqs)))
    (broadcastInDim S4096x64 ![0, 1] bcast_S1x64_S4096x64_0_1 (broadcastInDim S1x64 ![1] bcast_S64_S1x64_1 signs)))

theorem twice_at (x : FVec Ideal S4096x64 .f32) (p : Fin 4096) (l : Fin 128) : twice x (ix2 p l) = x (ix2 p ⟨l.val % 64, by omega⟩) := by
  pointwise [twice]

theorem freqs_at (e : Fin 16) : freqs (ix1 e) = freq e.val := by
  pointwise [freqs]
  rfl

theorem rows_at (p : Fin 4096) : rows (ix1 p) = num (p.val / 64) := by
  pointwise [rows]
  rfl

theorem cols_at (p : Fin 4096) : cols (ix1 p) = num (p.val % 64) := by
  pointwise [cols]
  rfl

theorem angles_at (x : FVec Ideal S4096 .f32) (f : FVec Ideal S16 .f32) (p : Fin 4096) (e : Fin 16) : angles x f (ix2 p e) = x (ix1 p) * f (ix1 e) := by
  pointwise [angles]

theorem fourAngles_at (a b : FVec Ideal S4096x16 .f32) (p : Fin 4096) (e : Fin 64) :
    fourAngles a b (ix2 p e) = if e.val < 32 then a (ix2 p ⟨e.val % 16, by omega⟩) else b (ix2 p ⟨e.val % 16, by omega⟩) := by
  have he := e.isLt
  unfold fourAngles
  pointwise
  repeat' split
  all_goals first | (exfalso; omega) | exact Body.at2 a rfl (by omega) | exact Body.at2 b rfl (by omega)

theorem signs_at (e : Fin 64) : signs (ix1 e) = if e.val % 32 < 16 then -(Ideal.ofBits .f32 0x3F800000#32) else Ideal.ofBits .f32 0x3F800000#32 := by
  have he := e.isLt
  pointwise [signs]
  split <;> rfl

theorem ang_at (p : Fin 4096) (e : Fin 64) : fourAngles (angles rows freqs) (angles cols freqs) (ix2 p e) = ang p.val e.val := by
  rw [fourAngles_at, angles_at, angles_at, rows_at, cols_at, freqs_at]
  unfold ang
  split <;> rfl

theorem cosTable_at (p : Fin 4096) (l : Fin 128) : cosTable (ix2 p l) = cosAt p.val (l.val % 64) := by
  unfold cosTable
  rw [twice_at]
  exact congrArg Ideal.cos (ang_at p ⟨l.val % 64, by omega⟩)

theorem sign_rows_at (y : FVec Ideal S4096x64 .f32) (g : FVec Ideal S64 .f32) (p : Fin 4096) (e : Fin 64) :
    mulf (Host.sin y) (broadcastInDim S4096x64 ![0, 1] bcast_S1x64_S4096x64_0_1 (broadcastInDim S1x64 ![1] bcast_S64_S1x64_1 g)) (ix2 p e)
      = Ideal.sin (y (ix2 p e)) * g (ix1 e) := by
  pointwise

theorem sinTable_at (p : Fin 4096) (l : Fin 128) : sinTable (ix2 p l) = signedSin p.val (l.val % 64) := by
  unfold sinTable
  rw [twice_at, sign_rows_at, ang_at, signs_at]
  rfl

/-- A cache, its key groups side by side. -/
def flat (x : FVec Ideal S2x1x512x8x64 .f32) : FVec Ideal S2x512x512 .f32 :=
  shapeCast S2x512x512 (shapeCast S2x512x8x64 x shapeCasts_S2x1x512x8x64_S2x512x8x64) shapeCasts_S2x512x8x64_S2x512x512

theorem flat_at (x : FVec Ideal S2x1x512x8x64 .f32) (b : Fin 2) (j k : Fin 512) : flat x (ix3 b j k) = x (ix5 b 0 j ⟨k.val / 64, by omega⟩ ⟨k.val % 64, by omega⟩) := by
  pointwise [flat]

variable (m : (ℓ : Loc nD τ sig) → Buf (Elt Ideal) ℓ)

theorem V_cos (c : Dev nD) : V m c main_v38 = cosTable := by
  unfold V
  after_results
  try rfl
theorem V_sin (c : Dev nD) : V m c main_v45 = sinTable := by
  unfold V
  after_results
  try rfl
theorem V_keys (c : Dev nD) : V m c main_v1 = flat (m ((c : Thread nD τ).loc main_arg2)) := by
  unfold V
  after_results
  try rfl
theorem V_values (c : Dev nD) : V m c main_v3 = flat (m ((c : Thread nD τ).loc main_arg3)) := by
  unfold V
  after_results
  try rfl
theorem V_out (c : Dev nD) : V m c main_v46 = m ((c : Thread nD τ).loc main_arg5) := by
  unfold V
  after_results
  try rfl
theorem V_q (c : Dev nD) : V m c main_arg0 = m ((c : Thread nD τ).loc main_arg0) := by
  unfold V
  after_results
  try rfl
theorem V_kv (c : Dev nD) : V m c main_arg1 = m ((c : Thread nD τ).loc main_arg1) := by
  unfold V
  after_results
  try rfl
theorem V_sink (c : Dev nD) : V m c main_arg4 = m ((c : Thread nD τ).loc main_arg4) := by
  unfold V
  after_results
  try rfl

end Cert.LatentIdeal.Table

end
-- ==== Proof.LatRef.lean ====
module

public import proofs.«01_k».proof.Proof.Gen.LatentReferenceIdeal.Read
public import proofs.«01_k».proof.Proof.LatSpec
public import Idealize.ShloMosaic.Lib.Pipeline.ValueKit

@[expose] public section

set_option maxRecDepth 16384
noncomputable section
open Idealize.ShloMosaic Idealize.ShloMosaic.TcCoe Idealize.SL.Sem
namespace Cert.LatentReferenceIdeal.Read
open Cert.LatentReferenceIdeal Cert.LatentReferenceIdeal.Gen Cert.LatSpec

theorem ang_congr (p : Nat) {e e' : Nat} (h : e < 32 ↔ e' < 32) (h' : e % 16 = e' % 16) : ang p e = ang p e' := by
  unfold ang
  rw [h']
  by_cases he : e < 32
  · rw [if_pos he, if_pos (h.1 he)]
  · rw [if_neg he, if_neg (fun x => he (h.2 x))]

theorem freq_at (d : Fin 16) : val_main_v15 (F := Ideal) (ix1 d) = freq d.val := by
  pointwise [val_main_v15, val_main_v14, val_main_cst_0, val_main_v13, val_main_v12, val_main_cst, val_main_v11, val_main_v10]
  rfl

theorem row_at (p : Fin 4096) (d : Fin 16) : val_main_v21 (F := Ideal) (ix2 p d) = ang p.val d.val := by
  unfold ang
  rw [if_pos (by omega), Nat.mod_eq_of_lt d.isLt, ← freq_at]
  pointwise [val_main_v21, val_main_v19, val_main_v17, val_main_v5, val_main_v4, val_main_v3, val_main_v20, val_main_v18]
  rfl

theorem col_at (p : Fin 4096) (d : Fin 16) : val_main_v44 (F := Ideal) (ix2 p d) = ang p.val (32 + d.val) := by
  unfold ang
  rw [if_neg (by omega), show (32 + d.val) % 16 = d.val by omega, ← freq_at]
  pointwise [val_main_v44, val_main_v42, val_main_v40, val_main_v9, val_main_v8, val_main_v7, val_main_v6, val_main_v43, val_main_v41]
  rfl

theorem krow_freq_at (d : Fin 16) : val_main_v78 (F := Ideal) (ix1 d) = freq d.val := by
  pointwise [val_main_v78, val_main_v77, val_main_cst_2, val_main_v76, val_main_v75, val_main_cst_1, val_main_v74, val_main_v73]
  rfl

theorem key_row_at (p : Fin 4096) (d : Fin 16) : val_main_v84 (F := Ideal) (ix2 p d) = ang p.val d.val := by
  unfold ang
  rw [if_pos (by omega), Nat.mod_eq_of_lt d.isLt, ← krow_freq_at]
  pointwise [val_main_v84, val_main_v82, val_main_v80, val_main_v68, val_main_v67, val_main_v66, val_main_v83, val_main_v81]
  rfl

theorem key_col_at (p : Fin 4096) (d : Fin 16) : val_main_v107 (F := Ideal) (ix2 p d) = ang p.val (32 + d.val) := by
  unfold ang
  rw [if_neg (by omega), show (32 + d.val) % 16 = d.val by omega, ← krow_freq_at]
  pointwise [val_main_v107, val_main_v105, val_main_v103, val_main_v72, val_main_v71, val_main_v70, val_main_v69, val_main_v106, val_main_v104]
  rfl

theorem at2 {α : Type} {A B : Nat} (f : (⟨2, ![A, B]⟩ : Shape).Idx → α) {a a' b b' : Nat} {ha : a < A} {ha' : a' < A} {hb : b < B} {hb' : b' < B}
    (h : a = a') (h' : b = b') : f (ix2 ⟨a, ha⟩ ⟨b, hb⟩) = f (ix2 ⟨a', ha'⟩ ⟨b', hb'⟩) := by
  subst h; subst h'; rfl

/-- One rotated channel, its angle written by the channel itself. -/
theorem rope_low (X : Nat → EReal) (p e d : Nat) (h : e % 32 < 16) (hd : ang p d = ang p e) :
    X e * cosAt p d - X (e + 16) * sinAt p d = rope X p e := by
  unfold rope cosAt sinAt
  rw [if_pos h, hd]

theorem rope_high (X : Nat → EReal) (p e d : Nat) (h : ¬e % 32 < 16) (hd : ang p d = ang p e) :
    X e * cosAt p d + X (e - 16) * sinAt p d = rope X p e := by
  unfold rope cosAt sinAt
  rw [if_neg h, hd]

variable (x0 : FVec Ideal S16384x2048 .bf16) (x1 : FVec Ideal S16384x1024 .f32) (x2 x3 : FVec Ideal S2x1x512x8x64 .f32) (x4 : FVec Ideal S32 .f32)

/-- A query's row before rotation, over its channels. -/
def qrow (b : Fin 2) (p : Fin 4096) (h : Fin 32) (e : Nat) : EReal := x0 (ix2 ⟨8192 + (b.val * 4096 + p.val), by omega⟩ ⟨h.val * 64 + e % 64, by omega⟩)

theorem query_at (b : Fin 2) (p : Fin 4096) (h : Fin 32) (e : Fin 64) : val_main_v2 (F := Ideal) x0 (ix4 b p h e) = qrow x0 b p h e.val := by
  unfold qrow
  pointwise [val_main_v2, val_main_v1, val_main_v0]
  exact at2 x0 rfl (by omega)

/-- A key's row before rotation, over its channels. -/
def krow (b : Fin 2) (p : Fin 4096) (h : Fin 8) (e : Nat) : EReal := x1 (ix2 ⟨8192 + (b.val * 4096 + p.val), by omega⟩ ⟨h.val * 64 + e % 64, by omega⟩)

theorem key_at (b : Fin 2) (p : Fin 4096) (h : Fin 8) (e : Fin 64) : val_main_v65 (F := Ideal) x1 (ix4 b p h e) = krow x1 b p h e.val := by
  unfold krow
  pointwise [val_main_v65, val_main_v64]
  exact at2 x1 rfl (by omega)

theorem query_first_at (b : Fin 2) (p : Fin 4096) (h : Fin 32) (d : Fin 16) : val_main_v32 (F := Ideal) x0 (ix4 b p h d)
    = rope (qrow x0 b p h) p.val d.val := by
  pointwise [val_main_v32, val_main_v29, val_main_v26, val_main_v16, val_main_v28, val_main_v23, val_main_v22, val_main_v31, val_main_v27, val_main_v30, val_main_v25, val_main_v24]
  rw [query_at, query_at, row_at]
  refine Eq.trans ?_ (rope_low (qrow x0 b p h) p.val d.val (d.val) (by omega) (ang_congr _ (by omega) (by omega)))
  unfold cosAt sinAt
  congr 3 <;> (dsimp only; omega)

theorem query_second_at (b : Fin 2) (p : Fin 4096) (h : Fin 32) (d : Fin 16) : val_main_v37 (F := Ideal) x0 (ix4 b p h d)
    = rope (qrow x0 b p h) p.val (d.val + 16) := by
  pointwise [val_main_v37, val_main_v34, val_main_v27, val_main_v16, val_main_v33, val_main_v23, val_main_v22, val_main_v36, val_main_v26, val_main_v35, val_main_v25, val_main_v24]
  rw [query_at, query_at, row_at]
  refine Eq.trans ?_ (rope_high (qrow x0 b p h) p.val (d.val + 16) (d.val) (by omega) (ang_congr _ (by omega) (by omega)))
  unfold cosAt sinAt
  congr 3 <;> (dsimp only; omega)

theorem query_third_at (b : Fin 2) (p : Fin 4096) (h : Fin 32) (d : Fin 16) : val_main_v55 (F := Ideal) x0 (ix4 b p h d)
    = rope (qrow x0 b p h) p.val (32 + d.val) := by
  pointwise [val_main_v55, val_main_v52, val_main_v49, val_main_v39, val_main_v51, val_main_v46, val_main_v45, val_main_v54, val_main_v50, val_main_v53, val_main_v48, val_main_v47]
  rw [query_at, query_at, col_at]
  refine Eq.trans ?_ (rope_low (qrow x0 b p h) p.val (32 + d.val) (32 + d.val) (by omega) (ang_congr _ (by omega) (by omega)))
  unfold cosAt sinAt
  congr 3 <;> (dsimp only; omega)

theorem query_fourth_at (b : Fin 2) (p : Fin 4096) (h : Fin 32) (d : Fin 16) : val_main_v60 (F := Ideal) x0 (ix4 b p h d)
    = rope (qrow x0 b p h) p.val (48 + d.val) := by
  pointwise [val_main_v60, val_main_v57, val_main_v50, val_main_v39, val_main_v56, val_main_v46, val_main_v45, val_main_v59, val_main_v49, val_main_v58, val_main_v48, val_main_v47]
  rw [query_at, query_at, col_at]
  refine Eq.trans ?_ (rope_high (qrow x0 b p h) p.val (48 + d.val) (32 + d.val) (by omega) (ang_congr _ (by omega) (by omega)))
  unfold cosAt sinAt
  congr 3 <;> (dsimp only; omega)

theorem query_pair (y z : FVec Ideal S2x4096x32x16 .f32) (b : Fin 2) (p : Fin 4096) (h : Fin 32) (d : Fin 32) :
    (concatenate S2x4096x32x32 3 [⟨S2x4096x32x16, y⟩, ⟨S2x4096x32x16, z⟩] concatenates_S2x4096x32x16_S2x4096x32x16_S2x4096x32x32_d3 : FVec Ideal S2x4096x32x32 .f32) (ix4 b p h d)
      = if hd : d.val < 16 then y (ix4 b p h ⟨d.val, hd⟩) else z (ix4 b p h ⟨d.val - 16, by omega⟩) := by
  pointwise

theorem query_halves (y z : FVec Ideal S2x4096x32x32 .f32) (b : Fin 2) (p : Fin 4096) (h : Fin 32) (d : Fin 64) :
    (concatenate S2x4096x32x64 3 [⟨S2x4096x32x32, y⟩, ⟨S2x4096x32x32, z⟩] concatenates_S2x4096x32x32_S2x4096x32x32_S2x4096x32x64_d3 : FVec Ideal S2x4096x32x64 .f32) (ix4 b p h d)
      = if hd : d.val < 32 then y (ix4 b p h ⟨d.val, hd⟩) else z (ix4 b p h ⟨d.val - 32, by omega⟩) := by
  pointwise

/-- The rotated row. -/
theorem query_rope_at (b : Fin 2) (p : Fin 4096) (h : Fin 32) (e : Fin 64) : val_main_v62 (F := Ideal) x0 (ix4 b p h e)
    = rope (qrow x0 b p h) p.val e.val := by
  unfold val_main_v62
  rw [query_halves]
  split
  · unfold val_main_v38
    rw [query_pair]
    split
    · rw [query_first_at]
    · rename_i h1 h2
      have h3 : ¬e.val < 16 := h2
      rw [query_second_at]; exact congrArg _ (by dsimp only; omega)
  · unfold val_main_v61
    rw [query_pair]
    split
    · rw [query_third_at]; exact congrArg _ (by dsimp only at *; omega)
    · rename_i h1 h2
      have h3 : ¬e.val - 32 < 16 := h2
      rw [query_fourth_at]; exact congrArg _ (by dsimp only; omega)

theorem key_first_at (b : Fin 2) (p : Fin 4096) (h : Fin 8) (d : Fin 16) : val_main_v95 (F := Ideal) x1 (ix4 b p h d)
    = rope (krow x1 b p h) p.val d.val := by
  pointwise [val_main_v95, val_main_v92, val_main_v89, val_main_v79, val_main_v91, val_main_v86, val_main_v85, val_main_v94, val_main_v90, val_main_v93, val_main_v88, val_main_v87]
  rw [key_at, key_at, key_row_at]
  refine Eq.trans ?_ (rope_low (krow x1 b p h) p.val d.val (d.val) (by omega) (ang_congr _ (by omega) (by omega)))
  unfold cosAt sinAt
  congr 3 <;> (dsimp only; omega)

theorem key_second_at (b : Fin 2) (p : Fin 4096) (h : Fin 8) (d : Fin 16) : val_main_v100 (F := Ideal) x1 (ix4 b p h d)
    = rope (krow x1 b p h) p.val (d.val + 16) := by
  pointwise [val_main_v100, val_main_v97, val_main_v90, val_main_v79, val_main_v96, val_main_v86, val_main_v85, val_main_v99, val_main_v89, val_main_v98, val_main_v88, val_main_v87]
  rw [key_at, key_at, key_row_at]
  refine Eq.trans ?_ (rope_high (krow x1 b p h) p.val (d.val + 16) (d.val) (by omega) (ang_congr _ (by omega) (by omega)))
  unfold cosAt sinAt
  congr 3 <;> (dsimp only; omega)

theorem key_third_at (b : Fin 2) (p : Fin 4096) (h : Fin 8) (d : Fin 16) : val_main_v118 (F := Ideal) x1 (ix4 b p h d)
    = rope (krow x1 b p h) p.val (32 + d.val) := by
  pointwise [val_main_v118, val_main_v115, val_main_v112, val_main_v102, val_main_v114, val_main_v109, val_main_v108, val_main_v117, val_main_v113, val_main_v116, val_main_v111, val_main_v110]
  rw [key_at, key_at, key_col_at]
  refine Eq.trans ?_ (rope_low (krow x1 b p h) p.val (32 + d.val) (32 + d.val) (by omega) (ang_congr _ (by omega) (by omega)))
  unfold cosAt sinAt
  congr 3 <;> (dsimp only; omega)

theorem key_fourth_at (b : Fin 2) (p : Fin 4096) (h : Fin 8) (d : Fin 16) : val_main_v123 (F := Ideal) x1 (ix4 b p h d)
    = rope (krow x1 b p h) p.val (48 + d.val) := by
  pointwise [val_main_v123, val_main_v120, val_main_v113, val_main_v102, val_main_v119, val_main_v109, val_main_v108, val_main_v122, val_main_v112, val_main_v121, val_main_v111, val_main_v110]
  rw [key_at, key_at, key_col_at]
  refine Eq.trans ?_ (rope_high (krow x1 b p h) p.val (48 + d.val) (32 + d.val) (by omega) (ang_congr _ (by omega) (by omega)))
  unfold cosAt sinAt
  congr 3 <;> (dsimp only; omega)

theorem key_pair (y z : FVec Ideal S2x4096x8x16 .f32) (b : Fin 2) (p : Fin 4096) (h : Fin 8) (d : Fin 32) :
    (concatenate S2x4096x8x32 3 [⟨S2x4096x8x16, y⟩, ⟨S2x4096x8x16, z⟩] concatenates_S2x4096x8x16_S2x4096x8x16_S2x4096x8x32_d3 : FVec Ideal S2x4096x8x32 .f32) (ix4 b p h d)
      = if hd : d.val < 16 then y (ix4 b p h ⟨d.val, hd⟩) else z (ix4 b p h ⟨d.val - 16, by omega⟩) := by
  pointwise

theorem key_halves (y z : FVec Ideal S2x4096x8x32 .f32) (b : Fin 2) (p : Fin 4096) (h : Fin 8) (d : Fin 64) :
    (concatenate S2x4096x8x64 3 [⟨S2x4096x8x32, y⟩, ⟨S2x4096x8x32, z⟩] concatenates_S2x4096x8x32_S2x4096x8x32_S2x4096x8x64_d3 : FVec Ideal S2x4096x8x64 .f32) (ix4 b p h d)
      = if hd : d.val < 32 then y (ix4 b p h ⟨d.val, hd⟩) else z (ix4 b p h ⟨d.val - 32, by omega⟩) := by
  pointwise

/-- The rotated row. -/
theorem key_rope_at (b : Fin 2) (p : Fin 4096) (h : Fin 8) (e : Fin 64) : val_main_v125 (F := Ideal) x1 (ix4 b p h e)
    = rope (krow x1 b p h) p.val e.val := by
  unfold val_main_v125
  rw [key_halves]
  split
  · unfold val_main_v101
    rw [key_pair]
    split
    · rw [key_first_at]
    · rename_i h1 h2
      have h3 : ¬e.val < 16 := h2
      rw [key_second_at]; exact congrArg _ (by dsimp only; omega)
  · unfold val_main_v124
    rw [key_pair]
    split
    · rw [key_third_at]; exact congrArg _ (by dsimp only at *; omega)
    · rename_i h1 h2
      have h3 : ¬e.val - 32 < 16 := h2
      rw [key_fourth_at]; exact congrArg _ (by dsimp only; omega)

end Cert.LatentReferenceIdeal.Read

end
-- ==== Proof.LatRefOut.lean ====
module

public import proofs.«01_k».proof.Proof.LatRef

@[expose] public section

set_option maxRecDepth 16384
noncomputable section
open Idealize.ShloMosaic Idealize.ShloMosaic.TcCoe Idealize.SL.Sem
namespace Cert.LatentReferenceIdeal.Read
open Cert.LatentReferenceIdeal Cert.LatentReferenceIdeal.Gen Cert.LatSpec

variable (x0 : FVec Ideal S16384x2048 .bf16) (x1 : FVec Ideal S16384x1024 .f32) (x2 x3 : FVec Ideal S2x1x512x8x64 .f32) (x4 : FVec Ideal S32 .f32)

/-- The rotated query of head `g` of key group `h`. -/
def Q (b : Fin 2) (h : Fin 8) (g : Fin 4) (p : Fin 4096) : Nat → EReal := rope (qrow x0 b p ⟨h.val * 4 + g.val, by omega⟩) p.val

/-- The rotated key at position `j`. -/
def K (b : Fin 2) (h : Fin 8) (j : Nat) : Nat → EReal := rope (krow x1 b ⟨j % 4096, by omega⟩ h) j

/-- The value at position `j`. -/
def V (b : Fin 2) (h : Fin 8) (d : Fin 64) (j : Nat) : EReal := x1 (ix2 ⟨8192 + (b.val * 4096 + j % 4096), by omega⟩ ⟨512 + (h.val * 64 + d.val), by omega⟩)

/-- A cached key, and a cached value. -/
def C (b : Fin 2) (h : Fin 8) (j : Nat) (e : Nat) : EReal := x2 (ix5 b 0 ⟨j % 512, by omega⟩ h ⟨e % 64, by omega⟩)
def W (b : Fin 2) (h : Fin 8) (d : Fin 64) (j : Nat) : EReal := x3 (ix5 b 0 ⟨j % 512, by omega⟩ h d)

def locals (b : Fin 2) (h : Fin 8) (g : Fin 4) (p : Fin 4096) (j : Nat) : EReal := score (Q x0 b h g p) (K x1 b h j)
def cached (b : Fin 2) (h : Fin 8) (g : Fin 4) (p : Fin 4096) (j : Nat) : EReal := score (Q x0 b h g p) (C x2 b h j)
def sinkOf (h : Fin 8) (g : Fin 4) : EReal := x4 (ix1 ⟨h.val * 4 + g.val, by omega⟩)

theorem local_at (b : Fin 2) (h : Fin 8) (g : Fin 4) (p j : Fin 4096) :
    val_main_v143 (F := Ideal) x0 x1 (ix5 b h g p j) = locals x0 x1 b h g p j.val := by
  unfold locals score
  pointwise [val_main_v143, val_main_v142, val_main_cst_3, val_main_v141, val_main_v140, val_main_v63]
  refine congrArg (· * _) (Finset.sum_congr rfl fun e _ => ?_)
  rw [key_rope_at, query_rope_at]
  unfold K Q
  simp only [Nat.mod_eq_of_lt j.isLt]

theorem cached_at (b : Fin 2) (h : Fin 8) (g : Fin 4) (p : Fin 4096) (j : Fin 512) :
    val_main_v148 (F := Ideal) x0 x2 (ix5 b h g p j) = cached x0 x2 b h g p j.val := by
  unfold cached score
  pointwise [val_main_v148, val_main_v147, val_main_cst_5, val_main_v146, val_main_v145, val_main_v63, val_main_v128]
  refine congrArg (· * _) (Finset.sum_congr rfl fun e _ => ?_)
  rw [query_rope_at]
  unfold C Q
  simp only [Nat.mod_eq_of_lt j.isLt, Nat.mod_eq_of_lt e.isLt]

theorem pick (q : Prop) [Decidable q] (a b : Elt Ideal .f32) : Scalar.select (if q then 1#1 else 0#1) a b = if q then a else b := by
  split <;> rfl

theorem masked_at (b : Fin 2) (h : Fin 8) (g : Fin 4) (p j : Fin 4096) :
    val_main_v144 (F := Ideal) x0 x1 (ix5 b h g p j) = masked (locals x0 x1 b h g p) p.val j.val := by
  unfold masked
  pointwise [val_main_v144, val_main_call0_v1, val_main_call0_v2, val_main_call0_v0, val_main_cst_4, val_main_v139, val_main_v137, val_main_v136, val_main_v134, val_main_v132, val_main_v131, val_main_v135, val_main_v133, val_main_v138, val_main_c]
  rw [local_at, near_word p.val j.val p.isLt j.isLt, pick]
  exact if_congr Iff.rfl rfl neg_inf

theorem cat3 (y : FVec Ideal S2x8x4x4096x4096 .f32) (z : FVec Ideal S2x8x4x4096x512 .f32) (w : FVec Ideal S2x8x4x4096x1 .f32)
    (b : Fin 2) (h : Fin 8) (g : Fin 4) (p : Fin 4096) (t : Fin 4609) :
    (concatenate S2x8x4x4096x4609 4 [⟨S2x8x4x4096x4096, y⟩, ⟨S2x8x4x4096x512, z⟩, ⟨S2x8x4x4096x1, w⟩] concatenates_S2x8x4x4096x4096_S2x8x4x4096x512_S2x8x4x4096x1_S2x8x4x4096x4609_d4 : FVec Ideal S2x8x4x4096x4609 .f32) (ix5 b h g p t)
      = if h1 : t.val < 4096 then y (ix5 b h g p ⟨t.val, h1⟩) else if h2 : t.val < 4608 then z (ix5 b h g p ⟨t.val - 4096, by omega⟩) else w (ix5 b h g p 0) := by
  pointwise
  by_cases h1 : t.val < 4096
  · rw [dif_pos h1, dif_pos h1]
  · rw [dif_neg h1, dif_neg h1]
    by_cases h2 : t.val < 4608
    · rw [dif_pos (show t.val - 4096 < 512 by omega), dif_pos h2]
    · rw [dif_neg (show ¬t.val - 4096 < 512 by omega), dif_neg h2]
      exact congrArg (fun k => w (ix5 b h g p k)) (Subsingleton.elim _ _)

/-- All scores of a query. -/
abbrev row (b : Fin 2) (h : Fin 8) (g : Fin 4) (p : Fin 4096) : Nat → EReal :=
  logit (sinkOf x4 h g) (locals x0 x1 b h g p) (cached x0 x2 b h g p) p.val

theorem logit_at (b : Fin 2) (h : Fin 8) (g : Fin 4) (p : Fin 4096) (t : Fin 4609) :
    val_main_v150 (F := Ideal) x0 x1 x2 x4 (ix5 b h g p t) = row x0 x1 x2 x4 b h g p t.val := by
  unfold val_main_v150 row logit
  rw [cat3]
  split_ifs
  · rw [masked_at]
  · rw [cached_at]
  · unfold sinkOf
    pointwise [val_main_v149, val_main_v130]

theorem rowmax (z : FVec Ideal S2x8x4x4096x4609 .f32) (v : FVec Ideal S_ .f32) (hv : ∀ i, v i = ⊥) (b : Fin 2) (h : Fin 8) (g : Fin 4) (p : Fin 4096) :
    Host.reduce FloatOps.maximumf z v reducesTo_S2x8x4x4096x4609_S2x8x4x4096_d4 h_S_ (ix4 b h g p) = Finset.univ.sup fun k : Fin 4609 => z (ix5 b h g p k) := by
  pointwise
  rw [hv]; rfl

theorem rowsum (z : FVec Ideal S2x8x4x4096x4609 .f32) (v : FVec Ideal S_ .f32) (hv : ∀ i, v i = 0) (b : Fin 2) (h : Fin 8) (g : Fin 4) (p : Fin 4096) :
    Host.reduceAdd z v reducesTo_S2x8x4x4096x4609_S2x8x4x4096_d4 h_S_ (ix4 b h g p) = ∑ k : Fin 4609, z (ix5 b h g p k) := by
  pointwise
  rw [hv, zero_add]

theorem spread (y : FVec Ideal S2x8x4x4096 .f32) (b : Fin 2) (h : Fin 8) (g : Fin 4) (p : Fin 4096) (t : Fin 4609) :
    (broadcastInDim S2x8x4x4096x4609 ![0, 1, 2, 3, 4] bcast_S2x8x4x4096x1_S2x8x4x4096x4609_0_1_2_3_4
      (broadcastInDim S2x8x4x4096x1 ![0, 1, 2, 3] bcast_S2x8x4x4096_S2x8x4x4096x1_0_1_2_3 y)) (ix5 b h g p t) = y (ix4 b h g p) := by
  pointwise

abbrev topOf (b : Fin 2) (h : Fin 8) (g : Fin 4) (p : Fin 4096) : EReal :=
  top (sinkOf x4 h g) (locals x0 x1 b h g p) (cached x0 x2 b h g p) p.val

abbrev denomOf (b : Fin 2) (h : Fin 8) (g : Fin 4) (p : Fin 4096) : EReal :=
  denom (sinkOf x4 h g) (locals x0 x1 b h g p) (cached x0 x2 b h g p) p.val

theorem top_at (b : Fin 2) (h : Fin 8) (g : Fin 4) (p : Fin 4096) : val_main_v153 (F := Ideal) x0 x1 x2 x4 (ix4 b h g p) = topOf x0 x1 x2 x4 b h g p := by
  have h1 : val_main_v151 (F := Ideal) x0 x1 x2 x4 (ix4 b h g p) = topOf x0 x1 x2 x4 b h g p := by
    unfold val_main_v151
    rw [rowmax _ (val_main_cst_6 (F := Ideal)) (fun i => by exact neg_inf)]
    refine Eq.trans ?_ (sup_logit _ _ _ _)
    exact congrArg (Finset.univ.sup) (funext fun k => logit_at x0 x1 x2 x4 b h g p k)
  have h2 : val_main_v152 (F := Ideal) (ix4 b h g p) = ⊥ := by
    rw [val_main_v152_apply]; exact neg_inf
  rw [val_main_v153_apply, h1, h2]; exact max_bot_left _

theorem weight_at (b : Fin 2) (h : Fin 8) (g : Fin 4) (p : Fin 4096) (t : Fin 4609) :
    val_main_v157 (F := Ideal) x0 x1 x2 x4 (ix5 b h g p t) = Ideal.exp (row x0 x1 x2 x4 b h g p t.val - topOf x0 x1 x2 x4 b h g p) := by
  rw [val_main_v157_apply, val_main_v156_apply, logit_at]
  unfold val_main_v155 val_main_v154
  rw [spread, top_at]
  rfl

theorem denom_at (b : Fin 2) (h : Fin 8) (g : Fin 4) (p : Fin 4096) : val_main_v158 (F := Ideal) x0 x1 x2 x4 (ix4 b h g p) = denomOf x0 x1 x2 x4 b h g p := by
  unfold val_main_v158
  rw [rowsum _ (val_main_cst_8 (F := Ideal)) (fun i => by exact Ideal.ofBits_zero_f32)]
  refine Eq.trans (Finset.sum_congr rfl fun k _ => weight_at x0 x1 x2 x4 b h g p k) ?_
  exact sum_logit _ _ _ _ (fun y => Ideal.exp (y - topOf x0 x1 x2 x4 b h g p))

theorem share_at (b : Fin 2) (h : Fin 8) (g : Fin 4) (p : Fin 4096) (t : Fin 4609) :
    val_main_v161 (F := Ideal) x0 x1 x2 x4 (ix5 b h g p t)
      = Ideal.div (Ideal.exp (row x0 x1 x2 x4 b h g p t.val - topOf x0 x1 x2 x4 b h g p)) (denomOf x0 x1 x2 x4 b h g p) := by
  rw [val_main_v161_apply, weight_at]
  unfold val_main_v160 val_main_v159
  rw [spread, denom_at]
  rfl

theorem product1 (x : FVec Ideal S2x4096x8x64 .f32) (w : FVec Ideal S2x8x4x4096x4609 .f32) (b : Fin 2) (h : Fin 8) (g : Fin 4) (p : Fin 4096) (d : Fin 64) :
    Host.dotGeneral dot_S2x4096x8x64_S2x8x4x4096x4096_S2x8x64x4x4096_1_4_3_23_02_01 none x
        (extractStridedSlice S2x8x4x4096x4096 ![0, 0, 0, 0, 0] w slices_S2x8x4x4096x4609_S2x8x4x4096x4096_0_0_0_0_0) (ix5 b h d g p)
      = ∑ j : Fin 4096, x (ix4 b j h d) * w (ix5 b h g p ⟨j.val, by omega⟩) := by
  pointwise

theorem product2 (x : FVec Ideal S2x512x8x64 .f32) (w : FVec Ideal S2x8x4x4096x4609 .f32) (b : Fin 2) (h : Fin 8) (g : Fin 4) (p : Fin 4096) (d : Fin 64) :
    Host.dotGeneral dot_S2x512x8x64_S2x8x4x4096x512_S2x8x64x4x4096_1_4_3_23_02_01 none x
        (extractStridedSlice S2x8x4x4096x512 ![0, 0, 0, 0, 4096] w slices_S2x8x4x4096x4609_S2x8x4x4096x512_0_0_0_0_4096) (ix5 b h d g p)
      = ∑ j : Fin 512, x (ix4 b j h d) * w (ix5 b h g p ⟨4096 + j.val, by omega⟩) := by
  pointwise

theorem value_at (b : Fin 2) (j : Fin 4096) (h : Fin 8) (d : Fin 64) : val_main_v127 (F := Ideal) x1 (ix4 b j h d) = V x1 b h d j.val := by
  unfold V
  pointwise [val_main_v127, val_main_v126]
  exact at2 x1 (by have := Nat.mod_eq_of_lt j.isLt; omega) (by omega)

theorem cached_value_at (b : Fin 2) (j : Fin 512) (h : Fin 8) (d : Fin 64) : val_main_v129 (F := Ideal) x3 (ix4 b j h d) = W x3 b h d j.val := by
  unfold W
  pointwise [val_main_v129]
  simp only [Nat.mod_eq_of_lt j.isLt]

/-- The attention of one query. -/
abbrev outOf (b : Fin 2) (h : Fin 8) (g : Fin 4) (p : Fin 4096) (d : Fin 64) : EReal :=
  out (sinkOf x4 h g) (locals x0 x1 b h g p) (cached x0 x2 b h g p) p.val (V x1 b h d) (W x3 b h d)

theorem out_at (b : Fin 2) (h : Fin 8) (g : Fin 4) (p : Fin 4096) (d : Fin 64) :
    val_main_v163 (F := Ideal) x0 x1 x2 x4 (ix5 b h d g p) + val_main_v166 (F := Ideal) x0 x1 x2 x3 x4 (ix5 b h d g p) = outOf x0 x1 x2 x3 x4 b h g p d := by
  unfold val_main_v163 val_main_v162 val_main_v166 val_main_v165
  rw [product1, product2]
  unfold outOf out
  refine congrArg₂ _ (Finset.sum_congr rfl fun j _ => ?_) (Finset.sum_congr rfl fun j _ => ?_)
  · rw [value_at, share_at]
    unfold row logit
    rw [if_pos j.isLt]
  · rw [cached_value_at, share_at]
    unfold row logit
    rw [if_neg (by dsimp only; omega), if_pos (by dsimp only; omega)]
    dsimp only
    rw [Nat.add_sub_cancel_left]

theorem rows (y z : FVec Ideal S2x8x64x4x4096 .f32) (i : Fin 8192) (j : Fin 2048) :
    (shapeCast S8192x2048 (addf (transpose S2x4096x8x4x64 [0, 4, 1, 3, 2] y transposes_S2x8x64x4x4096_S2x4096x8x4x64_0_4_1_3_2)
        (transpose S2x4096x8x4x64 [0, 4, 1, 3, 2] z transposes_S2x8x64x4x4096_S2x4096x8x4x64_0_4_1_3_2)) shapeCasts_S2x4096x8x4x64_S8192x2048 : FVec Ideal S8192x2048 .f32) (ix2 i j)
      = y (ix5 ⟨i.val / 4096, by omega⟩ ⟨j.val / 256, by omega⟩ ⟨j.val % 64, by omega⟩ ⟨j.val / 64 % 4, by omega⟩ ⟨i.val % 4096, by omega⟩)
        + z (ix5 ⟨i.val / 4096, by omega⟩ ⟨j.val / 256, by omega⟩ ⟨j.val % 64, by omega⟩ ⟨j.val / 64 % 4, by omega⟩ ⟨i.val % 4096, by omega⟩) := by
  pointwise

theorem joined (y z : FVec Ideal S8192x2048 .bf16) (i : Fin 16384) (j : Fin 2048) :
    (concatenate S16384x2048 0 [⟨S8192x2048, y⟩, ⟨S8192x2048, z⟩] concatenates_S8192x2048_S8192x2048_S16384x2048_d0 : FVec Ideal S16384x2048 .bf16) (ix2 i j)
      = if hi : i.val < 8192 then y (ix2 ⟨i.val, hi⟩ j) else z (ix2 ⟨i.val - 8192, by omega⟩ j) := by
  pointwise

/-- The reference's result, entry by entry: the filled array's own rows above, the attention below. -/
theorem result_at (x5 : FVec Ideal S16384x2048 .bf16) (i : Fin 16384) (j : Fin 2048) :
    val_main_v172 (F := Ideal) x0 x1 x2 x3 x4 x5 (ix2 i j)
      = if i.val < 8192 then x5 (ix2 i j)
        else outOf x0 x1 x2 x3 x4 ⟨(i.val - 8192) / 4096, by omega⟩ ⟨j.val / 256, by omega⟩ ⟨j.val / 64 % 4, by omega⟩ ⟨(i.val - 8192) % 4096, by omega⟩ ⟨j.val % 64, by omega⟩ := by
  unfold val_main_v172
  rw [joined]
  split
  · pointwise [val_main_v169]
  · rw [val_main_v171_apply]
    unfold val_main_v170 val_main_v168 val_main_v164 val_main_v167
    rw [rows, out_at]
    rfl

end Cert.LatentReferenceIdeal.Read

end
-- ==== Proof.LatFinal.lean ====
module

public import proofs.«01_k».proof.Proof.LatRows
public import proofs.«01_k».proof.Proof.LatTable
public import proofs.«01_k».proof.Proof.LatRefOut
public import Idealize.ShloMosaic.Lib.Pipeline.ReadBack

@[expose] public section

set_option maxRecDepth 16384
noncomputable section
open Idealize.ShloMosaic Idealize.ShloMosaic.TcCoe Idealize.SL.Sem
namespace Cert.LatentIdeal.Final
open Cert.LatentIdeal Cert.LatentIdeal.Gen Cert.LatentIdeal.Body Cert.LatentIdeal.Lat Cert.LatSpec
open Cert.LatentReferenceIdeal.Read (qrow krow)
variable (m : (ℓ : Loc nD τ sig) → Buf (Elt Ideal) ℓ)

/-! ## What one grid point stores, in terms of its blocks and the scratch -/

theorem whole (v90 v167 : FVec Ideal S512x384 .f32) (v92 v169 : FVec Ideal S512x512 .f32) (v122 : FVec Ideal S512x1 .f32) (v123 v200 : FVec Ideal S384x64 .bf16) (v124 v201 : FVec Ideal S512x64 .bf16) (a b c d : Elt Ideal .f32) :
    k0_pay1 (k0_pay23 v90 v92 v122 v123 v124) (k0_pay24 v90 v92 v122 v123 v124) (k0_pay25 v90 v92 v122 v123 v124) (k0_pay26 v90 v92 v122 v123 v124)
        v169 v200 v201 (k0_pay32 v167 v169 d c b a) (k0_pay34 v167 v169 d c b a) (k0_pay35 v167 v169 d c b a)
      = beside (attend v90 v92 v122 v123 v124) (attend v167 v169 (k0_pay20 d c b a) v200 v201) := rfl

abbrev window (i : grid0.Coords) (s : FVec Ideal S4096x128 .bf16) : FVec Ideal S384x128 .bf16 :=
  View.ld (Val := Elt Ideal) (e' := .bf16) s (Rect.unit (s := S4096x128) (k0_off1 i) ![384, 128] (k0_off1_inb i))
abbrev left (s : FVec Ideal S512x128 .bf16) : FVec Ideal S512x64 .bf16 := View.ld (Val := Elt Ideal) (e' := .bf16) s (Rect.unit ![0, 0] ![512, 64] inb_S512x128_S512x64_0_0)
abbrev right (s : FVec Ideal S512x128 .bf16) : FVec Ideal S512x64 .bf16 := View.ld (Val := Elt Ideal) (e' := .bf16) s (Rect.unit ![0, 64] ![512, 64] inb_S512x128_S512x64_0_64)

abbrev swAt (s : FVec Ideal S32 .f32) (off : Fin 1 → Nat) (inb : ∀ a, off a + S1.size a ≤ S32.size a) : Elt Ideal .f32 :=
  View.ld (Val := Elt Ideal) (e' := .f32) s (Rect.unit (s := S32) off ![1] inb) (Shape.Idx.first (s := S1) (by decide))

abbrev seen (i : grid0.Coords) : IVec S512x384 1 := k0_pay14 (BitVec.ofNat 32 (i 2).val) (startWord (BitVec.ofNat 32 (i 2).val))

/-- The block of outputs from the rotated queries, the sinks and the scratch. -/
def outBlock (i : grid0.Coords) (x : FVec Ideal S128x512 .f32) (z : FVec Ideal S32 .f32) (s : Scr Ideal) : FVec Ideal S128x512 .bf16 :=
  beside
    (attend (k0_pay18 x (window i s.1) (seen i) (sl0 x) (sl1 x)) (k0_pay19 x (sl0 x) (sl1 x) (left s.2.2.1)) (k0_pay20 (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0))) (k0_pay21 (window i s.2.1)) (left s.2.2.2))
    (attend (k0_pay28 x (window i s.1) (seen i)) (k0_pay29 x (right s.2.2.1)) (k0_pay20 (swAt z (k0_off2 i 1#32) (k0_off2_inb i 1)) (swAt z (k0_off3 i 1#32 2#32) (k0_off3_inb i 1 2)) (swAt z (k0_off3 i 1#32 1#32) (k0_off3_inb i 1 1)) (swAt z (k0_off3 i 1#32 0#32) (k0_off3_inb i 1 0))) (k0_pay31 (window i s.2.1)) (right s.2.2.2))

/-- The rotated queries of a grid point. -/
abbrev qs (c : Dev nD) (t : Fin cfg0.N) : FVec Ideal S128x512 .f32 := queries (extf .f32 (iblk m c 1 t : FVec Ideal S128x512 .bf16) bitsLt_bf16_f32) (iblk m c 6 t) (iblk m c 7 t)

/-- What the first point of a (batch, head pair) leaves in scratch. -/
abbrev fresh (c : Dev nD) (t : Fin cfg0.N) : Scr Ideal :=
  (k0_pay2 (iblk m c 2 t) (iblk m c 8 t) (iblk m c 9 t), k0_pay4 (k0_pay3 (iblk m c 3 t)), k0_pay5 (iblk m c 4 t), k0_pay6 (iblk m c 5 t))

theorem scratchA (c : Dev nD) (t : Fin cfg0.N) (h0 : t.val % 32 = 0) : (leftA m c t h0).2 = fresh m c t := by
  unfold leftA runA
  refine Prod.ext ?_ (Prod.ext ?_ (Prod.ext ?_ ?_))
  all_goals
    funext y
    dsimp only
    frame_out

theorem firstCut (q : FVec Ideal S128x512 .bf16) (c s : FVec Ideal S128x128 .f32) :
    k0_pay15 (k0_pay7 (F := Ideal) q) (k0_pay8 c) (k0_pay9 s) k0_pay10 (k0_pay11 q) (k0_pay12 q) 16#32 = sl0 (queries (extf .f32 q bitsLt_bf16_f32) c s) :=
  Eq.trans rfl (congrArg sl0 (queries_eq q c s))
theorem secondCut (q : FVec Ideal S128x512 .bf16) (c s : FVec Ideal S128x128 .f32) :
    k0_pay16 (k0_pay7 (F := Ideal) q) (k0_pay8 c) (k0_pay9 s) k0_pay10 (k0_pay11 q) (k0_pay12 q) 16#32 = sl1 (queries (extf .f32 q bitsLt_bf16_f32) c s) :=
  Eq.trans rfl (congrArg sl1 (queries_eq q c s))

/-- The stored block's expression as the body computes it. -/
abbrev expr (i : grid0.Coords) (q : FVec Ideal S128x512 .bf16) (cq sq : FVec Ideal S128x128 .f32) (z : FVec Ideal S32 .f32) (s : Scr Ideal) : FVec Ideal S128x512 .bf16 :=
  k0_pay1 (k0_pay23 (k0_pay18 (k0_pay13 (k0_pay7 q) (k0_pay8 cq) (k0_pay9 sq) k0_pay10 (k0_pay11 q) (k0_pay12 q) 16#32) (window i s.1) (seen i) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32)) (k0_pay19 (k0_pay13 (k0_pay7 q) (k0_pay8 cq) (k0_pay9 sq) k0_pay10 (k0_pay11 q) (k0_pay12 q) 16#32) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32) (left s.2.2.1)) (k0_pay20 (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0))) (k0_pay21 (window i s.2.1)) (left s.2.2.2)) (k0_pay24 (k0_pay18 (k0_pay13 (k0_pay7 q) (k0_pay8 cq) (k0_pay9 sq) k0_pay10 (k0_pay11 q) (k0_pay12 q) 16#32) (window i s.1) (seen i) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32)) (k0_pay19 (k0_pay13 (k0_pay7 q) (k0_pay8 cq) (k0_pay9 sq) k0_pay10 (k0_pay11 q) (k0_pay12 q) 16#32) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32) (left s.2.2.1)) (k0_pay20 (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0))) (k0_pay21 (window i s.2.1)) (left s.2.2.2)) (k0_pay25 (k0_pay18 (k0_pay13 (k0_pay7 q) (k0_pay8 cq) (k0_pay9 sq) k0_pay10 (k0_pay11 q) (k0_pay12 q) 16#32) (window i s.1) (seen i) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32)) (k0_pay19 (k0_pay13 (k0_pay7 q) (k0_pay8 cq) (k0_pay9 sq) k0_pay10 (k0_pay11 q) (k0_pay12 q) 16#32) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32) (left s.2.2.1)) (k0_pay20 (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0))) (k0_pay21 (window i s.2.1)) (left s.2.2.2)) (k0_pay26 (k0_pay18 (k0_pay13 (k0_pay7 q) (k0_pay8 cq) (k0_pay9 sq) k0_pay10 (k0_pay11 q) (k0_pay12 q) 16#32) (window i s.1) (seen i) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32)) (k0_pay19 (k0_pay13 (k0_pay7 q) (k0_pay8 cq) (k0_pay9 sq) k0_pay10 (k0_pay11 q) (k0_pay12 q) 16#32) (k0_pay15 (k0_pay7 q) (k0_pay8 cq) (k0_pay9 sq) k0_pay10 (k0_pay11 q) (k0_pay12 q) 16#32) (k0_pay16 (k0_pay7 q) (k0_pay8 cq) (k0_pay9 sq) k0_pay10 (k0_pay11 q) (k0_pay12 q) 16#32) (left s.2.2.1)) (k0_pay20 (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0))) (k0_pay21 (window i s.2.1)) (left s.2.2.2)) (k0_pay29 (k0_pay13 (k0_pay7 q) (k0_pay8 cq) (k0_pay9 sq) k0_pay10 (k0_pay11 q) (k0_pay12 q) 16#32) (right s.2.2.1)) (k0_pay31 (window i s.2.1)) (right s.2.2.2) (k0_pay32 (k0_pay28 (k0_pay13 (k0_pay7 q) (k0_pay8 cq) (k0_pay9 sq) k0_pay10 (k0_pay11 q) (k0_pay12 q) 16#32) (window i s.1) (seen i)) (k0_pay29 (k0_pay13 (k0_pay7 q) (k0_pay8 cq) (k0_pay9 sq) k0_pay10 (k0_pay11 q) (k0_pay12 q) 16#32) (right s.2.2.1)) (swAt z (k0_off2 i 1#32) (k0_off2_inb i 1)) (swAt z (k0_off3 i 1#32 2#32) (k0_off3_inb i 1 2)) (swAt z (k0_off3 i 1#32 1#32) (k0_off3_inb i 1 1)) (swAt z (k0_off3 i 1#32 0#32) (k0_off3_inb i 1 0))) (k0_pay34 (k0_pay28 (k0_pay13 (k0_pay7 q) (k0_pay8 cq) (k0_pay9 sq) k0_pay10 (k0_pay11 q) (k0_pay12 q) 16#32) (window i s.1) (seen i)) (k0_pay29 (k0_pay13 (k0_pay7 q) (k0_pay8 cq) (k0_pay9 sq) k0_pay10 (k0_pay11 q) (k0_pay12 q) 16#32) (right s.2.2.1)) (swAt z (k0_off2 i 1#32) (k0_off2_inb i 1)) (swAt z (k0_off3 i 1#32 2#32) (k0_off3_inb i 1 2)) (swAt z (k0_off3 i 1#32 1#32) (k0_off3_inb i 1 1)) (swAt z (k0_off3 i 1#32 0#32) (k0_off3_inb i 1 0))) (k0_pay35 (k0_pay28 (k0_pay13 (k0_pay7 q) (k0_pay8 cq) (k0_pay9 sq) k0_pay10 (k0_pay11 q) (k0_pay12 q) 16#32) (window i s.1) (seen i)) (k0_pay29 (k0_pay13 (k0_pay7 q) (k0_pay8 cq) (k0_pay9 sq) k0_pay10 (k0_pay11 q) (k0_pay12 q) 16#32) (right s.2.2.1)) (swAt z (k0_off2 i 1#32) (k0_off2_inb i 1)) (swAt z (k0_off3 i 1#32 2#32) (k0_off3_inb i 1 2)) (swAt z (k0_off3 i 1#32 1#32) (k0_off3_inb i 1 1)) (swAt z (k0_off3 i 1#32 0#32) (k0_off3_inb i 1 0)))

theorem assemble (i : grid0.Coords) (q : FVec Ideal S128x512 .bf16) (cq sq : FVec Ideal S128x128 .f32) (z : FVec Ideal S32 .f32) (s : Scr Ideal) :
    expr i q cq sq z s = outBlock i (queries (extf .f32 q bitsLt_bf16_f32) cq sq) z s := by
  unfold expr outBlock
  rw [firstCut, secondCut, queries_eq]
  exact whole _ _ _ _ _ _ _ _ _ _ _ _ _

theorem kept0 (h : (Memref.whole cc0_scratch0 : Memref sig .tc .vmem S4096x128 .bf16).IsWhole) (X : FVec Ideal S4096x128 .bf16) :
    View.read (Elt Ideal) (View.whole cc0_scratch0 : View sig .tc .vmem S4096x128 .bf16) (h.unread X) = X := read_unread_whole (Val := Elt Ideal) cc0_scratch0 h X
theorem kept1 (h : (Memref.whole cc0_scratch1 : Memref sig .tc .vmem S4096x128 .bf16).IsWhole) (X : FVec Ideal S4096x128 .bf16) :
    View.read (Elt Ideal) (View.whole cc0_scratch1 : View sig .tc .vmem S4096x128 .bf16) (h.unread X) = X := read_unread_whole (Val := Elt Ideal) cc0_scratch1 h X
theorem kept2 (h : (Memref.whole cc0_scratch2 : Memref sig .tc .vmem S512x128 .bf16).IsWhole) (X : FVec Ideal S512x128 .bf16) :
    View.read (Elt Ideal) (View.whole cc0_scratch2 : View sig .tc .vmem S512x128 .bf16) (h.unread X) = X := read_unread_whole (Val := Elt Ideal) cc0_scratch2 h X
theorem kept3 (h : (Memref.whole cc0_scratch3 : Memref sig .tc .vmem S512x128 .bf16).IsWhole) (X : FVec Ideal S512x128 .bf16) :
    View.read (Elt Ideal) (View.whole cc0_scratch3 : View sig .tc .vmem S512x128 .bf16) (h.unread X) = X := read_unread_whole (Val := Elt Ideal) cc0_scratch3 h X

set_option maxHeartbeats 100000 in
theorem storedB (c : Dev nD) (t : Fin cfg0.N) (h0 : ¬t.val % 32 = 0) (s : Scr Ideal) : (leftB m c t h0 s).1 = outBlock (grid0.coords t) (qs m c t) (iblk m c 0 t) s := by
  rw [← assemble]
  unfold leftB runB; funext y; dsimp only; frame_out
  simp only [kept0, kept1, kept2, kept3]

theorem back {w : FVec Ideal S512x128 .bf16} (v : View sig .tc .vmem S512x128 .bf16) (r : Rect S512x128) :
    v.readCov (Val := Elt Ideal) [⟨Rect.unit ![0, 0] ![512, 128] inb_S512x128_S512x128_0_0, w⟩] r.toLoadRect = View.ld (Val := Elt Ideal) (e' := .bf16) w r := by
  rw [View.readCov_eq_canon']
  funext j
  exact congrFun (View.canon_cons_unit_lit (Val := Elt Ideal) (e := .bf16) inb_S512x128_S512x128_0_0 w [] (by decide)) (r.idx j)

set_option maxHeartbeats 100000 in
theorem storedA (c : Dev nD) (t : Fin cfg0.N) (h0 : t.val % 32 = 0) : (leftA m c t h0).1 = outBlock (grid0.coords t) (qs m c t) (iblk m c 0 t) (fresh m c t) := by
  rw [← assemble]
  unfold leftA runA; funext y; dsimp only; frame_out
  simp only [back]

end Cert.LatentIdeal.Final

end
-- ==== Proof.LatBlocks.lean ====
module

public import proofs.«01_k».proof.Proof.LatFinal

@[expose] public section

set_option maxRecDepth 16384
noncomputable section
open Idealize.ShloMosaic Idealize.ShloMosaic.TcCoe Idealize.SL.Sem
namespace Cert.LatentIdeal.Final
open Cert.LatentIdeal Cert.LatentIdeal.Gen Cert.LatentIdeal.Body Cert.LatentIdeal.Lat Cert.LatSpec
open Cert.LatentReferenceIdeal.Read (qrow krow)
variable (m : (ℓ : Loc nD τ sig) → Buf (Elt Ideal) ℓ)

theorem idx : ∀ t : Fin cfg0.N, win0_0.index t = ![0] ∧ win0_1.index t = ![64 + t.val / 128 * 32 + t.val % 32, t.val / 32 % 4]
    ∧ win0_2.index t = ![2 + t.val / 128, t.val / 32 % 4] ∧ win0_3.index t = ![2 + t.val / 128, 4 + t.val / 32 % 4]
    ∧ win0_4.index t = ![t.val / 128, 0, t.val / 32 % 4] ∧ win0_5.index t = ![t.val / 128, 0, t.val / 32 % 4]
    ∧ win0_6.index t = ![t.val % 32, 0] ∧ win0_7.index t = ![t.val % 32, 0] ∧ win0_8.index t = ![0, 0] ∧ win0_9.index t = ![0, 0]
    ∧ win0_10.index t = ![64 + t.val / 128 * 32 + t.val % 32, t.val / 32 % 4] ∧ (grid0.coords t 1).val = t.val / 32 % 4 ∧ (grid0.coords t 2).val = t.val % 32 ∧ t.val / 128 < 2 :=
  (by decide +kernel : ∀ t : Fin grid0.N, _)

theorem off2_eq : ∀ (i : grid0.Coords), k0_off2 i 0#32 = ![((i 1).val * 2) * 4 + 3] ∧ k0_off2 i 1#32 = ![((i 1).val * 2 + 1) * 4 + 3] := by decide +kernel
theorem off3_eq : ∀ (i : grid0.Coords), k0_off3 i 0#32 0#32 = ![((i 1).val * 2) * 4] ∧ k0_off3 i 0#32 1#32 = ![((i 1).val * 2) * 4 + 1] ∧ k0_off3 i 0#32 2#32 = ![((i 1).val * 2) * 4 + 2]
    ∧ k0_off3 i 1#32 0#32 = ![((i 1).val * 2 + 1) * 4] ∧ k0_off3 i 1#32 1#32 = ![((i 1).val * 2 + 1) * 4 + 1] ∧ k0_off3 i 1#32 2#32 = ![((i 1).val * 2 + 1) * 4 + 2] := by decide +kernel

/-! ## The launched arrays -/
abbrev XQ (c : Dev nD) : FVec Ideal S16384x2048 .bf16 := m ((c : Thread nD τ).loc main_arg0)
abbrev XK (c : Dev nD) : FVec Ideal S16384x1024 .f32 := m ((c : Thread nD τ).loc main_arg1)
abbrev CK (c : Dev nD) : FVec Ideal S2x1x512x8x64 .f32 := m ((c : Thread nD τ).loc main_arg2)
abbrev CV (c : Dev nD) : FVec Ideal S2x1x512x8x64 .f32 := m ((c : Thread nD τ).loc main_arg3)
abbrev SK (c : Dev nD) : FVec Ideal S32 .f32 := m ((c : Thread nD τ).loc main_arg4)

abbrev seqOf (t : Fin cfg0.N) : Fin 2 := ⟨t.val / 128, (idx t).2.2.2.2.2.2.2.2.2.2.2.2.2⟩

/-! ## Each block is its rows and columns of its array -/

theorem b0_at (c : Dev nD) (t : Fin cfg0.N) (j : Fin 32) : (iblk m c 0 t : FVec Ideal S32 .f32) (ix1 j) = SK m c (ix1 j) := by
  refine Eq.trans ?_ (congrFun (Table.V_sink m c) _)
  unfold iblk
  generalize V m c main_arg4 = v
  blk_point [idx t]
theorem b1_at (c : Dev nD) (t : Fin cfg0.N) (r : Fin 128) (k : Fin 512) :
    (iblk m c 1 t : FVec Ideal S128x512 .bf16) (ix2 r k) = XQ m c (ix2 ⟨8192 + ((seqOf t).val * 4096 + (128 * (t.val % 32) + r.val)), by omega⟩ ⟨t.val / 32 % 4 * 512 + k.val, by omega⟩) := by
  refine Eq.trans ?_ (congrFun (Table.V_q m c) _)
  unfold iblk
  generalize V m c main_arg0 = v
  blk_point [idx t]
theorem b2_at (c : Dev nD) (t : Fin cfg0.N) (j : Fin 4096) (l : Fin 128) :
    (iblk m c 2 t : FVec Ideal S4096x128 .f32) (ix2 j l) = XK m c (ix2 ⟨8192 + ((seqOf t).val * 4096 + j.val), by omega⟩ ⟨t.val / 32 % 4 * 128 + l.val, by omega⟩) := by
  refine Eq.trans ?_ (congrFun (Table.V_kv m c) _)
  unfold iblk
  generalize V m c main_arg1 = v
  blk_point [idx t]
theorem b3_at (c : Dev nD) (t : Fin cfg0.N) (j : Fin 4096) (l : Fin 128) :
    (iblk m c 3 t : FVec Ideal S4096x128 .f32) (ix2 j l) = XK m c (ix2 ⟨8192 + ((seqOf t).val * 4096 + j.val), by omega⟩ ⟨512 + (t.val / 32 % 4 * 128 + l.val), by omega⟩) := by
  refine Eq.trans ?_ (congrFun (Table.V_kv m c) _)
  unfold iblk
  generalize V m c main_arg1 = v
  blk_point [idx t]
theorem b4_at (c : Dev nD) (t : Fin cfg0.N) (j : Fin 512) (l : Fin 128) :
    (iblk m c 4 t : FVec Ideal S1x512x128 .f32) (ix3 0 j l) = CK m c (ix5 (seqOf t) 0 j ⟨(t.val / 32 % 4 * 128 + l.val) / 64, by omega⟩ ⟨(t.val / 32 % 4 * 128 + l.val) % 64, by omega⟩) := by
  refine Eq.trans ?_ ((congrFun (Table.V_keys m c) _).trans (Table.flat_at (CK m c) (seqOf t) j ⟨t.val / 32 % 4 * 128 + l.val, by omega⟩))
  unfold iblk
  generalize V m c main_v1 = v
  blk_point [idx t]
theorem b5_at (c : Dev nD) (t : Fin cfg0.N) (j : Fin 512) (l : Fin 128) :
    (iblk m c 5 t : FVec Ideal S1x512x128 .f32) (ix3 0 j l) = CV m c (ix5 (seqOf t) 0 j ⟨(t.val / 32 % 4 * 128 + l.val) / 64, by omega⟩ ⟨(t.val / 32 % 4 * 128 + l.val) % 64, by omega⟩) := by
  refine Eq.trans ?_ ((congrFun (Table.V_values m c) _).trans (Table.flat_at (CV m c) (seqOf t) j ⟨t.val / 32 % 4 * 128 + l.val, by omega⟩))
  unfold iblk
  generalize V m c main_v3 = v
  blk_point [idx t]
theorem b6_at (c : Dev nD) (t : Fin cfg0.N) (r l : Fin 128) :
    (iblk m c 6 t : FVec Ideal S128x128 .f32) (ix2 r l) = cosAt (128 * (t.val % 32) + r.val) (l.val % 64) := by
  refine Eq.trans ?_ ((congrFun (Table.V_cos m c) _).trans (Table.cosTable_at ⟨128 * (t.val % 32) + r.val, by omega⟩ l))
  unfold iblk
  generalize V m c main_v38 = v
  blk_point [idx t]
theorem b7_at (c : Dev nD) (t : Fin cfg0.N) (r l : Fin 128) :
    (iblk m c 7 t : FVec Ideal S128x128 .f32) (ix2 r l) = signedSin (128 * (t.val % 32) + r.val) (l.val % 64) := by
  refine Eq.trans ?_ ((congrFun (Table.V_sin m c) _).trans (Table.sinTable_at ⟨128 * (t.val % 32) + r.val, by omega⟩ l))
  unfold iblk
  generalize V m c main_v45 = v
  blk_point [idx t]
theorem b8_at (c : Dev nD) (t : Fin cfg0.N) (j : Fin 4096) (l : Fin 128) :
    (iblk m c 8 t : FVec Ideal S4096x128 .f32) (ix2 j l) = cosAt j.val (l.val % 64) := by
  refine Eq.trans ?_ ((congrFun (Table.V_cos m c) _).trans (Table.cosTable_at j l))
  unfold iblk
  generalize V m c main_v38 = v
  blk_point [idx t]
theorem b9_at (c : Dev nD) (t : Fin cfg0.N) (j : Fin 4096) (l : Fin 128) :
    (iblk m c 9 t : FVec Ideal S4096x128 .f32) (ix2 j l) = signedSin j.val (l.val % 64) := by
  refine Eq.trans ?_ ((congrFun (Table.V_sin m c) _).trans (Table.sinTable_at j l))
  unfold iblk
  generalize V m c main_v45 = v
  blk_point [idx t]

theorem swAt_at (z : FVec Ideal S32 .f32) (off : Fin 1 → Nat) (inb : ∀ a, off a + S1.size a ≤ S32.size a) (n : Nat) (hn : n < 32) (h : off = ![n]) : swAt z off inb = z (ix1 ⟨n, hn⟩) := by
  subst h
  refine View.ld_unit_apply_of (Val := Elt Ideal) (e := .f32) z _ _ _ _ _ fun a => ?_
  match a with
  | ⟨0, _⟩ => rfl

theorem window_at (i : grid0.Coords) (s : FVec Ideal S4096x128 .bf16) (l : Fin 384) (e : Fin 128) :
    window i s (ix2 l e) = s (ix2 ⟨start (i 2).val + l.val, by unfold start; omega⟩ e) := by
  have h := off1_eq i
  refine View.ld_unit_apply_of (Val := Elt Ideal) (e := .bf16) s _ _ _ _ _ fun a => ?_
  match a with
  | ⟨0, _⟩ => exact congrArg (· + l.val) (congrFun h 0).symm
  | ⟨1, _⟩ => exact (Nat.zero_add _).symm.trans (congrArg (· + e.val) (congrFun h 1).symm)

theorem left_at (s : FVec Ideal S512x128 .bf16) (j : Fin 512) (e : Fin 64) : left s (ix2 j e) = s (ix2 j ⟨e.val, by omega⟩) := by
  refine View.ld_unit_apply_of (Val := Elt Ideal) (e := .bf16) s _ _ _ _ _ fun a => ?_
  match a with
  | ⟨0, _⟩ => exact (Nat.zero_add _).symm
  | ⟨1, _⟩ => exact (Nat.zero_add _).symm

theorem right_at (s : FVec Ideal S512x128 .bf16) (j : Fin 512) (e : Fin 64) : right s (ix2 j e) = s (ix2 j ⟨64 + e.val, by omega⟩) := by
  refine View.ld_unit_apply_of (Val := Elt Ideal) (e := .bf16) s _ _ _ _ _ fun a => ?_
  match a with
  | ⟨0, _⟩ => exact (Nat.zero_add _).symm
  | ⟨1, _⟩ => rfl

end Cert.LatentIdeal.Final

end
-- ==== Proof.LatPoint.lean ====
module

public import proofs.«01_k».proof.Proof.LatBlocks

@[expose] public section

set_option maxRecDepth 16384
noncomputable section
open Idealize.ShloMosaic Idealize.ShloMosaic.TcCoe Idealize.SL.Sem
namespace Cert.LatentIdeal.Final
open Cert.LatentIdeal Cert.LatentIdeal.Gen Cert.LatentIdeal.Body Cert.LatentIdeal.Lat Cert.LatSpec
open Cert.LatentReferenceIdeal.Read (qrow krow)
variable (m : (ℓ : Loc nD τ sig) → Buf (Elt Ideal) ℓ)

/-! ## What the scratch holds -/

/-- The scratch holds the rotated keys, the values and the caches of two key groups of one batch row. -/
def Holds (x1 : FVec Ideal S16384x1024 .f32) (x2 x3 : FVec Ideal S2x1x512x8x64 .f32) (b : Fin 2) (w : Fin 4) (s : Scr Ideal) : Prop :=
  (∀ (j : Fin 4096) (l : Fin 128), s.1 (ix2 j l) = rope (krow x1 b j ⟨w.val * 2 + l.val / 64, by omega⟩) j.val (l.val % 64))
  ∧ (∀ (j : Fin 4096) (l : Fin 128), s.2.1 (ix2 j l) = x1 (ix2 ⟨8192 + (b.val * 4096 + j.val), by omega⟩ ⟨512 + (w.val * 128 + l.val), by omega⟩))
  ∧ (∀ (j : Fin 512) (l : Fin 128), s.2.2.1 (ix2 j l) = x2 (ix5 b 0 j ⟨(w.val * 128 + l.val) / 64, by omega⟩ ⟨(w.val * 128 + l.val) % 64, by omega⟩))
  ∧ (∀ (j : Fin 512) (l : Fin 128), s.2.2.2 (ix2 j l) = x3 (ix5 b 0 j ⟨(w.val * 128 + l.val) / 64, by omega⟩ ⟨(w.val * 128 + l.val) % 64, by omega⟩))

theorem values_copy (x : FVec Ideal S4096x128 .f32) (j : Fin 4096) (l : Fin 128) : k0_pay4 (k0_pay3 (F := Ideal) x) (ix2 j l) = x (ix2 j l) := by
  pointwise [k0_pay4, k0_pay3]
theorem cache_copy (x : FVec Ideal S1x512x128 .f32) (j : Fin 512) (l : Fin 128) : k0_pay5 (F := Ideal) x (ix2 j l) = x (ix3 0 j l) := by
  pointwise [k0_pay5]
theorem cache_copy' (x : FVec Ideal S1x512x128 .f32) (j : Fin 512) (l : Fin 128) : k0_pay6 (F := Ideal) x (ix2 j l) = x (ix3 0 j l) := by
  pointwise [k0_pay6]

theorem keys_rope (x1 : FVec Ideal S16384x1024 .f32) (b : Fin 2) (w : Fin 4) (x c s : FVec Ideal S4096x128 .f32)
    (hx : ∀ (j : Fin 4096) (l : Fin 128), x (ix2 j l) = x1 (ix2 ⟨8192 + (b.val * 4096 + j.val), by omega⟩ ⟨w.val * 128 + l.val, by omega⟩))
    (hc : ∀ (j : Fin 4096) (l : Fin 128), c (ix2 j l) = cosAt j.val (l.val % 64)) (hs : ∀ (j : Fin 4096) (l : Fin 128), s (ix2 j l) = signedSin j.val (l.val % 64))
    (j : Fin 4096) (l : Fin 128) : k0_pay2 (F := Ideal) x c s (ix2 j l) = rope (krow x1 b j ⟨w.val * 2 + l.val / 64, by omega⟩) j.val (l.val % 64) := by
  have hl := l.isLt
  rw [keys_at, ← rope_swap, hc, hs, hx, hx, hx]
  unfold krow
  by_cases h : l.val % 32 < 16
  · rw [if_pos h, if_pos (by omega : l.val % 64 % 32 < 16)]
    exact congrArg₂ (· + ·) (congrArg (· * _) (at2 x1 rfl (by dsimp only; omega))) (congrArg (· * _) (at2 x1 rfl (by dsimp only; omega)))
  · rw [if_neg h, if_neg (by omega : ¬l.val % 64 % 32 < 16)]
    exact congrArg₂ (· + ·) (congrArg (· * _) (at2 x1 rfl (by dsimp only; omega))) (congrArg (· * _) (at2 x1 rfl (by dsimp only; omega)))

theorem fresh_keys (c : Dev nD) (t : Fin cfg0.N) (j : Fin 4096) (l : Fin 128) :
    k0_pay2 (F := Ideal) (iblk m c 2 t) (iblk m c 8 t) (iblk m c 9 t) (ix2 j l) = rope (krow (XK m c) (seqOf t) j ⟨t.val / 32 % 4 * 2 + l.val / 64, by omega⟩) j.val (l.val % 64) := by
  have h2 := b2_at m c t
  have h8 := b8_at m c t
  have h9 := b9_at m c t
  generalize (iblk m c 2 t : FVec Ideal S4096x128 .f32) = x at *
  generalize (iblk m c 8 t : FVec Ideal S4096x128 .f32) = y at *
  generalize (iblk m c 9 t : FVec Ideal S4096x128 .f32) = z at *
  exact keys_rope (XK m c) (seqOf t) ⟨t.val / 32 % 4, by omega⟩ x y z h2 h8 h9 j l

theorem fresh_values (c : Dev nD) (t : Fin cfg0.N) (j : Fin 4096) (l : Fin 128) :
    k0_pay4 (k0_pay3 (F := Ideal) (iblk m c 3 t)) (ix2 j l) = XK m c (ix2 ⟨8192 + ((seqOf t).val * 4096 + j.val), by omega⟩ ⟨512 + (t.val / 32 % 4 * 128 + l.val), by omega⟩) := by
  rw [values_copy, b3_at]

theorem fresh_cached (c : Dev nD) (t : Fin cfg0.N) (j : Fin 512) (l : Fin 128) :
    k0_pay5 (F := Ideal) (iblk m c 4 t) (ix2 j l) = CK m c (ix5 (seqOf t) 0 j ⟨(t.val / 32 % 4 * 128 + l.val) / 64, by omega⟩ ⟨(t.val / 32 % 4 * 128 + l.val) % 64, by omega⟩) := by
  rw [cache_copy, b4_at]

theorem fresh_cached' (c : Dev nD) (t : Fin cfg0.N) (j : Fin 512) (l : Fin 128) :
    k0_pay6 (F := Ideal) (iblk m c 5 t) (ix2 j l) = CV m c (ix5 (seqOf t) 0 j ⟨(t.val / 32 % 4 * 128 + l.val) / 64, by omega⟩ ⟨(t.val / 32 % 4 * 128 + l.val) % 64, by omega⟩) := by
  rw [cache_copy', b5_at]

theorem fresh_holds (c : Dev nD) (t : Fin cfg0.N) : Holds (XK m c) (CK m c) (CV m c) (seqOf t) ⟨t.val / 32 % 4, by omega⟩ (fresh m c t) :=
  ⟨fresh_keys m c t, fresh_values m c t, fresh_cached m c t, fresh_cached' m c t⟩

theorem scratch_eq (c : Dev nD) (t : Fin cfg0.N) (h0 : t.val % 32 = 0) : (outsAt0 m c t.val t.isLt).2 = fresh m c t :=
  (congrArg Prod.snd (outsAt0_A m c t h0)).trans (scratchA m c t h0)

theorem scratch_holds (c : Dev nD) : ∀ (n : Nat) (hn : n < cfg0.N), Holds (XK m c) (CK m c) (CV m c) (seqOf ⟨n, hn⟩) ⟨n / 32 % 4, by omega⟩ (outsAt0 m c n hn).2 := by
  intro n
  induction n with
  | zero =>
    intro hn
    exact (congrArg (Holds (XK m c) (CK m c) (CV m c) (seqOf ⟨0, hn⟩) ⟨0 / 32 % 4, by omega⟩) (scratch_eq m c ⟨0, hn⟩ (Nat.zero_mod 32))).mpr (fresh_holds m c ⟨0, hn⟩)
  | succ n ih =>
    intro hn
    by_cases h : (n + 1) % 32 = 0
    · exact (congrArg (Holds (XK m c) (CK m c) (CV m c) (seqOf ⟨n + 1, hn⟩) ⟨(n + 1) / 32 % 4, by omega⟩) (scratch_eq m c ⟨n + 1, hn⟩ h)).mpr (fresh_holds m c ⟨n + 1, hn⟩)
    · have e1 : seqOf ⟨n + 1, hn⟩ = seqOf ⟨n, Nat.lt_of_succ_lt hn⟩ := Fin.ext (by show (n + 1) / 128 = n / 128; omega)
      have e2 : (⟨(n + 1) / 32 % 4, by omega⟩ : Fin 4) = ⟨n / 32 % 4, by omega⟩ := Fin.ext (by show (n + 1) / 32 % 4 = n / 32 % 4; omega)
      rw [e1, e2]
      exact (congrArg (Holds (XK m c) (CK m c) (CV m c) _ _) (congrArg Prod.snd (outsAt0_B m c ⟨n + 1, hn⟩ h))).mpr (ih (Nat.lt_of_succ_lt hn))

/-- What a grid point stores, whichever case it is. -/
theorem stored (c : Dev nD) (t : Fin cfg0.N) :
    ∃ s : Scr Ideal, Holds (XK m c) (CK m c) (CV m c) (seqOf t) ⟨t.val / 32 % 4, by omega⟩ s
      ∧ (outsAt0 m c t.val t.isLt).1 = outBlock (grid0.coords t) (qs m c t) (iblk m c 0 t) s := by
  by_cases h : t.val % 32 = 0
  · exact ⟨_, fresh_holds m c t, by rw [outsAt0_A m c t h, storedA]⟩
  · refine ⟨_, ?_, (congrArg Prod.fst (outsAt0_B m c t h)).trans (storedB m c t h _)⟩
    have e1 : seqOf t = seqOf ⟨t.val - 1, by omega⟩ := Fin.ext (by show t.val / 128 = (t.val - 1) / 128; omega)
    have e2 : (⟨t.val / 32 % 4, by omega⟩ : Fin 4) = ⟨(t.val - 1) / 32 % 4, by omega⟩ := Fin.ext (by show t.val / 32 % 4 = (t.val - 1) / 32 % 4; omega)
    rw [e1, e2]
    exact scratch_holds m c (t.val - 1) _

/-! ## The rotated queries -/

theorem qs_at (c : Dev nD) (t : Fin cfg0.N) (r : Fin 128) (k : Fin 512) (p : Fin 4096) (hp : p.val = 128 * (t.val % 32) + r.val) :
    qs m c t (ix2 r k) = rope (qrow (XQ m c) (seqOf t) p ⟨t.val / 32 % 4 * 8 + k.val / 64, by omega⟩) p.val (k.val % 64) * Ideal.ofBits .f32 0x3E000000#32 := by
  obtain ⟨p, hp'⟩ := p
  obtain rfl : p = 128 * (t.val % 32) + r.val := hp
  have hk := k.isLt
  have e : ∀ (k : Fin 512), (extf .f32 (iblk m c 1 t : FVec Ideal S128x512 .bf16) bitsLt_bf16_f32 : FVec Ideal S128x512 .f32) (ix2 r k) = _ := fun k => b1_at m c t r k
  unfold qs
  rw [queries_at, e, e, e, b6_at, b7_at, ← rope_swap]
  unfold qrow
  have h64 : k.val % 128 % 64 = k.val % 64 := by omega
  dsimp only
  rw [h64]
  congr 1
  by_cases h : k.val % 32 < 16
  · rw [if_pos h, if_pos (by omega : k.val % 64 % 32 < 16)]
    exact congrArg₂ (· + ·) (congrArg (· * _) (at2 (XQ m c) rfl (by omega))) (congrArg (· * _) (at2 (XQ m c) rfl (by omega)))
  · rw [if_neg h, if_neg (by omega : ¬k.val % 64 % 32 < 16)]
    exact congrArg₂ (· + ·) (congrArg (· * _) (at2 (XQ m c) rfl (by omega))) (congrArg (· * _) (at2 (XQ m c) rfl (by omega)))

end Cert.LatentIdeal.Final

end
-- ==== Proof.LatOut.lean ====
module

public import proofs.«01_k».proof.Proof.LatPoint

@[expose] public section

set_option maxRecDepth 16384
noncomputable section
open Idealize.ShloMosaic Idealize.ShloMosaic.TcCoe Idealize.SL.Sem
namespace Cert.LatentIdeal.Final
open Cert.LatentIdeal Cert.LatentIdeal.Gen Cert.LatentIdeal.Body Cert.LatentIdeal.Lat Cert.LatSpec
open Cert.LatentReferenceIdeal.Read (qrow krow Q K C W locals cached sinkOf outOf)

abbrev pair (w : Fin 4) (a : Fin 2) : Fin 8 := ⟨w.val * 2 + a.val, by omega⟩
abbrev posOf (u : Fin 32) (r : Fin 128) : Fin 4096 := ⟨128 * u.val + r.val, by omega⟩
abbrev rowOf (g : Fin 4) (r : Fin 128) : Fin 512 := ⟨g.val * 128 + r.val, by omega⟩

theorem value_cut (v : FVec Ideal S384x128 .bf16) (l : Fin 384) (d : Fin 64) : k0_pay21 (F := Ideal) v (ix2 l d) = v (ix2 l ⟨d.val, by omega⟩) ∧ k0_pay31 (F := Ideal) v (ix2 l d) = v (ix2 l ⟨64 + d.val, by omega⟩) := by
  constructor
  · pointwise [k0_pay21]
  · pointwise [k0_pay31]

theorem outOf_congr (x0 : FVec Ideal S16384x2048 .bf16) (x1 : FVec Ideal S16384x1024 .f32) (x2 x3 : FVec Ideal S2x1x512x8x64 .f32) (x4 : FVec Ideal S32 .f32)
    {b b' : Fin 2} {h h' : Fin 8} {g g' : Fin 4} {p p' : Fin 4096} {d d' : Fin 64} (hb : b = b') (hh : h = h') (hg : g = g') (hp : p = p') (hd : d = d') :
    outOf x0 x1 x2 x3 x4 b h g p d = outOf x0 x1 x2 x3 x4 b' h' g' p' d' := by
  subst hb hh hg hp hd; rfl

section
variable (x0 : FVec Ideal S16384x2048 .bf16) (x1 : FVec Ideal S16384x1024 .f32) (x2 x3 : FVec Ideal S2x1x512x8x64 .f32) (x4 : FVec Ideal S32 .f32)
variable (b : Fin 2) (w : Fin 4) (u : Fin 32) (x : FVec Ideal S128x512 .f32)
variable (hx : ∀ (r : Fin 128) (k : Fin 512) (p : Fin 4096), p.val = 128 * u.val + r.val →
  x (ix2 r k) = rope (qrow x0 b p ⟨w.val * 8 + k.val / 64, by omega⟩) p.val (k.val % 64) * Ideal.ofBits .f32 0x3E000000#32)
variable (i : grid0.Coords) (hw : (i 1).val = w.val) (hu : (i 2).val = u.val)
variable (z : FVec Ideal S32 .f32) (s : Scr Ideal)
variable (hz : ∀ j : Fin 32, z (ix1 j) = x4 (ix1 j)) (hs : Holds x1 x2 x3 b w s)

include hx in
theorem query_of (a : Fin 2) (g : Fin 4) (r : Fin 128) (e : Fin 64) (r' k : Nat) (hr' : r' < 128) (hk' : k < 512) (hr : r' = r.val) (hk : k = a.val * 256 + (g.val * 64 + e.val)) :
    x (ix2 ⟨r', hr'⟩ ⟨k, hk'⟩) = Q x0 b (pair w a) g (posOf u r) e.val * Ideal.ofBits .f32 0x3E000000#32 := by
  subst hr hk
  rw [hx r ⟨_, hk'⟩ (posOf u r) rfl]
  unfold Q
  have e1 : (⟨w.val * 8 + (a.val * 256 + (g.val * 64 + e.val)) / 64, by omega⟩ : Fin 32) = ⟨(pair w a).val * 4 + g.val, by omega⟩ := Fin.ext (by dsimp only; omega)
  have e2 : (a.val * 256 + (g.val * 64 + e.val)) % 64 = e.val := by omega
  rw [e2, e1]

include hs hu in
theorem key_of (a : Fin 2) (l : Fin 384) (e : Fin 64) (k : Nat) (hk' : k < 128) (hk : k = a.val * 64 + e.val) :
    window i s.1 (ix2 l ⟨k, hk'⟩) = K x1 b (pair w a) (start u.val + l.val) e.val := by
  subst hk
  have hl : start u.val + l.val < 4096 := by unfold start; omega
  rw [window_at, hs.1]
  unfold K
  have e1 : (⟨w.val * 2 + (a.val * 64 + e.val) / 64, by omega⟩ : Fin 8) = pair w a := Fin.ext (by dsimp only; omega)
  have e2 : (a.val * 64 + e.val) % 64 = e.val := by omega
  have e3 : (⟨start (i 2).val + l.val, by unfold start; omega⟩ : Fin 4096) = ⟨(start u.val + l.val) % 4096, by omega⟩ := Fin.ext (by dsimp only; rw [hu]; omega)
  dsimp only
  rw [e2, e1]
  exact congrArg₂ (fun y p => rope y p e.val) (congrArg (fun j => krow x1 b j (pair w a)) e3) (congrArg (start · + l.val) hu)

include hs hu in
theorem val_of (a : Fin 2) (l : Fin 384) (d : Fin 64) (k : Nat) (hk' : k < 128) (hk : k = a.val * 64 + d.val) :
    window i s.2.1 (ix2 l ⟨k, hk'⟩) = Cert.LatentReferenceIdeal.Read.V x1 b (pair w a) d (start u.val + l.val) := by
  subst hk
  have hl : start u.val + l.val < 4096 := by unfold start; omega
  rw [window_at, hs.2.1]
  unfold Cert.LatentReferenceIdeal.Read.V
  exact at2 x1 (by dsimp only; rw [hu]; omega) (by dsimp only; omega)

theorem at5 {α : Type} (f : S2x1x512x8x64.Idx → α) {b : Fin 2} {j j' : Fin 512} {h h' : Fin 8} {e e' : Fin 64} (hj : j = j') (hh : h = h') (he : e = e') :
    f (ix5 b 0 j h e) = f (ix5 b 0 j' h' e') := by
  subst hj hh he; rfl

include hs in
theorem ck_of (a : Fin 2) (j : Fin 512) (e : Fin 64) (k : Nat) (hk' : k < 128) (hk : k = a.val * 64 + e.val) :
    s.2.2.1 (ix2 j ⟨k, hk'⟩) = C x2 b (pair w a) j.val e.val := by
  subst hk
  rw [hs.2.2.1]
  unfold C
  exact at5 x2 (Fin.ext (by dsimp only; omega)) (Fin.ext (by dsimp only; omega)) (Fin.ext (by dsimp only; omega))

include hs in
theorem cv_of (a : Fin 2) (j : Fin 512) (d : Fin 64) (k : Nat) (hk' : k < 128) (hk : k = a.val * 64 + d.val) :
    s.2.2.2 (ix2 j ⟨k, hk'⟩) = W x3 b (pair w a) d j.val := by
  subst hk
  rw [hs.2.2.2]
  unfold W
  exact at5 x3 (Fin.ext (by dsimp only; omega)) (Fin.ext (by dsimp only; omega)) (Fin.ext (by dsimp only; omega))

include hu in
theorem seen_of (n : Fin 512) (l : Fin 384) : seen i (ix2 n l) = if near (128 * u.val + n.val % 128) (start u.val + l.val) then 1#1 else 0#1 := by
  unfold seen
  rw [hu]
  exact seen_at u n l

/-- A masked sum of products is the masked score. -/
theorem masked_of (S : Nat → EReal) (p p' j : Nat) (y : EReal) (hp : p' = p) (hy : y = S j) :
    Scalar.select (if near p' j then 1#1 else 0#1) y (Ideal.ofBits .f32 0xFF800000#32) = masked S p j := by
  subst hp hy
  rw [pick, neg_inf]
  rfl

include hs hu hx in
theorem local0 (g : Fin 4) (r : Fin 128) (l : Fin 384) :
    k0_pay18 (F := Ideal) x (window i s.1) (seen i) (sl0 x) (sl1 x) (ix2 (rowOf g r) l) = masked (locals x0 x1 b (pair w 0) g (posOf u r)) (posOf u r).val (start u.val + l.val) := by
  rw [scores0_at, seen_of u i hu]
  refine masked_of _ _ _ _ _ (by first | omega | (dsimp only <;> omega)) ?_
  unfold locals
  rw [← score_scaled]
  refine Finset.sum_congr rfl fun e _ => ?_
  rw [query_of x0 b w u x hx 0 g r e _ _ _ _ (by first | omega | (dsimp only <;> omega)) (by first | omega | (dsimp only <;> omega)), key_of x1 x2 x3 b w u i hu s hs 0 l e _ _ (by first | omega | (dsimp only <;> omega))]

include hs hu hx in
theorem local1 (g : Fin 4) (r : Fin 128) (l : Fin 384) :
    k0_pay28 (F := Ideal) x (window i s.1) (seen i) (ix2 (rowOf g r) l) = masked (locals x0 x1 b (pair w 1) g (posOf u r)) (posOf u r).val (start u.val + l.val) := by
  rw [scores1_at, seen_of u i hu]
  refine masked_of _ _ _ _ _ (by first | omega | (dsimp only <;> omega)) ?_
  unfold locals
  rw [← score_scaled]
  refine Finset.sum_congr rfl fun e _ => ?_
  rw [query_of x0 b w u x hx 1 g r e _ _ _ _ (by first | omega | (dsimp only <;> omega)) (by first | omega | (dsimp only <;> omega)), key_of x1 x2 x3 b w u i hu s hs 1 l e _ _ (by first | omega | (dsimp only <;> omega))]

include hs hx in
theorem cache0 (g : Fin 4) (r : Fin 128) (j : Fin 512) :
    k0_pay19 (F := Ideal) x (sl0 x) (sl1 x) (left s.2.2.1) (ix2 (rowOf g r) j) = cached x0 x2 b (pair w 0) g (posOf u r) j.val := by
  rw [cached0_at]
  unfold cached
  rw [← score_scaled]
  refine Finset.sum_congr rfl fun e _ => ?_
  rw [query_of x0 b w u x hx 0 g r e _ _ _ _ (by first | omega | (dsimp only <;> omega)) (by first | omega | (dsimp only <;> omega)), left_at, ck_of x1 x2 x3 b w s hs 0 j e _ _ (by first | omega | (dsimp only <;> omega))]

include hs hx in
theorem cache1 (g : Fin 4) (r : Fin 128) (j : Fin 512) :
    k0_pay29 (F := Ideal) x (right s.2.2.1) (ix2 (rowOf g r) j) = cached x0 x2 b (pair w 1) g (posOf u r) j.val := by
  rw [cached1_at]
  unfold cached
  rw [← score_scaled]
  refine Finset.sum_congr rfl fun e _ => ?_
  rw [query_of x0 b w u x hx 1 g r e _ _ _ _ (by first | omega | (dsimp only <;> omega)) (by first | omega | (dsimp only <;> omega)), right_at, ck_of x1 x2 x3 b w s hs 1 j e _ _ (by first | omega | (dsimp only <;> omega))]

include hw hz in
theorem sink0 (g : Fin 4) (r : Fin 128) :
    k0_pay20 (F := Ideal) (swAt z (k0_off2 i 0#32) (k0_off2_inb i 0)) (swAt z (k0_off3 i 0#32 2#32) (k0_off3_inb i 0 2)) (swAt z (k0_off3 i 0#32 1#32) (k0_off3_inb i 0 1)) (swAt z (k0_off3 i 0#32 0#32) (k0_off3_inb i 0 0)) (ix2 (rowOf g r) 0)
      = sinkOf x4 (pair w 0) g := by
  rw [sinks_at, swAt_at z _ _ _ (by omega) (off2_eq i).1, swAt_at z _ _ _ (by omega) (off3_eq i).1, swAt_at z _ _ _ (by omega) (off3_eq i).2.1, swAt_at z _ _ _ (by omega) (off3_eq i).2.2.1, hz, hz, hz, hz]
  unfold sinkOf
  split_ifs
  all_goals
    refine congrArg x4 (congrArg ix1 (Fin.ext ?_))
    dsimp only at *
    rw [hw]
    simp only [Fin.val_zero]
    omega

include hw hz in
theorem sink1 (g : Fin 4) (r : Fin 128) :
    k0_pay20 (F := Ideal) (swAt z (k0_off2 i 1#32) (k0_off2_inb i 1)) (swAt z (k0_off3 i 1#32 2#32) (k0_off3_inb i 1 2)) (swAt z (k0_off3 i 1#32 1#32) (k0_off3_inb i 1 1)) (swAt z (k0_off3 i 1#32 0#32) (k0_off3_inb i 1 0)) (ix2 (rowOf g r) 0)
      = sinkOf x4 (pair w 1) g := by
  rw [sinks_at, swAt_at z _ _ _ (by omega) (off2_eq i).2, swAt_at z _ _ _ (by omega) (off3_eq i).2.2.2.1, swAt_at z _ _ _ (by omega) (off3_eq i).2.2.2.2.1, swAt_at z _ _ _ (by omega) (off3_eq i).2.2.2.2.2, hz, hz, hz, hz]
  unfold sinkOf
  split_ifs
  all_goals
    refine congrArg x4 (congrArg ix1 (Fin.ext ?_))
    dsimp only at *
    rw [hw]
    simp only [Fin.val_one]
    omega

variable (h0 : ∀ i, Real' (x0 i)) (h1 : ∀ i, Real' (x1 i)) (h2 : ∀ i, Real' (x2 i)) (h4 : ∀ i, Real' (x4 i))

include h0 h1 in
theorem locals_real (h : Fin 8) (g : Fin 4) (p : Fin 4096) (j : Nat) : Real' (locals x0 x1 b h g p j) :=
  score_real _ _ (rope_real _ (fun _ => h0 _) _) (rope_real _ (fun _ => h1 _) _)
include h0 h2 in
theorem cached_real (h : Fin 8) (g : Fin 4) (p : Fin 4096) (j : Nat) : Real' (cached x0 x2 b h g p j) :=
  score_real _ _ (rope_real _ (fun _ => h0 _) _) (fun _ => h2 _)

include hw hu hz hs hx h0 h1 h2 h4 in
theorem out_at (r : Fin 128) (j : Fin 512) :
    outBlock i x z s (ix2 r j) = outOf x0 x1 x2 x3 x4 b ⟨w.val * 2 + j.val / 256, by omega⟩ ⟨j.val / 64 % 4, by omega⟩ (posOf u r) ⟨j.val % 64, by omega⟩ := by
  unfold outBlock
  rw [beside_at]
  split
  · rename_i hj
    refine (head _ _ _ _ _ (rowOf ⟨j.val / 64 % 4, by omega⟩ r) ⟨j.val % 64, by omega⟩ u.val r.val (posOf u r).val u.isLt r.isLt rfl
      (sinkOf x4 (pair w 0) ⟨j.val / 64 % 4, by omega⟩) (locals x0 x1 b (pair w 0) ⟨j.val / 64 % 4, by omega⟩ (posOf u r)) (cached x0 x2 b (pair w 0) ⟨j.val / 64 % 4, by omega⟩ (posOf u r))
      (Cert.LatentReferenceIdeal.Read.V x1 b (pair w 0) ⟨j.val % 64, by omega⟩) (W x3 b (pair w 0) ⟨j.val % 64, by omega⟩)
      (h4 _) (locals_real x0 x1 b h0 h1 _ _ _) (cached_real x0 x2 b h0 h2 _ _ _)
      (fun l => local0 x0 x1 x2 x3 b w u x hx i hu s hs _ r l) (fun k => cache0 x0 x1 x2 x3 b w u x hx s hs _ r k) (sink0 x4 w i hw z hz _ r)
      (fun l => ((value_cut _ l _).1).trans (val_of x1 x2 x3 b w u i hu s hs 0 l _ _ _ (by simp only [Fin.val_zero] <;> omega)))
      (fun k => (left_at _ k _).trans (cv_of x1 x2 x3 b w s hs 0 k _ _ _ (by simp only [Fin.val_zero] <;> omega)))).trans ?_
    have e : pair w 0 = ⟨w.val * 2 + j.val / 256, by omega⟩ := Fin.ext (by show w.val * 2 + 0 = w.val * 2 + j.val / 256; omega)
    rw [e]
  · rename_i hj
    refine (head _ _ _ _ _ (rowOf ⟨j.val / 64 % 4, by omega⟩ r) ⟨j.val % 64, by omega⟩ u.val r.val (posOf u r).val u.isLt r.isLt rfl
      (sinkOf x4 (pair w 1) ⟨j.val / 64 % 4, by omega⟩) (locals x0 x1 b (pair w 1) ⟨j.val / 64 % 4, by omega⟩ (posOf u r)) (cached x0 x2 b (pair w 1) ⟨j.val / 64 % 4, by omega⟩ (posOf u r))
      (Cert.LatentReferenceIdeal.Read.V x1 b (pair w 1) ⟨j.val % 64, by omega⟩) (W x3 b (pair w 1) ⟨j.val % 64, by omega⟩)
      (h4 _) (locals_real x0 x1 b h0 h1 _ _ _) (cached_real x0 x2 b h0 h2 _ _ _)
      (fun l => local1 x0 x1 x2 x3 b w u x hx i hu s hs _ r l) (fun k => cache1 x0 x1 x2 x3 b w u x hx s hs _ r k) (sink1 x4 w i hw z hz _ r)
      (fun l => ((value_cut _ l _).2).trans (val_of x1 x2 x3 b w u i hu s hs 1 l _ _ _ (by simp only [Fin.val_one] <;> omega)))
      (fun k => (right_at _ k _).trans (cv_of x1 x2 x3 b w s hs 1 k _ _ _ (by simp only [Fin.val_one] <;> omega)))).trans ?_
    have e : pair w 1 = ⟨w.val * 2 + j.val / 256, by omega⟩ := Fin.ext (by show w.val * 2 + 1 = w.val * 2 + j.val / 256; omega)
    rw [e]

end

variable (m : (ℓ : Loc nD τ sig) → Buf (Elt Ideal) ℓ)

/-- What a grid point stores, at one row and column of its block. -/
theorem block_at (c : Dev nD) (h0 : ∀ i, Real' (XQ m c i)) (h1 : ∀ i, Real' (XK m c i)) (h2 : ∀ i, Real' (CK m c i)) (h4 : ∀ i, Real' (SK m c i))
    (t : Fin cfg0.N) (r : Fin 128) (j : Fin 512) :
    (outsAt0 m c t.val t.isLt).1 (ix2 r j)
      = outOf (XQ m c) (XK m c) (CK m c) (CV m c) (SK m c) (seqOf t) ⟨t.val / 32 % 4 * 2 + j.val / 256, by omega⟩ ⟨j.val / 64 % 4, by omega⟩ ⟨128 * (t.val % 32) + r.val, by omega⟩ ⟨j.val % 64, by omega⟩ := by
  obtain ⟨s, hs, e⟩ := stored m c t
  rw [e]
  exact out_at (XQ m c) (XK m c) (CK m c) (CV m c) (SK m c) (seqOf t) ⟨t.val / 32 % 4, by omega⟩ ⟨t.val % 32, by omega⟩ (qs m c t) (fun r k p hp => qs_at m c t r k p hp) (grid0.coords t)
    (idx t).2.2.2.2.2.2.2.2.2.2.2.1 (idx t).2.2.2.2.2.2.2.2.2.2.2.2.1 (iblk m c 0 t) s (b0_at m c t) hs h0 h1 h2 h4 r j

theorem place (t : Fin cfg0.N) (r : Fin 128) (j : Fin 512) :
    (show S16384x2048.Idx from ((cfg0.win 10).blk t).view.emb (ix2 r j))
      = ix2 ⟨8192 + ((seqOf t).val * 4096 + (128 * (t.val % 32) + r.val)), by omega⟩ ⟨t.val / 32 % 4 * 512 + j.val, by omega⟩ := by
  blk_ext! [idx t]

open Cert.LatentReferenceIdeal.Read (val_main_v172 result_at)

theorem point (c : Dev nD) (h0 : ∀ i, Real' (XQ m c i)) (h1 : ∀ i, Real' (XK m c i)) (h2 : ∀ i, Real' (CK m c i)) (h4 : ∀ i, Real' (SK m c i))
    (x5 : FVec Ideal S16384x2048 .bf16) (t : Fin cfg0.N) (y : S128x512.Idx) :
    (outsAt0 m c t.val t.isLt).1 y = val_main_v172 (F := Ideal) (XQ m c) (XK m c) (CK m c) (CV m c) (SK m c) x5 (((cfg0.win 10).blk t).view.emb y) := by
  idx_vars y
  refine (block_at m c h0 h1 h2 h4 t _ _).trans ?_
  refine Eq.trans ?_ (congrArg (val_main_v172 (F := Ideal) (XQ m c) (XK m c) (CK m c) (CV m c) (SK m c) x5) (place t _ _)).symm
  rw [result_at, if_neg (by dsimp only; omega)]
  have hb := (seqOf t).isLt
  exact outOf_congr _ _ _ _ _ (Fin.ext (by dsimp only; omega)) (Fin.ext (by dsimp only; omega)) (Fin.ext (by dsimp only; omega)) (Fin.ext (by dsimp only; omega)) (Fin.ext (by dsimp only; omega))

/-- The result array after the run: attention in the latent rows, the aliased array's own rows above. -/
theorem final (c : Dev nD) (h0 : ∀ i, Real' (XQ m c i)) (h1 : ∀ i, Real' (XK m c i)) (h2 : ∀ i, Real' (CK m c i)) (h4 : ∀ i, Real' (SK m c i)) :
    (dats m 0 c).arrAt 10 (cfgs 0).N
      = val_main_v172 (F := Ideal) (XQ m c) (XK m c) (CK m c) (CV m c) (SK m c) (m ((c : Thread nD τ).loc main_arg5)) := by
  have key : (dats m 0 c).arrAt 10 (cfgs 0).N
      = fun i => if 8192 ≤ (i 0).val then val_main_v172 (F := Ideal) (XQ m c) (XK m c) (CK m c) (CV m c) (SK m c) (m ((c : Thread nD τ).loc main_arg5)) i
          else V m c main_v46 i := by
    refine (dats m 0 c).arrAt_eq_of_coversWhere 10 _ (fun β => 64 ≤ β 0) (by decide +kernel) (fun t hf y => ?_)
      (fun j => by blk_simp [Pipeline.Window.cell_apply]; omega)
    blk_simp
    rw [after0_10]
    exact point m c h0 h1 h2 h4 _ t y
  rw [key, Table.V_out]
  funext i
  split
  · rfl
  · rename_i hi
    idx_vars i
    refine ((result_at (XQ m c) (XK m c) (CK m c) (CV m c) (SK m c) _ _ _).trans (if_pos (by change ¬(8192 ≤ (Fin.val _)) at hi; exact Nat.lt_of_not_le hi))).symm

end Cert.LatentIdeal.Final

end
-- ==== Proof.LatClaim.lean ====
module

public import proofs.«01_k».proof.Defs
public import proofs.«01_k».proof.Proof.CtxClaim
public import proofs.«01_k».proof.Proof.LatOut
public import proofs.«01_k».proof.Proof.LatFrame
public import proofs.«01_k».proof.Proof.LatIdealFrame
public import proofs.«01_k».proof.Proof.Gen.LatentReferenceIdeal.Run
public import proofs.«01_k».proof.Proof.Gen.Pre_finite_lat
public import Idealize.ShloMosaic.Lib.Claim
public import Idealize.ShloMosaic.Lib.ReduceAll

@[expose] public section

set_option maxRecDepth 16384
noncomputable section
open Idealize.ShloMosaic Idealize.ShloMosaic.TcCoe Idealize.SL.Sem
namespace Cert.LatentClaim
open Cert.CtxClaim (and_one real_of_abs)
open Cert.LatSpec (Real')

open Cert.Pre_finite_lat in
/-- What the precondition says of the four float arrays the scores are made of. -/
theorem finite (x0 : FVec Ideal S16384x2048 .bf16) (x1 : FVec Ideal S16384x1024 .f32) (x2 x3 : FVec Ideal S2x1x512x8x64 .f32) (x4 : FVec Ideal S32 .f32) (x5 : FVec Ideal S16384x2048 .bf16)
    (h : Cert.Pre_finite_lat.fn (F := Ideal) x0 x1 x2 x3 x4 x5 = fun _ => 1#1) :
    (∀ i, Real' (x0 i)) ∧ (∀ i, Real' (x1 i)) ∧ (∀ i, Real' (x2 i)) ∧ (∀ i, Real' (x4 i)) := by
  have : Subsingleton S_.Idx := ⟨fun a b => funext fun i => i.elim0⟩
  have e := congrFun h ix0
  obtain ⟨e012, e3⟩ := and_one _ _ e
  obtain ⟨e01, e2⟩ := and_one _ _ e012
  obtain ⟨e0, e1⟩ := and_one _ _ e01
  refine ⟨fun i => ?_, fun i => ?_, fun i => ?_, fun i => ?_⟩
  · exact real_of_abs _ (Host.reduce_andi_all _ _ _ _ _ e0 i)
  · exact real_of_abs _ (Host.reduce_andi_all _ _ _ _ _ e1 i)
  · exact real_of_abs _ (Host.reduce_andi_all _ _ _ _ _ e2 i)
  · exact real_of_abs _ (Host.reduce_andi_all _ _ _ _ _ e3 i)

/-- Equal arguments give equal results, for six arguments. -/
theorem congr_six {A B C D E G R : Type} (f : A → B → C → D → E → G → R) {a a' : A} {b b' : B} {c c' : C} {d d' : D} {e e' : E} {g g' : G}
    (ha : a = a') (hb : b = b') (hc : c = c') (hd : d = d') (he : e = e') (hg : g = g') : f a b c d e g = f a' b' c' d' e' g' := by
  subst ha hb hc hd he hg; rfl

theorem algebraic : Cert.algebraic_LatentIdeal_LatentReferenceIdeal_pre_finite_lat := by
  pair_intro
  · run_from Cert.LatentIdeal.Lat.run_main m g
  · run_from Cert.LatentReferenceIdeal.Value.run m' g'
    obtain ⟨a0, a1, a2, a3, a4, a5⟩ := hagree c
    obtain ⟨f0, f1, f2, f4⟩ := finite _ _ _ _ _ _ (hpre c)
    refine (Cert.LatentReferenceIdeal.Read.val_main_v172_eq (F := Ideal) (StableHlo.launchContents m' c)).trans ?_
    refine (congr_six (Cert.LatentReferenceIdeal.Read.val_main_v172 (F := Ideal)) a0 a1 a2 a3 a4 a5).trans ?_
    exact (Cert.LatentIdeal.Final.final m c f0 f1 f2 f4).symm

theorem frame_kernel : Cert.quiescent_Latent := fun m g _ => Cert.Latent.Lat.frame m g
theorem frame_ideal : Cert.quiescent_LatentIdeal := fun m g _ => Cert.LatentIdeal.Lat.frame m g
theorem frame_ideal_pre : Cert.quiescent_LatentIdeal_pre_finite_lat := fun m g _ => Cert.LatentIdeal.Lat.frame m g
theorem frame_reference : Cert.quiescent_LatentReferenceIdeal := by
  intro m g _
  exact (θ_run Cert.LatentReferenceIdeal.defs _ _).mono (fun r h => ⟨fun c => (h c).2, sem_eq_zero_of_no_sems (by decide) r.2⟩)
    (Cert.LatentReferenceIdeal.Value.run m g)
theorem frame_reference_pre : Cert.quiescent_LatentReferenceIdeal_pre_finite_lat := fun m g _ => frame_reference m g trivial

theorem preserves : Cert.preserves_Latent_LatentIdeal := trivial

end Cert.LatentClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Flash
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Flash
public import proofs.«01_k».proof.Proof.Gen.FfnReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjReferenceIdeal
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjReferenceIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjReferenceIdeal
public import proofs.«01_k».proof.Proof.Gen.Pre_finite_ctx
public import proofs.«01_k».proof.Proof.Gen.Pre_planned
public import proofs.«01_k».proof.Proof.Gen.InProjIdeal.Value
public import proofs.«01_k».proof.Proof.Gen.QProjIdeal.Value
public import proofs.«01_k».proof.Proof.Gen.AttnOutIdeal.Value
public import proofs.«01_k».proof.Proof.Gen.InProjReferenceIdeal.Run
public import proofs.«01_k».proof.Proof.Gen.InProjReferenceIdeal.Read
public import proofs.«01_k».proof.Proof.Gen.KvProjReferenceIdeal.Run
public import proofs.«01_k».proof.Proof.Gen.KvProjReferenceIdeal.Read
public import proofs.«01_k».proof.Proof.Gen.QProjReferenceIdeal.Run
public import proofs.«01_k».proof.Proof.Gen.QProjReferenceIdeal.Read
public import proofs.«01_k».proof.Proof.Gen.NormReferenceIdeal.Run
public import proofs.«01_k».proof.Proof.Gen.NormReferenceIdeal.Read
public import proofs.«01_k».proof.Proof.Gen.AttnOutReferenceIdeal.Run
public import proofs.«01_k».proof.Proof.Gen.AttnOutReferenceIdeal.Read
public import proofs.«01_k».proof.Proof.Gen.OutProjReferenceIdeal.Run
public import proofs.«01_k».proof.Proof.Gen.OutProjReferenceIdeal.Read
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Gen.KernelIdeal.Value
public import proofs.«01_k».proof.Proof.CtxClaim
public import proofs.«01_k».proof.Proof.FfnClaim
public import proofs.«01_k».proof.Proof.InClaim
public import proofs.«01_k».proof.Proof.KvClaim
public import proofs.«01_k».proof.Proof.QClaim
public import proofs.«01_k».proof.Proof.NormClaim
public import proofs.«01_k».proof.Proof.AoClaim
public import proofs.«01_k».proof.Proof.OutClaim
public import Idealize.ShloMosaic.Adequacy
public import Idealize.ShloMosaic.Init
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentReferenceIdeal
public import proofs.«01_k».proof.Proof.Gen.Pre_finite_lat
public import proofs.«01_k».proof.Proof.Gen.LatentReferenceIdeal.Run
public import proofs.«01_k».proof.Proof.Gen.LatentReferenceIdeal.Read
public import proofs.«01_k».proof.Proof.LatClaim

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Ffn.Gen.facts, Cert.FfnIdeal.Gen.facts,
  Cert.FfnReferenceIdeal.Gen.facts, Cert.InProj.Gen.facts, Cert.InProjIdeal.Gen.facts, Cert.InProjReferenceIdeal.Gen.facts,
  Cert.KvProj.Gen.facts, Cert.KvProjIdeal.Gen.facts, Cert.KvProjReferenceIdeal.Gen.facts, Cert.QProj.Gen.facts,
  Cert.QProjIdeal.Gen.facts, Cert.QProjReferenceIdeal.Gen.facts, Cert.Norm.Gen.facts, Cert.NormIdeal.Gen.facts,
  Cert.NormReferenceIdeal.Gen.facts, Cert.AttnOut.Gen.facts, Cert.AttnOutIdeal.Gen.facts, Cert.AttnOutReferenceIdeal.Gen.facts,
  Cert.OutProj.Gen.facts, Cert.OutProjIdeal.Gen.facts, Cert.OutProjReferenceIdeal.Gen.facts,
  Cert.Latent.Gen.facts, Cert.LatentIdeal.Gen.facts, Cert.LatentReferenceIdeal.Gen.facts, Cert.Pre_finite_ctx.Gen.facts,
  Cert.Pre_planned.Gen.facts, Cert.Pre_finite_lat.Gen.facts, Cert.CtxClaim.frame_kernel, Cert.CtxClaim.frame_ideal, Cert.CtxClaim.frame_ideal_pre,
  Cert.CtxClaim.frame_reference, Cert.CtxClaim.frame_reference_pre, Cert.FfnClaim.frame_kernel, Cert.FfnClaim.frame_ideal,
  Cert.FfnClaim.frame_reference, Cert.FfnClaim.frame_reference_pre, Cert.InProjClaim.frame_kernel, Cert.InProjClaim.frame_ideal,
  Cert.InProjClaim.frame_reference, Cert.KvProjClaim.frame_kernel, Cert.KvProjClaim.frame_ideal,
  Cert.KvProjClaim.frame_reference, Cert.QProjClaim.frame_kernel, Cert.QProjClaim.frame_ideal, Cert.QProjClaim.frame_reference,
  Cert.NormClaim.frame_kernel, Cert.NormClaim.frame_ideal, Cert.NormClaim.frame_reference, Cert.AttnOutClaim.frame_kernel,
  Cert.AttnOutClaim.frame_ideal, Cert.AttnOutClaim.frame_reference, Cert.OutProjClaim.frame_kernel,
  Cert.OutProjClaim.frame_ideal, Cert.OutProjClaim.frame_reference, Cert.LatentClaim.frame_kernel,
  Cert.LatentClaim.frame_ideal, Cert.LatentClaim.frame_ideal_pre, Cert.LatentClaim.frame_reference,
  Cert.LatentClaim.frame_reference_pre, Cert.CtxClaim.preserves, Cert.CtxClaim.algebraic,
  Cert.FfnClaim.preserves, Cert.FfnClaim.algebraic, Cert.InProjClaim.preserves, Cert.InProjClaim.algebraic,
  Cert.KvProjClaim.preserves, Cert.KvProjClaim.algebraic, Cert.QProjClaim.preserves, Cert.QProjClaim.algebraic,
  Cert.NormClaim.preserves, Cert.NormClaim.algebraic, Cert.AttnOutClaim.preserves, Cert.AttnOutClaim.algebraic,
  Cert.OutProjClaim.preserves, Cert.OutProjClaim.algebraic, Cert.LatentClaim.preserves, Cert.LatentClaim.algebraic⟩

end Cert.Proof

end
